-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Experts [hPre_tables : Cert.Pre_tables.Facts] (m : (ℓ : Loc Cert.Experts.nD Cert.Experts.τ Cert.Experts.sig) → Buf (Elt Bits) ℓ) : Prop :=
  ∀ c : Dev Cert.Experts.nD,
    (Cert.Pre_tables.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4)) (m ((c.tc : Thread Cert.Experts.nD Cert.Experts.τ).loc Cert.Experts.main_arg5)) (m ((c.tc : Thread Cert.Experts.nD Cert.Experts.τ).loc Cert.Experts.main_arg6))) = (fun _ => 1#1)

def Pre_ExpertsIdeal [hPre_tables : Cert.Pre_tables.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tables.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4)) (m ((c.tc : Thread Cert.ExpertsIdeal.nD Cert.ExpertsIdeal.τ).loc Cert.ExpertsIdeal.main_arg5)) (m ((c.tc : Thread Cert.ExpertsIdeal.nD Cert.ExpertsIdeal.τ).loc Cert.ExpertsIdeal.main_arg6))) = (fun _ => 1#1)

def Pre_ExpertsRefIdeal [hPre_tables : Cert.Pre_tables.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tables.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4)) (m ((c.tc : Thread Cert.ExpertsRefIdeal.nD Cert.ExpertsRefIdeal.τ).loc Cert.ExpertsRefIdeal.main_arg5)) (m ((c.tc : Thread Cert.ExpertsRefIdeal.nD Cert.ExpertsRefIdeal.τ).loc Cert.ExpertsRefIdeal.main_arg6))) = (fun _ => 1#1)

def Pre_Combine [hPre_positions : Cert.Pre_positions.Facts] (m : (ℓ : Loc Cert.Combine.nD Cert.Combine.τ Cert.Combine.sig) → Buf (Elt Bits) ℓ) : Prop :=
  ∀ c : Dev Cert.Combine.nD,
    (Cert.Pre_positions.fn (F := Bits) (m ((c.tc : Thread Cert.Combine.nD Cert.Combine.τ).loc Cert.Combine.main_arg0)) (m ((c.tc : Thread Cert.Combine.nD Cert.Combine.τ).loc Cert.Combine.main_arg1)) (m ((c.tc : Thread Cert.Combine.nD Cert.Combine.τ).loc Cert.Combine.main_arg2)) (m ((c.tc : Thread Cert.Combine.nD Cert.Combine.τ).loc Cert.Combine.main_arg3)) (m ((c.tc : Thread Cert.Combine.nD Cert.Combine.τ).loc Cert.Combine.main_arg4)) (m ((c.tc : Thread Cert.Combine.nD Cert.Combine.τ).loc Cert.Combine.main_arg5)) (m ((c.tc : Thread Cert.Combine.nD Cert.Combine.τ).loc Cert.Combine.main_arg6))) = (fun _ => 1#1)

def Pre_CombineIdeal [hPre_positions : Cert.Pre_positions.Facts] (m : (ℓ : Loc Cert.CombineIdeal.nD Cert.CombineIdeal.τ Cert.CombineIdeal.sig) → Buf (Elt Ideal) ℓ) : Prop :=
  ∀ c : Dev Cert.CombineIdeal.nD,
    (Cert.Pre_positions.fn (F := Ideal) (m ((c.tc : Thread Cert.CombineIdeal.nD Cert.CombineIdeal.τ).loc Cert.CombineIdeal.main_arg0)) (m ((c.tc : Thread Cert.CombineIdeal.nD Cert.CombineIdeal.τ).loc Cert.CombineIdeal.main_arg1)) (m ((c.tc : Thread Cert.CombineIdeal.nD Cert.CombineIdeal.τ).loc Cert.CombineIdeal.main_arg2)) (m ((c.tc : Thread Cert.CombineIdeal.nD Cert.CombineIdeal.τ).loc Cert.CombineIdeal.main_arg3)) (m ((c.tc : Thread Cert.CombineIdeal.nD Cert.CombineIdeal.τ).loc Cert.CombineIdeal.main_arg4)) (m ((c.tc : Thread Cert.CombineIdeal.nD Cert.CombineIdeal.τ).loc Cert.CombineIdeal.main_arg5)) (m ((c.tc : Thread Cert.CombineIdeal.nD Cert.CombineIdeal.τ).loc Cert.CombineIdeal.main_arg6))) = (fun _ => 1#1)

def Pre_CombineRefIdeal [hPre_positions : Cert.Pre_positions.Facts] (m : (ℓ : Loc Cert.CombineRefIdeal.nD Cert.CombineRefIdeal.τ Cert.CombineRefIdeal.sig) → Buf (Elt Ideal) ℓ) : Prop :=
  ∀ c : Dev Cert.CombineRefIdeal.nD,
    (Cert.Pre_positions.fn (F := Ideal) (m ((c.tc : Thread Cert.CombineRefIdeal.nD Cert.CombineRefIdeal.τ).loc Cert.CombineRefIdeal.main_arg0)) (m ((c.tc : Thread Cert.CombineRefIdeal.nD Cert.CombineRefIdeal.τ).loc Cert.CombineRefIdeal.main_arg1)) (m ((c.tc : Thread Cert.CombineRefIdeal.nD Cert.CombineRefIdeal.τ).loc Cert.CombineRefIdeal.main_arg2)) (m ((c.tc : Thread Cert.CombineRefIdeal.nD Cert.CombineRefIdeal.τ).loc Cert.CombineRefIdeal.main_arg3)) (m ((c.tc : Thread Cert.CombineRefIdeal.nD Cert.CombineRefIdeal.τ).loc Cert.CombineRefIdeal.main_arg4)) (m ((c.tc : Thread Cert.CombineRefIdeal.nD Cert.CombineRefIdeal.τ).loc Cert.CombineRefIdeal.main_arg5)) (m ((c.tc : Thread Cert.CombineRefIdeal.nD Cert.CombineRefIdeal.τ).loc Cert.CombineRefIdeal.main_arg6))) = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_LnMod (m : (ℓ : Loc Cert.LnMod.nD Cert.LnMod.τ Cert.LnMod.sig) → Buf (Elt Bits) ℓ) : Prop :=
  True

def Pre_LnModIdeal (m : (ℓ : Loc Cert.LnModIdeal.nD Cert.LnModIdeal.τ Cert.LnModIdeal.sig) → Buf (Elt Ideal) ℓ) : Prop :=
  True

def Pre_LnModRefIdeal (m : (ℓ : Loc Cert.LnModRefIdeal.nD Cert.LnModRefIdeal.τ Cert.LnModRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_Experts [hExperts : Cert.Experts.Facts] [hPre_tables : Cert.Pre_tables.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5)
      ∧ r.2.mem ((c.tc : Thread Cert.Experts.nD Cert.Experts.τ).loc Cert.Experts.main_arg6) = m ((c.tc : Thread Cert.Experts.nD Cert.Experts.τ).loc Cert.Experts.main_arg6))
      ∧ r.2.sem = fun _ => 0)

def quiescent_ExpertsIdeal [hExpertsIdeal : Cert.ExpertsIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
      ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ r.2.sem = fun _ => 0)

def quiescent_ExpertsRefIdeal [hExpertsRefIdeal : Cert.ExpertsRefIdeal.Facts] [hPre_tables : Cert.Pre_tables.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4)
      ∧ r.2.mem ((c.tc : Thread Cert.ExpertsRefIdeal.nD Cert.ExpertsRefIdeal.τ).loc Cert.ExpertsRefIdeal.main_arg5) = m ((c.tc : Thread Cert.ExpertsRefIdeal.nD Cert.ExpertsRefIdeal.τ).loc Cert.ExpertsRefIdeal.main_arg5)
      ∧ r.2.mem ((c.tc : Thread Cert.ExpertsRefIdeal.nD Cert.ExpertsRefIdeal.τ).loc Cert.ExpertsRefIdeal.main_arg6) = m ((c.tc : Thread Cert.ExpertsRefIdeal.nD Cert.ExpertsRefIdeal.τ).loc Cert.ExpertsRefIdeal.main_arg6))
      ∧ r.2.sem = fun _ => 0)

def quiescent_Combine [hCombine : Cert.Combine.Facts] [hPre_positions : Cert.Pre_positions.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6))
      ∧ r.2.sem = fun _ => 0)

def quiescent_CombineIdeal [hCombineIdeal : Cert.CombineIdeal.Facts] [hPre_positions : Cert.Pre_positions.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ r.2.sem = fun _ => 0)

def quiescent_CombineRefIdeal [hCombineRefIdeal : Cert.CombineRefIdeal.Facts] [hPre_positions : Cert.Pre_positions.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_LnMod [hLnMod : Cert.LnMod.Facts] : Prop :=
  ∀ (m : (ℓ : Loc Cert.LnMod.nD Cert.LnMod.τ Cert.LnMod.sig) → Buf (Elt Bits) ℓ) (g : Dev Cert.LnMod.nD → PrngReg), Pre_LnMod m →
    θ_run (Cert.LnMod.defs (F := Bits)) (onTc (τ := Cert.LnMod.τ) (Cert.LnMod.main (F := Bits))) ⟨m, fun _ => 0, g⟩ (fun r => (∀ c : Dev Cert.LnMod.nD,
      r.2.mem ((c.tc : Thread Cert.LnMod.nD Cert.LnMod.τ).loc Cert.LnMod.main_arg0) = m ((c.tc : Thread Cert.LnMod.nD Cert.LnMod.τ).loc Cert.LnMod.main_arg0)
      ∧ r.2.mem ((c.tc : Thread Cert.LnMod.nD Cert.LnMod.τ).loc Cert.LnMod.main_arg1) = m ((c.tc : Thread Cert.LnMod.nD Cert.LnMod.τ).loc Cert.LnMod.main_arg1)
      ∧ r.2.mem ((c.tc : Thread Cert.LnMod.nD Cert.LnMod.τ).loc Cert.LnMod.main_arg2) = m ((c.tc : Thread Cert.LnMod.nD Cert.LnMod.τ).loc Cert.LnMod.main_arg2))
      ∧ r.2.sem = fun _ => 0)

def quiescent_LnModIdeal [hLnModIdeal : Cert.LnModIdeal.Facts] : Prop :=
  ∀ (m : (ℓ : Loc Cert.LnModIdeal.nD Cert.LnModIdeal.τ Cert.LnModIdeal.sig) → Buf (Elt Ideal) ℓ) (g : Dev Cert.LnModIdeal.nD → PrngReg), Pre_LnModIdeal m →
    θ_run (Cert.LnModIdeal.defs (F := Ideal)) (onTc (τ := Cert.LnModIdeal.τ) (Cert.LnModIdeal.main (F := Ideal))) ⟨m, fun _ => 0, g⟩ (fun r => (∀ c : Dev Cert.LnModIdeal.nD,
      r.2.mem ((c.tc : Thread Cert.LnModIdeal.nD Cert.LnModIdeal.τ).loc Cert.LnModIdeal.main_arg0) = m ((c.tc : Thread Cert.LnModIdeal.nD Cert.LnModIdeal.τ).loc Cert.LnModIdeal.main_arg0)
      ∧ r.2.mem ((c.tc : Thread Cert.LnModIdeal.nD Cert.LnModIdeal.τ).loc Cert.LnModIdeal.main_arg1) = m ((c.tc : Thread Cert.LnModIdeal.nD Cert.LnModIdeal.τ).loc Cert.LnModIdeal.main_arg1)
      ∧ r.2.mem ((c.tc : Thread Cert.LnModIdeal.nD Cert.LnModIdeal.τ).loc Cert.LnModIdeal.main_arg2) = m ((c.tc : Thread Cert.LnModIdeal.nD Cert.LnModIdeal.τ).loc Cert.LnModIdeal.main_arg2))
      ∧ r.2.sem = fun _ => 0)

def quiescent_LnModRefIdeal [hLnModRefIdeal : Cert.LnModRefIdeal.Facts] : Prop :=
  ∀ (m : (ℓ : Loc Cert.LnModRefIdeal.nD Cert.LnModRefIdeal.τ Cert.LnModRefIdeal.sig) → Buf (Elt Ideal) ℓ) (g : Dev Cert.LnModRefIdeal.nD → PrngReg), Pre_LnModRefIdeal m →
    θ_run (Cert.LnModRefIdeal.defs (F := Ideal)) (onTc (τ := Cert.LnModRefIdeal.τ) (Cert.LnModRefIdeal.main (F := Ideal))) ⟨m, fun _ => 0, g⟩ (fun r => (∀ c : Dev Cert.LnModRefIdeal.nD,
      r.2.mem ((c.tc : Thread Cert.LnModRefIdeal.nD Cert.LnModRefIdeal.τ).loc Cert.LnModRefIdeal.main_arg0) = m ((c.tc : Thread Cert.LnModRefIdeal.nD Cert.LnModRefIdeal.τ).loc Cert.LnModRefIdeal.main_arg0)
      ∧ r.2.mem ((c.tc : Thread Cert.LnModRefIdeal.nD Cert.LnModRefIdeal.τ).loc Cert.LnModRefIdeal.main_arg1) = m ((c.tc : Thread Cert.LnModRefIdeal.nD Cert.LnModRefIdeal.τ).loc Cert.LnModRefIdeal.main_arg1)
      ∧ r.2.mem ((c.tc : Thread Cert.LnModRefIdeal.nD Cert.LnModRefIdeal.τ).loc Cert.LnModRefIdeal.main_arg2) = m ((c.tc : Thread Cert.LnModRefIdeal.nD Cert.LnModRefIdeal.τ).loc Cert.LnModRefIdeal.main_arg2))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5)
      ∧ r.2.mem ((c.tc : Thread Cert.Post.nD Cert.Post.τ).loc Cert.Post.main_arg6) = m ((c.tc : Thread Cert.Post.nD Cert.Post.τ).loc Cert.Post.main_arg6))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
      ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5)
      ∧ r.2.mem ((c.tc : Thread Cert.PostRefIdeal.nD Cert.PostRefIdeal.τ).loc Cert.PostRefIdeal.main_arg6) = m ((c.tc : Thread Cert.PostRefIdeal.nD Cert.PostRefIdeal.τ).loc Cert.PostRefIdeal.main_arg6))
      ∧ r.2.sem = fun _ => 0)

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v5)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v5) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v6) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v1) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tables : Cert.Pre_tables.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)
      ∧ m' ((c.tc : Thread Cert.ExpertsRefIdeal.nD Cert.ExpertsRefIdeal.τ).loc Cert.ExpertsRefIdeal.main_arg5) = m ((c.tc : Thread Cert.ExpertsIdeal.nD Cert.ExpertsIdeal.τ).loc Cert.ExpertsIdeal.main_arg5)
      ∧ m' ((c.tc : Thread Cert.ExpertsRefIdeal.nD Cert.ExpertsRefIdeal.τ).loc Cert.ExpertsRefIdeal.main_arg6) = m ((c.tc : Thread Cert.ExpertsIdeal.nD Cert.ExpertsIdeal.τ).loc Cert.ExpertsIdeal.main_arg6)) →
    ∃ (v0 : (c : Dev Cert.ExpertsIdeal.nD) → Buf (Elt Ideal) ((c.tc : Thread Cert.ExpertsIdeal.nD Cert.ExpertsIdeal.τ).loc Cert.ExpertsIdeal.main_v25)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v25) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5)
          ∧ r.2.mem ((c.tc : Thread Cert.ExpertsIdeal.nD Cert.ExpertsIdeal.τ).loc Cert.ExpertsIdeal.main_arg6) = m ((c.tc : Thread Cert.ExpertsIdeal.nD Cert.ExpertsIdeal.τ).loc Cert.ExpertsIdeal.main_arg6))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v60) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4)
          ∧ r.2.mem ((c.tc : Thread Cert.ExpertsRefIdeal.nD Cert.ExpertsRefIdeal.τ).loc Cert.ExpertsRefIdeal.main_arg5) = m' ((c.tc : Thread Cert.ExpertsRefIdeal.nD Cert.ExpertsRefIdeal.τ).loc Cert.ExpertsRefIdeal.main_arg5)
          ∧ r.2.mem ((c.tc : Thread Cert.ExpertsRefIdeal.nD Cert.ExpertsRefIdeal.τ).loc Cert.ExpertsRefIdeal.main_arg6) = m' ((c.tc : Thread Cert.ExpertsRefIdeal.nD Cert.ExpertsRefIdeal.τ).loc Cert.ExpertsRefIdeal.main_arg6))

def preserves_Combine_CombineIdeal : Prop :=
  True

def algebraic_CombineIdeal_CombineRefIdeal [hCombineIdeal : Cert.CombineIdeal.Facts] [hCombineRefIdeal : Cert.CombineRefIdeal.Facts] [hPre_positions : Cert.Pre_positions.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)) →
    ∃ (v0 : (c : Dev Cert.CombineIdeal.nD) → Buf (Elt Ideal) ((c.tc : Thread Cert.CombineIdeal.nD Cert.CombineIdeal.τ).loc Cert.CombineIdeal.main_v3)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v3) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v44) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v4)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v4) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v7) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_LnMod_LnModIdeal : Prop :=
  True

def algebraic_LnModIdeal_LnModRefIdeal [hLnModIdeal : Cert.LnModIdeal.Facts] [hLnModRefIdeal : Cert.LnModRefIdeal.Facts] : Prop :=
  ∀ (m : (ℓ : Loc Cert.LnModIdeal.nD Cert.LnModIdeal.τ Cert.LnModIdeal.sig) → Buf (Elt Ideal) ℓ) (g : Dev Cert.LnModIdeal.nD → PrngReg)
    (m' : (ℓ : Loc Cert.LnModRefIdeal.nD Cert.LnModRefIdeal.τ Cert.LnModRefIdeal.sig) → Buf (Elt Ideal) ℓ) (g' : Dev Cert.LnModRefIdeal.nD → PrngReg), Pre_LnModIdeal m →
    (∀ c : Dev Cert.LnModIdeal.nD,
      m' ((c.tc : Thread Cert.LnModRefIdeal.nD Cert.LnModRefIdeal.τ).loc Cert.LnModRefIdeal.main_arg0) = m ((c.tc : Thread Cert.LnModIdeal.nD Cert.LnModIdeal.τ).loc Cert.LnModIdeal.main_arg0)
      ∧ m' ((c.tc : Thread Cert.LnModRefIdeal.nD Cert.LnModRefIdeal.τ).loc Cert.LnModRefIdeal.main_arg1) = m ((c.tc : Thread Cert.LnModIdeal.nD Cert.LnModIdeal.τ).loc Cert.LnModIdeal.main_arg1)
      ∧ m' ((c.tc : Thread Cert.LnModRefIdeal.nD Cert.LnModRefIdeal.τ).loc Cert.LnModRefIdeal.main_arg2) = m ((c.tc : Thread Cert.LnModIdeal.nD Cert.LnModIdeal.τ).loc Cert.LnModIdeal.main_arg2)) →
    ∃ (v0 : (c : Dev Cert.LnModIdeal.nD) → Buf (Elt Ideal) ((c.tc : Thread Cert.LnModIdeal.nD Cert.LnModIdeal.τ).loc Cert.LnModIdeal.main_v5_0)) (v1 : (c : Dev Cert.LnModIdeal.nD) → Buf (Elt Ideal) ((c.tc : Thread Cert.LnModIdeal.nD Cert.LnModIdeal.τ).loc Cert.LnModIdeal.main_v5_1)),
      θ_run (Cert.LnModIdeal.defs (F := Ideal)) (onTc (τ := Cert.LnModIdeal.τ) (Cert.LnModIdeal.main (F := Ideal))) ⟨m, fun _ => 0, g⟩ (fun r => ∀ c : Dev Cert.LnModIdeal.nD,
          r.2.mem ((c.tc : Thread Cert.LnModIdeal.nD Cert.LnModIdeal.τ).loc Cert.LnModIdeal.main_v5_0) = v0 c
          ∧ r.2.mem ((c.tc : Thread Cert.LnModIdeal.nD Cert.LnModIdeal.τ).loc Cert.LnModIdeal.main_v5_1) = v1 c
          ∧ r.2.mem ((c.tc : Thread Cert.LnModIdeal.nD Cert.LnModIdeal.τ).loc Cert.LnModIdeal.main_arg0) = m ((c.tc : Thread Cert.LnModIdeal.nD Cert.LnModIdeal.τ).loc Cert.LnModIdeal.main_arg0)
          ∧ r.2.mem ((c.tc : Thread Cert.LnModIdeal.nD Cert.LnModIdeal.τ).loc Cert.LnModIdeal.main_arg1) = m ((c.tc : Thread Cert.LnModIdeal.nD Cert.LnModIdeal.τ).loc Cert.LnModIdeal.main_arg1)
          ∧ r.2.mem ((c.tc : Thread Cert.LnModIdeal.nD Cert.LnModIdeal.τ).loc Cert.LnModIdeal.main_arg2) = m ((c.tc : Thread Cert.LnModIdeal.nD Cert.LnModIdeal.τ).loc Cert.LnModIdeal.main_arg2))
      ∧ θ_run (Cert.LnModRefIdeal.defs (F := Ideal)) (onTc (τ := Cert.LnModRefIdeal.τ) (Cert.LnModRefIdeal.main (F := Ideal))) ⟨m', fun _ => 0, g'⟩ (fun r => ∀ c : Dev Cert.LnModRefIdeal.nD,
          r.2.mem ((c.tc : Thread Cert.LnModRefIdeal.nD Cert.LnModRefIdeal.τ).loc Cert.LnModRefIdeal.main_v31) = v0 c
          ∧ r.2.mem ((c.tc : Thread Cert.LnModRefIdeal.nD Cert.LnModRefIdeal.τ).loc Cert.LnModRefIdeal.main_v32) = v1 c
          ∧ r.2.mem ((c.tc : Thread Cert.LnModRefIdeal.nD Cert.LnModRefIdeal.τ).loc Cert.LnModRefIdeal.main_arg0) = m' ((c.tc : Thread Cert.LnModRefIdeal.nD Cert.LnModRefIdeal.τ).loc Cert.LnModRefIdeal.main_arg0)
          ∧ r.2.mem ((c.tc : Thread Cert.LnModRefIdeal.nD Cert.LnModRefIdeal.τ).loc Cert.LnModRefIdeal.main_arg1) = m' ((c.tc : Thread Cert.LnModRefIdeal.nD Cert.LnModRefIdeal.τ).loc Cert.LnModRefIdeal.main_arg1)
          ∧ r.2.mem ((c.tc : Thread Cert.LnModRefIdeal.nD Cert.LnModRefIdeal.τ).loc Cert.LnModRefIdeal.main_arg2) = m' ((c.tc : Thread Cert.LnModRefIdeal.nD Cert.LnModRefIdeal.τ).loc Cert.LnModRefIdeal.main_arg2))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)
      ∧ m' ((c.tc : Thread Cert.PostRefIdeal.nD Cert.PostRefIdeal.τ).loc Cert.PostRefIdeal.main_arg6) = m ((c.tc : Thread Cert.PostIdeal.nD Cert.PostIdeal.τ).loc Cert.PostIdeal.main_arg6)) →
    ∃ (v0 : (c : Dev Cert.PostIdeal.nD) → Buf (Elt Ideal) ((c.tc : Thread Cert.PostIdeal.nD Cert.PostIdeal.τ).loc Cert.PostIdeal.main_v8_0)) (v1 : (c : Dev Cert.PostIdeal.nD) → Buf (Elt Ideal) ((c.tc : Thread Cert.PostIdeal.nD Cert.PostIdeal.τ).loc Cert.PostIdeal.main_v8_1)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v8_0) = v0 c
          ∧ r.2.mem ((c.tc : Thread Cert.PostIdeal.nD Cert.PostIdeal.τ).loc Cert.PostIdeal.main_v8_1) = v1 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5)
          ∧ r.2.mem ((c.tc : Thread Cert.PostIdeal.nD Cert.PostIdeal.τ).loc Cert.PostIdeal.main_arg6) = m ((c.tc : Thread Cert.PostIdeal.nD Cert.PostIdeal.τ).loc Cert.PostIdeal.main_arg6))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v32) = v0 c
          ∧ r.2.mem ((c.tc : Thread Cert.PostRefIdeal.nD Cert.PostRefIdeal.τ).loc Cert.PostRefIdeal.main_v54) = v1 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5)
          ∧ r.2.mem ((c.tc : Thread Cert.PostRefIdeal.nD Cert.PostRefIdeal.τ).loc Cert.PostRefIdeal.main_arg6) = m' ((c.tc : Thread Cert.PostRefIdeal.nD Cert.PostRefIdeal.τ).loc Cert.PostRefIdeal.main_arg6))

def Claim : Prop :=
  ∃ (hMerge : Cert.Merge.Facts) (hMergeIdeal : Cert.MergeIdeal.Facts) (hMergeRefIdeal : Cert.MergeRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hExperts : Cert.Experts.Facts) (hExpertsIdeal : Cert.ExpertsIdeal.Facts) (hExpertsRefIdeal : Cert.ExpertsRefIdeal.Facts) (hCombine : Cert.Combine.Facts) (hCombineIdeal : Cert.CombineIdeal.Facts) (hCombineRefIdeal : Cert.CombineRefIdeal.Facts) (hAda : Cert.Ada.Facts) (hAdaIdeal : Cert.AdaIdeal.Facts) (hAdaRefIdeal : Cert.AdaRefIdeal.Facts) (hLnMod : Cert.LnMod.Facts) (hLnModIdeal : Cert.LnModIdeal.Facts) (hLnModRefIdeal : Cert.LnModRefIdeal.Facts) (hPost : Cert.Post.Facts) (hPostIdeal : Cert.PostIdeal.Facts) (hPostRefIdeal : Cert.PostRefIdeal.Facts) (hPre_tables : Cert.Pre_tables.Facts) (hPre_positions : Cert.Pre_positions.Facts),
    quiescent_Merge (hMerge := hMerge)
    ∧ quiescent_MergeIdeal (hMergeIdeal := hMergeIdeal)
    ∧ quiescent_MergeRefIdeal (hMergeRefIdeal := hMergeRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Experts (hExperts := hExperts) (hPre_tables := hPre_tables)
    ∧ quiescent_ExpertsIdeal (hExpertsIdeal := hExpertsIdeal) (hPre_tables := hPre_tables)
    ∧ quiescent_ExpertsRefIdeal (hExpertsRefIdeal := hExpertsRefIdeal) (hPre_tables := hPre_tables)
    ∧ quiescent_Combine (hCombine := hCombine) (hPre_positions := hPre_positions)
    ∧ quiescent_CombineIdeal (hCombineIdeal := hCombineIdeal) (hPre_positions := hPre_positions)
    ∧ quiescent_CombineRefIdeal (hCombineRefIdeal := hCombineRefIdeal) (hPre_positions := hPre_positions)
    ∧ quiescent_Ada (hAda := hAda)
    ∧ quiescent_AdaIdeal (hAdaIdeal := hAdaIdeal)
    ∧ quiescent_AdaRefIdeal (hAdaRefIdeal := hAdaRefIdeal)
    ∧ quiescent_LnMod (hLnMod := hLnMod)
    ∧ quiescent_LnModIdeal (hLnModIdeal := hLnModIdeal)
    ∧ quiescent_LnModRefIdeal (hLnModRefIdeal := hLnModRefIdeal)
    ∧ quiescent_Post (hPost := hPost)
    ∧ quiescent_PostIdeal (hPostIdeal := hPostIdeal)
    ∧ quiescent_PostRefIdeal (hPostRefIdeal := hPostRefIdeal)
    ∧ preserves_Merge_MergeIdeal
    ∧ algebraic_MergeIdeal_MergeRefIdeal (hMergeIdeal := hMergeIdeal) (hMergeRefIdeal := hMergeRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_Experts_ExpertsIdeal
    ∧ algebraic_ExpertsIdeal_ExpertsRefIdeal (hExpertsIdeal := hExpertsIdeal) (hExpertsRefIdeal := hExpertsRefIdeal) (hPre_tables := hPre_tables)
    ∧ preserves_Combine_CombineIdeal
    ∧ algebraic_CombineIdeal_CombineRefIdeal (hCombineIdeal := hCombineIdeal) (hCombineRefIdeal := hCombineRefIdeal) (hPre_positions := hPre_positions)
    ∧ preserves_Ada_AdaIdeal
    ∧ algebraic_AdaIdeal_AdaRefIdeal (hAdaIdeal := hAdaIdeal) (hAdaRefIdeal := hAdaRefIdeal)
    ∧ preserves_LnMod_LnModIdeal
    ∧ algebraic_LnModIdeal_LnModRefIdeal (hLnModIdeal := hLnModIdeal) (hLnModRefIdeal := hLnModRefIdeal)
    ∧ preserves_Post_PostIdeal
    ∧ algebraic_PostIdeal_PostRefIdeal (hPostIdeal := hPostIdeal) (hPostRefIdeal := hPostRefIdeal)
-- ==== Pre_positions.lean ====
abbrev S32768 : Shape := ⟨1, ![32768]⟩
abbrev S49152x2048 : Shape := ⟨2, ![49152, 2048]⟩
abbrev S8192x128 : Shape := ⟨2, ![8192, 128]⟩
abbrev S8192x2048 : Shape := ⟨2, ![8192, 2048]⟩
abbrev S2x12288 : Shape := ⟨2, ![2, 12288]⟩
abbrev S2048 : Shape := ⟨1, ![2048]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn {F : FTy → Type} [FloatOps F] (main_arg0 : IVec S32768 32) (main_arg1 : FVec F S49152x2048 .f32) (main_arg2 : FVec F S8192x128 .f32) (main_arg3 : FVec F S8192x2048 .f32) (main_arg4 : FVec F S2x12288 .f32) (main_arg5 : FVec F S2048 .f32) (main_arg6 : FVec F S2048 .f32) : IVec S_ 1 :=
  let main_c : IVec S_ 32 := constantI S_ 32 0#32
  let main_v0 : IVec S32768 32 := broadcastInDim S32768 ![] bcast_S_S32768 main_c
  let main_v1 : IVec S32768 1 := cmpi .sge main_arg0 main_v0
  let main_c_0 : IVec S_ 1 := constantI S_ 1 1#1
  let main_v2 : IVec S_ 1 := (fun x v => Host.reduce IntOp.andi x v reducesTo_S32768_S_d0 h_S_) main_v1 main_c_0
  let main_c_1 : IVec S_ 32 := constantI S_ 32 49152#32
  let main_v3 : IVec S32768 32 := broadcastInDim S32768 ![] bcast_S_S32768 main_c_1
  let main_v4 : IVec S32768 1 := cmpi .slt main_arg0 main_v3
  let main_c_2 : IVec S_ 1 := constantI S_ 1 1#1
  let main_v5 : IVec S_ 1 := (fun x v => Host.reduce IntOp.andi x v reducesTo_S32768_S_d0 h_S_) main_v4 main_c_2
  let main_v6 : IVec S_ 1 := andi main_v2 main_v5
  main_v6
-- ==== Pre_tables.lean ====
abbrev S96 : Shape := ⟨1, ![96]⟩
abbrev S1 : Shape := ⟨1, ![1]⟩
abbrev S49152x2048 : Shape := ⟨2, ![49152, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel
  shapeCasts_S1_S_ : S1.ShapeCasts S_

variable [Facts]

def fn {F : FTy → Type} [FloatOps F] (main_arg0 : IVec S96 32) (main_arg1 : IVec S1 32) (main_arg2 : FVec F S49152x2048 .f32) (main_arg3 : FVec F S32x2048x4096 .f32) (main_arg4 : FVec F S32x4096 .f32) (main_arg5 : FVec F S32x2048x2048 .f32) (main_arg6 : FVec F S32x2048 .f32) : IVec S_ 1 :=
  let main_c : IVec S_ 32 := constantI S_ 32 0#32
  let main_v0 : IVec S96 32 := broadcastInDim S96 ![] bcast_S_S96 main_c
  let main_v1 : IVec S96 1 := cmpi .sge main_arg0 main_v0
  let main_c_0 : IVec S_ 1 := constantI S_ 1 1#1
  let main_v2 : IVec S_ 1 := (fun x v => Host.reduce IntOp.andi x v reducesTo_S96_S_d0 h_S_) main_v1 main_c_0
  let main_c_1 : IVec S_ 32 := constantI S_ 32 32#32
  let main_v3 : IVec S96 32 := broadcastInDim S96 ![] bcast_S_S96 main_c_1
  let main_v4 : IVec S96 1 := cmpi .slt main_arg0 main_v3
  let main_c_2 : IVec S_ 1 := constantI S_ 1 1#1
  let main_v5 : IVec S_ 1 := (fun x v => Host.reduce IntOp.andi x v reducesTo_S96_S_d0 h_S_) main_v4 main_c_2
  let main_v6 : IVec S_ 1 := andi main_v2 main_v5
  let main_v7 : IVec S_ 32 := shapeCast S_ main_arg1 shapeCasts_S1_S_
  let main_c_3 : IVec S_ 32 := constantI S_ 32 1#32
  let main_v8 : IVec S_ 1 := cmpi .sge main_v7 main_c_3
  let main_v9 : IVec S_ 1 := andi main_v6 main_v8
  let main_v10 : IVec S_ 32 := shapeCast S_ main_arg1 shapeCasts_S1_S_
  let main_c_4 : IVec S_ 32 := constantI S_ 32 96#32
  let main_v11 : IVec S_ 1 := cmpi .sle main_v10 main_c_4
  let main_v12 : IVec S_ 1 := andi main_v9 main_v11
  main_v12
-- ==== Merge.lean ====
abbrev S8192x2048 : Shape := ⟨2, ![8192, 2048]⟩
abbrev S8192x4096 : Shape := ⟨2, ![8192, 4096]⟩
abbrev S2048x2048 : Shape := ⟨2, ![2048, 2048]⟩
abbrev S4096x2048 : Shape := ⟨2, ![4096, 2048]⟩
abbrev S8192x22528 : Shape := ⟨2, ![8192, 22528]⟩
abbrev S512x2048 : Shape := ⟨2, ![512, 2048]⟩
abbrev S512x4096 : Shape := ⟨2, ![512, 4096]⟩
abbrev S2048x512 : Shape := ⟨2, ![2048, 512]⟩
abbrev S4096x512 : Shape := ⟨2, ![4096, 512]⟩
abbrev S512x512 : Shape := ⟨2, ![512, 512]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S2048x2048, .f32⟩
  | .hbm, ⟨3, _⟩ => ⟨S4096x2048, .f32⟩
  | .hbm, ⟨4, _⟩ => ⟨S8192x22528, .bf16⟩
  | .hbm, ⟨5, _⟩ => ⟨S2048x2048, .bf16⟩
  | .hbm, ⟨6, _⟩ => ⟨S4096x2048, .bf16⟩
  | .hbm, ⟨7, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S512x4096, .bf16⟩
  | .local _ .vmem, ⟨3, _⟩ => ⟨S512x4096, .bf16⟩
  | .local _ .vmem, ⟨4, _⟩ => ⟨S2048x512, .bf16⟩
  | .local _ .vmem, ⟨5, _⟩ => ⟨S2048x512, .bf16⟩
  | .local _ .vmem, ⟨6, _⟩ => ⟨S4096x512, .bf16⟩
  | .local _ .vmem, ⟨7, _⟩ => ⟨S4096x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x2048 : Shape := ⟨2, ![8192, 2048]⟩
abbrev S8192x4096 : Shape := ⟨2, ![8192, 4096]⟩
abbrev S2048x2048 : Shape := ⟨2, ![2048, 2048]⟩
abbrev S4096x2048 : Shape := ⟨2, ![4096, 2048]⟩
abbrev S8192x22528 : Shape := ⟨2, ![8192, 22528]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x4096, .bf16⟩
  | .hbm, ⟨2, _⟩ => ⟨S2048x2048, .f32⟩
  | .hbm, ⟨3, _⟩ => ⟨S4096x2048, .f32⟩
  | .hbm, ⟨4, _⟩ => ⟨S8192x22528, .bf16⟩
  | .hbm, ⟨5, _⟩ => ⟨S8192x2048, .bf16⟩
  | .hbm, ⟨6, _⟩ => ⟨S8192x2048, .f32⟩
  | .hbm, ⟨7, _⟩ => ⟨S8192x2048, .bf16⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x4096, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== InProj.lean ====
abbrev S8192x2048 : Shape := ⟨2, ![8192, 2048]⟩
abbrev S2048x22608 : Shape := ⟨2, ![2048, 22608]⟩
abbrev S2048x4096 : Shape := ⟨2, ![2048, 4096]⟩
abbrev S2048x10240 : Shape := ⟨2, ![2048, 10240]⟩
abbrev S2048x8192 : Shape := ⟨2, ![2048, 8192]⟩
abbrev S2048x22528 : Shape := ⟨2, ![2048, 22528]⟩
abbrev S8192x22528 : Shape := ⟨2, ![8192, 22528]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 8
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x22608, .f32⟩
  | .hbm, ⟨2, _⟩ => ⟨S2048x4096, .f32⟩
  | .hbm, ⟨3, _⟩ => ⟨S2048x10240, .f32⟩
  | .hbm, ⟨4, _⟩ => ⟨S2048x8192, .f32⟩
  | .hbm, ⟨5, _⟩ => ⟨S2048x22528, .f32⟩
  | .hbm, ⟨6, _⟩ => ⟨S2048x22528, .bf16⟩
  | .hbm, ⟨7, _⟩ => ⟨S8192x22528, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![22, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x2048 : Shape := ⟨2, ![8192, 2048]⟩
abbrev S2048x22608 : Shape := ⟨2, ![2048, 22608]⟩
abbrev S8192x22608 : Shape := ⟨2, ![8192, 22608]⟩
abbrev S8192x4096 : Shape := ⟨2, ![8192, 4096]⟩
abbrev S8192x10240 : Shape := ⟨2, ![8192, 10240]⟩
abbrev S8192x8192 : Shape := ⟨2, ![8192, 8192]⟩
abbrev S8192x22528 : Shape := ⟨2, ![8192, 22528]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x22608, .f32⟩
  | .hbm, ⟨2, _⟩ => ⟨S8192x2048, .f32⟩
  | .hbm, ⟨3, _⟩ => ⟨S8192x22608, .f32⟩
  | .hbm, ⟨4, _⟩ => ⟨S8192x4096, .f32⟩
  | .hbm, ⟨5, _⟩ => ⟨S8192x10240, .f32⟩
  | .hbm, ⟨6, _⟩ => ⟨S8192x8192, .f32⟩
  | .hbm, ⟨7, _⟩ => ⟨S8192x22528, .f32⟩
  | .hbm, ⟨8, _⟩ => ⟨S8192x22528, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S8192x2048 : Shape := ⟨2, ![8192, 2048]⟩
abbrev S2048x2048 : Shape := ⟨2, ![2048, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Experts.lean ====
abbrev S96 : Shape := ⟨1, ![96]⟩
abbrev S1 : Shape := ⟨1, ![1]⟩
abbrev S49152x2048 : Shape := ⟨2, ![49152, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S32x2048x2048x2 : Shape := ⟨4, ![32, 2048, 2048, 2]⟩
abbrev S32x1x2048x2 : Shape := ⟨4, ![32, 1, 2048, 2]⟩
abbrev S32x2048x2048x1 : Shape := ⟨4, ![32, 2048, 2048, 1]⟩
abbrev S32x1x2048x1 : Shape := ⟨4, ![32, 1, 2048, 1]⟩
abbrev S32x1x2048 : Shape := ⟨3, ![32, 1, 2048]⟩
abbrev S_ : Shape := ⟨0, ![]⟩
abbrev S96x1 : Shape := ⟨2, ![96, 1]⟩
abbrev S512x2048 : Shape := ⟨2, ![512, 2048]⟩
abbrev S1x2048x512 : Shape := ⟨3, ![1, 2048, 512]⟩
abbrev S1x1x512 : Shape := ⟨3, ![1, 1, 512]⟩
abbrev S1x512x2048 : Shape := ⟨3, ![1, 512, 2048]⟩
abbrev S1x1x2048 : Shape := ⟨3, ![1, 1, 2048]⟩
abbrev S1x2048 : Shape := ⟨2, ![1, 2048]⟩
abbrev S2048x512 : Shape := ⟨2, ![2048, 512]⟩
abbrev S512x512 : Shape := ⟨2, ![512, 512]⟩
abbrev S1x512 : Shape := ⟨2, ![1, 512]⟩

abbrev nBuf : Space → Nat
  | .hbm => 34
  | .vmem => 17
  | .smem => 2
  | _ => 0

abbrev bufTy : (tb : Table) → Fin (tcTables nBuf tb) → BufTy
  | .hbm, ⟨0, _⟩ => ⟨S96, .i32⟩
  | .hbm, ⟨1, _⟩ => ⟨S49152x2048, .f32⟩
  | .hbm, ⟨2, _⟩ => ⟨S32x2048x4096, .f32⟩
  | .hbm, ⟨3, _⟩ => ⟨S32x4096, .f32⟩
  | .hbm, ⟨4, _⟩ => ⟨S32x2048x2048, .f32⟩
  | .hbm, ⟨5, _⟩ => ⟨S32x2048, .f32⟩
  | .hbm, ⟨6, _⟩ => ⟨S32x2048x2048x2, .f32⟩
  | .hbm, ⟨7, _⟩ => ⟨S32x1x2048x2, .f32⟩
  | .hbm, ⟨8, _⟩ => ⟨S32x2048x2048x1, .f32⟩
  | .hbm, ⟨9, _⟩ => ⟨S32x2048x2048, .f32⟩
  | .hbm, ⟨10, _⟩ => ⟨S32x2048x2048, .bf16⟩
  | .hbm, ⟨11, _⟩ => ⟨S32x2048x2048x1, .f32⟩
  | .hbm, ⟨12, _⟩ => ⟨S32x2048x2048, .f32⟩
  | .hbm, ⟨13, _⟩ => ⟨S32x2048x2048, .bf16⟩
  | .hbm, ⟨14, _⟩ => ⟨S32x1x2048x1, .f32⟩
  | .hbm, ⟨15, _⟩ => ⟨S32x1x2048, .f32⟩
  | .hbm, ⟨16, _⟩ => ⟨S32x1x2048x1, .f32⟩
  | .hbm, ⟨17, _⟩ => ⟨S32x1x2048, .f32⟩
  | .hbm, ⟨18, _⟩ => ⟨S32x1x2048, .f32⟩
  | .hbm, ⟨19, _⟩ => ⟨S96, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S96, .i32⟩
  | .hbm, ⟨24, _⟩ => ⟨S96, .i32⟩
  | .hbm, ⟨25, _⟩ => ⟨S_, .i32⟩
  | .hbm, ⟨26, _⟩ => ⟨S96, .i32⟩
  | .hbm, ⟨27, _⟩ => ⟨S96, .i1⟩
  | .hbm, ⟨28, _⟩ => ⟨S_, .i32⟩
  | .hbm, ⟨29, _⟩ => ⟨S96, .i32⟩
  | .hbm, ⟨30, _⟩ => ⟨S96, .i32⟩
  | .hbm, ⟨31, _⟩ => ⟨S96, .i32⟩
  | .hbm, ⟨32, _⟩ => ⟨S96x1, .i32⟩
  | .hbm, ⟨33, _⟩ => ⟨S49152x2048, .f32⟩
  | .local _ .vmem, ⟨0, _⟩ => ⟨S512x2048, .f32⟩
  | .local _ .vmem, ⟨1, _⟩ => ⟨S512x2048, .f32⟩
  | .local _ .vmem, ⟨2, _⟩ => ⟨S1x2048x512, .bf16⟩
  | .local _ .vmem, ⟨3, _⟩ => ⟨S1x2048x512, .bf16⟩
  | .local _ .vmem, ⟨4, _⟩ => ⟨S1x2048x512, .bf16⟩
  | .local _ .vmem, ⟨5, _⟩ => ⟨S1x2048x512, .bf16⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S1x512x2048, .f32⟩
  | .local _ .vmem, ⟨11, _⟩ => ⟨S1x512x2048, .f32⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .smem, ⟨0, _⟩ => ⟨S96, .i32⟩
  | .local _ .smem, ⟨1, _⟩ => ⟨S1, .i32⟩
  | _, _ => ⟨S96, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_0 : Ref sig .tc := ⟨.hbm, 25, rfl⟩
abbrev main_v18 : Ref sig .tc := ⟨.hbm, 26, rfl⟩
abbrev main_v19 : Ref sig .tc := ⟨.hbm, 27, rfl⟩
abbrev main_c_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v25 : Ref sig .tc := ⟨.hbm, 33, rfl⟩
abbrev main_v24 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![96, 4], ![false, false]⟩

abbrev pre0 : Pipeline.Prefetch sig := ⟨2, ![main_v24.idx, main_arg1.idx], fun | 0 => main_v24.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .sge arg0 v0
  let arg1 : BitVec 32 := BitVec.ofNat 32 (i 1).val
  let c0_i32 : BitVec 32 := 0#32
  let v2 : BitVec 1 := Scalar.cmpi .eq arg1 c0_i32
  let v3 : BitVec 1 := Scalar.andi v1 v2
  let v4 : BitVec 32 := Scalar.extui v3
  let c0_i32_0 : BitVec 32 := 0#32
  let v5 : BitVec 1 := Scalar.cmpi .ne v4 c0_i32_0
  v5

def k0_cond2 (i : grid0.Coords) (v6 : BitVec 32) : BitVec 1 :=
  let arg0 : BitVec 32 := BitVec.ofNat 32 (i 0).val
  let v7 : BitVec 1 := Scalar.cmpi .slt arg0 v6
  let v8 : BitVec 32 := Scalar.extui v7
  let c0_i32_2 : BitVec 32 := 0#32
  let v9 : BitVec 1 := Scalar.cmpi .ne v8 c0_i32_2
  v9

def k0_cond3 (i : grid0.Coords) : BitVec 1 :=
  let arg1 : BitVec 32 := BitVec.ofNat 32 (i 1).val
  let c0_i32_3 : BitVec 32 := 0#32
  let v10 : BitVec 1 := Scalar.cmpi .eq arg1 c0_i32_3
  let v11 : BitVec 32 := Scalar.extui v10
  let c0_i32_4 : BitVec 32 := 0#32
  let v12 : BitVec 1 := Scalar.cmpi .ne v11 c0_i32_4
  v12

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat, arg1.toNat]

def cc0_transform_5 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  ![v1.toNat, arg1.toNat, c0_i32.toNat]

def cc0_transform_6 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ExpertsRefIdeal.lean ====
abbrev S96 : Shape := ⟨1, ![96]⟩
abbrev S1 : Shape := ⟨1, ![1]⟩
abbrev S49152x2048 : Shape := ⟨2, ![49152, 2048]⟩
abbrev S32x2048x4096 : Shape := ⟨3, ![32, 2048, 4096]⟩
abbrev S32x4096 : Shape := ⟨2, ![32, 4096]⟩
abbrev S32x2048x2048 : Shape := ⟨3, ![32, 2048, 2048]⟩
abbrev S32x2048 : Shape := ⟨2, ![32, 2048]⟩
abbrev S96x512x2048 : Shape := ⟨3, ![96, 512, 2048]⟩
abbrev S_ : Shape := ⟨0, ![]⟩
abbrev S96x1 : Shape := ⟨2, ![96, 1]⟩
abbrev S96x2048x4096 : Shape := ⟨3, ![96, 2048, 4096]⟩
abbrev S96x512x4096 : Shape := ⟨3, ![96, 512, 4096]⟩
abbrev S96x4096 : Shape := ⟨2, ![96, 4096]⟩
abbrev S96x1x4096 : Shape := ⟨3, ![96, 1, 4096]⟩
abbrev S96x2048x2048 : Shape := ⟨3, ![96, 2048, 2048]⟩
abbrev S96x2048 : Shape := ⟨2, ![96, 2048]⟩
abbrev S96x1x2048 : Shape := ⟨3, ![96, 1, 2048]⟩
abbrev S96x1x1 : Shape := ⟨3, ![96, 1, 1]⟩

abbrev nBuf : Space → Nat
  | .hbm => 92
  | .vmem => 0
  | .smem => 0
  | _ => 0

abbrev bufTy : (tb : Table) → Fin (tcTables nBuf tb) → BufTy
  | .hbm, ⟨0, _⟩ => ⟨S96, .i32⟩
  | .hbm, ⟨1, _⟩ => ⟨S1, .i32⟩
  | .hbm, ⟨2, _⟩ => ⟨S49152x2048, .f32⟩
  | .hbm, ⟨3, _⟩ => ⟨S32x2048x4096, .f32⟩
  | .hbm, ⟨4, _⟩ => ⟨S32x4096, .f32⟩
  | .hbm, ⟨5, _⟩ => ⟨S32x2048x2048, .f32⟩
  | .hbm, ⟨6, _⟩ => ⟨S32x2048, .f32⟩
  | .hbm, ⟨7, _⟩ => ⟨S96x512x2048, .f32⟩
  | .hbm, ⟨8, _⟩ => ⟨S_, .i32⟩
  | .hbm, ⟨9, _⟩ => ⟨S96, .i32⟩
  | .hbm, ⟨10, _⟩ => ⟨S96, .i1⟩
  | .hbm, ⟨11, _⟩ => ⟨S_, .i32⟩
  | .hbm, ⟨12, _⟩ => ⟨S96, .i32⟩
  | .hbm, ⟨13, _⟩ => ⟨S96, .i32⟩
  | .hbm, ⟨14, _⟩ => ⟨S96, .i32⟩
  | .hbm, ⟨15, _⟩ => ⟨S96x1, .i32⟩
  | .hbm, ⟨16, _⟩ => ⟨S96x2048x4096, .f32⟩
  | .hbm, ⟨17, _⟩ => ⟨S96x512x4096, .f32⟩
  | .hbm, ⟨18, _⟩ => ⟨S_, .i32⟩
  | .hbm, ⟨19, _⟩ => ⟨S96, .i32⟩
  | .hbm, ⟨20, _⟩ => ⟨S96, .i1⟩
  | .hbm, ⟨21, _⟩ => ⟨S_, .i32⟩
  | .hbm, ⟨22, _⟩ => ⟨S96, .i32⟩
  | .hbm, ⟨23, _⟩ => ⟨S96, .i32⟩
  | .hbm, ⟨24, _⟩ => ⟨S96, .i32⟩
  | .hbm, ⟨25, _⟩ => ⟨S96x1, .i32⟩
  | .hbm, ⟨26, _⟩ => ⟨S96x4096, .f32⟩
  | .hbm, ⟨27, _⟩ => ⟨S96x1x4096, .f32⟩
  | .hbm, ⟨28, _⟩ => ⟨S96x512x4096, .f32⟩
  | .hbm, ⟨29, _⟩ => ⟨S96x512x4096, .f32⟩
  | .hbm, ⟨30, _⟩ => ⟨S96x512x2048, .f32⟩
  | .hbm, ⟨31, _⟩ => ⟨S_, .f32⟩
  | .hbm, ⟨32, _⟩ => ⟨S96x512x2048, .f32⟩
  | .hbm, ⟨33, _⟩ => ⟨S96x512x2048, .f32⟩
  | .hbm, ⟨34, _⟩ => ⟨S96x512x2048, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S96x512x2048, .f32⟩
  | .hbm, ⟨39, _⟩ => ⟨S96x512x2048, .f32⟩
  | .hbm, ⟨40, _⟩ => ⟨S_, .f32⟩
  | .hbm, ⟨41, _⟩ => ⟨S96x512x2048, .f32⟩
  | .hbm, ⟨42, _⟩ => ⟨S96x512x2048, .f32⟩
  | .hbm, ⟨43, _⟩ => ⟨S_, .f32⟩
  | .hbm, ⟨44, _⟩ => ⟨S96x512x2048, .f32⟩
  | .hbm, ⟨45, _⟩ => ⟨S96x512x2048, .f32⟩
  | .hbm, ⟨46, _⟩ => ⟨S96x512x2048, .f32⟩
  | .hbm, ⟨47, _⟩ => ⟨S_, .f32⟩
  | .hbm, ⟨48, _⟩ => ⟨S96x512x2048, .f32⟩
  | .hbm, ⟨49, _⟩ => ⟨S96x512x2048, .f32⟩
  | .hbm, ⟨50, _⟩ => ⟨S96x512x2048, .f32⟩
  | .hbm, ⟨51, _⟩ => ⟨S96x512x2048, .f32⟩
  | .hbm, ⟨52, _⟩ => ⟨S_, .f32⟩
  | .hbm, ⟨53, _⟩ => ⟨S96x512x2048, .f32⟩
  | .hbm, ⟨54, _⟩ => ⟨S96x512x2048, .f32⟩
  | .hbm, ⟨55, _⟩ => ⟨S_, .f32⟩
  | .hbm, ⟨56, _⟩ => ⟨S96x512x2048, .f32⟩
  | .hbm, ⟨57, _⟩ => ⟨S96x512x2048, .f32⟩
  | .hbm, ⟨58, _⟩ => ⟨S96x512x2048, .f32⟩
  | .hbm, ⟨59, _⟩ => ⟨S_, .i32⟩
  | .hbm, ⟨60, _⟩ => ⟨S96, .i32⟩
  | .hbm, ⟨61, _⟩ => ⟨S96, .i1⟩
  | .hbm, ⟨62, _⟩ => ⟨S_, .i32⟩
  | .hbm, ⟨63, _⟩ => ⟨S96, .i32⟩
  | .hbm, ⟨64, _⟩ => ⟨S96, .i32⟩
  | .hbm, ⟨65, _⟩ => ⟨S96, .i32⟩
  | .hbm, ⟨66, _⟩ => ⟨S96x1, .i32⟩
  | .hbm, ⟨67, _⟩ => ⟨S96x2048x2048, .f32⟩
  | .hbm, ⟨68, _⟩ => ⟨S96x512x2048, .f32⟩
  | .hbm, ⟨69, _⟩ => ⟨S_, .i32⟩
  | .hbm, ⟨70, _⟩ => ⟨S96, .i32⟩
  | .hbm, ⟨71, _⟩ => ⟨S96, .i1⟩
  | .hbm, ⟨72, _⟩ => ⟨S_, .i32⟩
  | .hbm, ⟨73, _⟩ => ⟨S96, .i32⟩
  | .hbm, ⟨74, _⟩ => ⟨S96, .i32⟩
  | .hbm, ⟨75, _⟩ => ⟨S96, .i32⟩
  | .hbm, ⟨76, _⟩ => ⟨S96x1, .i32⟩
  | .hbm, ⟨77, _⟩ => ⟨S96x2048, .f32⟩
  | .hbm, ⟨78, _⟩ => ⟨S96x1x2048, .f32⟩
  | .hbm, ⟨79, _⟩ => ⟨S96x512x2048, .f32⟩
  | .hbm, ⟨80, _⟩ => ⟨S96x512x2048, .f32⟩
  | .hbm, ⟨81, _⟩ => ⟨S96, .i32⟩
  | .hbm, ⟨82, _⟩ => ⟨S_, .i32⟩
  | .hbm, ⟨83, _⟩ => ⟨S96, .i32⟩
  | .hbm, ⟨84, _⟩ => ⟨S96, .i1⟩
  | .hbm, ⟨85, _⟩ => ⟨S96x1x1, .i1⟩
  | .hbm, ⟨86, _⟩ => ⟨S_, .f32⟩
  | .hbm, ⟨87, _⟩ => ⟨S_, .f32⟩
  | .hbm, ⟨88, _⟩ => ⟨S96x512x2048, .i1⟩
  | .hbm, ⟨89, _⟩ => ⟨S96x512x2048, .f32⟩
  | .hbm, ⟨90, _⟩ => ⟨S96x512x2048, .f32⟩
  | .hbm, ⟨91, _⟩ => ⟨S49152x2048, .f32⟩
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_cst_8 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_c_9 : Ref sig .tc := ⟨.hbm, 59, rfl⟩
abbrev main_v36 : Ref sig .tc := ⟨.hbm, 60, rfl⟩
abbrev main_v37 : Ref sig .tc := ⟨.hbm, 61, rfl⟩
abbrev main_c_10 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v59 : Ref sig .tc := ⟨.hbm, 90, rfl⟩
abbrev main_v60 : Ref sig .tc := ⟨.hbm, 91, rfl⟩

abbrev nD : Nat := 1
abbrev τ : Topo := Topo.v7x

variable {F : FTy → Type} [FloatOps F]
-- ==== Combine.lean ====
abbrev S32768 : Shape := ⟨1, ![32768]⟩
abbrev S49152x2048 : Shape := ⟨2, ![49152, 2048]⟩
abbrev S8192x128 : Shape := ⟨2, ![8192, 128]⟩
abbrev S8192x2048 : Shape := ⟨2, ![8192, 2048]⟩
abbrev S2x12288 : Shape := ⟨2, ![2, 12288]⟩
abbrev S2048 : Shape := ⟨1, ![2048]⟩
abbrev S2x6x1x2048 : Shape := ⟨4, ![2, 6, 1, 2048]⟩
abbrev S1x2048 : Shape := ⟨2, ![1, 2048]⟩
abbrev S128x128 : Shape := ⟨2, ![128, 128]⟩
abbrev S128x2048 : Shape := ⟨2, ![128, 2048]⟩
abbrev S1x1x1x2048 : Shape := ⟨4, ![1, 1, 1, 2048]⟩
abbrev S4x128x2048 : Shape := ⟨3, ![4, 128, 2048]⟩
abbrev S_ : Shape := ⟨0, ![]⟩
abbrev S1 : Shape := ⟨1, ![1]⟩
abbrev S1x1x2048 : Shape := ⟨3, ![1, 1, 2048]⟩
abbrev S128x1 : Shape := ⟨2, ![128, 1]⟩
abbrev S1x128x2048 : Shape := ⟨3, ![1, 128, 2048]⟩
abbrev S128 : Shape := ⟨1, ![128]⟩

abbrev nBuf : Space → Nat
  | .hbm => 10
  | .vmem => 11
  | .smem => 1
  | _ => 0

abbrev bufTy : (tb : Table) → Fin (tcTables nBuf tb) → BufTy
  | .hbm, ⟨0, _⟩ => ⟨S49152x2048, .f32⟩
  | .hbm, ⟨1, _⟩ => ⟨S8192x128, .f32⟩
  | .hbm, ⟨2, _⟩ => ⟨S8192x2048, .f32⟩
  | .hbm, ⟨3, _⟩ => ⟨S2x12288, .f32⟩
  | .hbm, ⟨4, _⟩ => ⟨S2048, .f32⟩
  | .hbm, ⟨5, _⟩ => ⟨S2048, .f32⟩
  | .hbm, ⟨6, _⟩ => ⟨S2x6x1x2048, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S128x128, .f32⟩
  | .local _ .vmem, ⟨1, _⟩ => ⟨S128x128, .f32⟩
  | .local _ .vmem, ⟨2, _⟩ => ⟨S128x2048, .f32⟩
  | .local _ .vmem, ⟨3, _⟩ => ⟨S128x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x2048, .f32⟩
  | .local _ .vmem, ⟨7, _⟩ => ⟨S1x2048, .f32⟩
  | .local _ .vmem, ⟨8, _⟩ => ⟨S128x2048, .f32⟩
  | .local _ .vmem, ⟨9, _⟩ => ⟨S128x2048, .f32⟩
  | .local _ .vmem, ⟨10, _⟩ => ⟨S4x128x2048, .f32⟩
  | .local _ .smem, ⟨0, _⟩ => ⟨S32768, .i32⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c128_i32_0 : BitVec 32 := 128#32
  let v1 : BitVec 32 := Scalar.addi c0_i32 c128_i32_0
  let c1_i32 : BitVec 32 := 1#32
  ⟨c0_i32, v1, c1_i32⟩
def k0_off1 (i : grid0.Coords) (k0_t1 : Fin k0_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg11 : BitVec 32 := Scf.iv c0_i32 c1_i32 k0_t1
  let v60 : BitVec 32 := Scalar.addi v0 arg11
  let c4_i32 : BitVec 32 := 4#32
  let v61 : BitVec 32 := Scalar.muli v60 c4_i32
  let c0_i32_33 : BitVec 32 := 0#32
  let v62 : BitVec 32 := Scalar.addi v61 c0_i32_33
  let v63 : Index := Scalar.indexCast v62
  ![v63.toNat]
def k0_off2 (k0_t1 : Fin k0_t1_loop.trips) : Fin 3 → Nat :=
  let c0_i32_34 : BitVec 32 := 0#32
  let c0_i32 : BitVec 32 := 0#32
  let c1_i32 : BitVec 32 := 1#32
  let arg11 : BitVec 32 := Scf.iv c0_i32 c1_i32 k0_t1
  let c0_i32_35 : BitVec 32 := 0#32
  ![0, arg11.toNat, 0]
def k0_off3 (v64 : BitVec 32) : Fin 2 → Nat :=
  let c0_i32_36 : BitVec 32 := 0#32
  ![v64.toNat, 0]

def k0_chk1 (v64 : BitVec 32) : Prop :=
  (∀ a, (k0_off3 v64) a + S1x2048.size a ≤ S49152x2048.size a)
theorem k0_off3_inb : ∀ (v64 : BitVec 32) (k0_hw1 : k0_chk1 v64), ∀ a, (k0_off3 v64) a + S1x2048.size a ≤ S49152x2048.size a := fun v64 k0_hw1 => k0_hw1

def k0_off4 (i : grid0.Coords) (k0_t1 : Fin k0_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg11 : BitVec 32 := Scf.iv c0_i32 c1_i32 k0_t1
  let v68 : BitVec 32 := Scalar.addi v0 arg11
  let c4_i32_37 : BitVec 32 := 4#32
  let v69 : BitVec 32 := Scalar.muli v68 c4_i32_37
  let c1_i32_38 : BitVec 32 := 1#32
  let v70 : BitVec 32 := Scalar.addi v69 c1_i32_38
  let v71 : Index := Scalar.indexCast v70
  ![v71.toNat]
def k0_off5 (k0_t1 : Fin k0_t1_loop.trips) : Fin 3 → Nat :=
  let c1_i32_39 : BitVec 32 := 1#32
  let c0_i32 : BitVec 32 := 0#32
  let c1_i32 : BitVec 32 := 1#32
  let arg11 : BitVec 32 := Scf.iv c0_i32 c1_i32 k0_t1
  let c0_i32_40 : BitVec 32 := 0#32
  ![1, arg11.toNat, 0]
def k0_off6 (v72 : BitVec 32) : Fin 2 → Nat :=
  let c0_i32_41 : BitVec 32 := 0#32
  ![v72.toNat, 0]

def k0_chk2 (v72 : BitVec 32) : Prop :=
  (∀ a, (k0_off6 v72) a + S1x2048.size a ≤ S49152x2048.size a)
theorem k0_off6_inb : ∀ (v72 : BitVec 32) (k0_hw2 : k0_chk2 v72), ∀ a, (k0_off6 v72) a + S1x2048.size a ≤ S49152x2048.size a := fun v72 k0_hw2 => k0_hw2

def k0_off7 (i : grid0.Coords) (k0_t1 : Fin k0_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg11 : BitVec 32 := Scf.iv c0_i32 c1_i32 k0_t1
  let v76 : BitVec 32 := Scalar.addi v0 arg11
  let c4_i32_42 : BitVec 32 := 4#32
  let v77 : BitVec 32 := Scalar.muli v76 c4_i32_42
  let c2_i32 : BitVec 32 := 2#32
  let v78 : BitVec 32 := Scalar.addi v77 c2_i32
  let v79 : Index := Scalar.indexCast v78
  ![v79.toNat]
def k0_off8 (k0_t1 : Fin k0_t1_loop.trips) : Fin 3 → Nat :=
  let c2_i32_43 : BitVec 32 := 2#32
  let c0_i32 : BitVec 32 := 0#32
  let c1_i32 : BitVec 32 := 1#32
  let arg11 : BitVec 32 := Scf.iv c0_i32 c1_i32 k0_t1
  let c0_i32_44 : BitVec 32 := 0#32
  ![2, arg11.toNat, 0]
def k0_off9 (v80 : BitVec 32) : Fin 2 → Nat :=
  let c0_i32_45 : BitVec 32 := 0#32
  ![v80.toNat, 0]

def k0_chk3 (v80 : BitVec 32) : Prop :=
  (∀ a, (k0_off9 v80) a + S1x2048.size a ≤ S49152x2048.size a)
theorem k0_off9_inb : ∀ (v80 : BitVec 32) (k0_hw3 : k0_chk3 v80), ∀ a, (k0_off9 v80) a + S1x2048.size a ≤ S49152x2048.size a := fun v80 k0_hw3 => k0_hw3

def k0_off10 (i : grid0.Coords) (k0_t1 : Fin k0_t1_loop.trips) : Fin 1 → Nat :=
  let arg0 : BitVec 32 := BitVec.ofNat 32 (i 0).val
  let c128_i32 : BitVec 32 := 128#32
  let v0 : BitVec 32 := Scalar.muli arg0 c128_i32
  let c0_i32 : BitVec 32 := 0#32
  let c1_i32 : BitVec 32 := 1#32
  let arg11 : BitVec 32 := Scf.iv c0_i32 c1_i32 k0_t1
  let v84 : BitVec 32 := Scalar.addi v0 arg11
  let c4_i32_46 : BitVec 32 := 4#32
  let v85 : BitVec 32 := Scalar.muli v84 c4_i32_46
  let c3_i32 : BitVec 32 := 3#32
  let v86 : BitVec 32 := Scalar.addi v85 c3_i32
  let v87 : Index := Scalar.indexCast v86
  ![v87.toNat]
def k0_off11 (k0_t1 : Fin k0_t1_loop.trips) : Fin 3 → Nat :=
  let c3_i32_47 : BitVec 32 := 3#32
  let c0_i32 : BitVec 32 := 0#32
  let c1_i32 : BitVec 32 := 1#32
  let arg11 : BitVec 32 := Scf.iv c0_i32 c1_i32 k0_t1
  let c0_i32_48 : BitVec 32 := 0#32
  ![3, arg11.toNat, 0]
def k0_off12 (v88 : BitVec 32) : Fin 2 → Nat :=
  let c0_i32_49 : BitVec 32 := 0#32
  ![v88.toNat, 0]

def k0_chk4 (v88 : BitVec 32) : Prop :=
  (∀ a, (k0_off12 v88) a + S1x2048.size a ≤ S49152x2048.size a)
theorem k0_off12_inb : ∀ (v88 : BitVec 32) (k0_hw4 : k0_chk4 v88), ∀ a, (k0_off12 v88) a + S1x2048.size a ≤ S49152x2048.size a := fun v88 k0_hw4 => k0_hw4

@[reducible] def k0_t2_loop : Scf.Loop 32 :=
  let c0_i32_2 : BitVec 32 := 0#32
  let c128_i32_3 : BitVec 32 := 128#32
  let v2 : BitVec 32 := Scalar.addi c0_i32_2 c128_i32_3
  let c1_i32_4 : BitVec 32 := 1#32
  ⟨c0_i32_2, v2, c1_i32_4⟩
def k0_off13 (k0_t2 : Fin k0_t2_loop.trips) : Fin 3 → Nat :=
  let c0_i32_33 : BitVec 32 := 0#32
  let c0_i32_2 : BitVec 32 := 0#32
  let c1_i32_4 : BitVec 32 := 1#32
  let arg11 : BitVec 32 := Scf.iv c0_i32_2 c1_i32_4 k0_t2
  let c0_i32_34 : BitVec 32 := 0#32
  ![0, arg11.toNat, 0]
def k0_off14 (k0_t2 : Fin k0_t2_loop.trips) : Fin 3 → Nat :=
  let c1_i32_37 : BitVec 32 := 1#32
  let c0_i32_2 : BitVec 32 := 0#32
  let c1_i32_4 : BitVec 32 := 1#32
  let arg11 : BitVec 32 := Scf.iv c0_i32_2 c1_i32_4 k0_t2
  let c0_i32_38 : BitVec 32 := 0#32
  ![1, arg11.toNat, 0]
def k0_off15 (k0_t2 : Fin k0_t2_loop.trips) : Fin 3 → Nat :=
  let c2_i32 : BitVec 32 := 2#32
  let c0_i32_2 : BitVec 32 := 0#32
  let c1_i32_4 : BitVec 32 := 1#32
  let arg11 : BitVec 32 := Scf.iv c0_i32_2 c1_i32_4 k0_t2
  let c0_i32_41 : BitVec 32 := 0#32
  ![2, arg11.toNat, 0]
def k0_off16 (k0_t2 : Fin k0_t2_loop.trips) : Fin 3 → Nat :=
  let c3_i32 : BitVec 32 := 3#32
  let c0_i32_2 : BitVec 32 := 0#32
  let c1_i32_4 : BitVec 32 := 1#32
  let arg11 : BitVec 32 := Scf.iv c0_i32_2 c1_i32_4 k0_t2
  let c0_i32_44 : BitVec 32 := 0#32
  ![3, arg11.toNat, 0]
def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c128_i32 : BitVec 32 := 128#32
  let v0 : BitVec 32 := Scalar.muli arg0 c128_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c5_i32 : BitVec 32 := 5#32
  let c0_i32_4 : BitVec 32 := 0#32
  let c0_i32_5 : BitVec 32 := 0#32
  let c0_i32_6 : BitVec 32 := 0#32
  ![v17.toNat, c5_i32.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineRefIdeal.lean ====
abbrev S32768 : Shape := ⟨1, ![32768]⟩
abbrev S49152x2048 : Shape := ⟨2, ![49152, 2048]⟩
abbrev S8192x128 : Shape := ⟨2, ![8192, 128]⟩
abbrev S8192x2048 : Shape := ⟨2, ![8192, 2048]⟩
abbrev S2x12288 : Shape := ⟨2, ![2, 12288]⟩
abbrev S2048 : Shape := ⟨1, ![2048]⟩
abbrev S_ : Shape := ⟨0, ![]⟩
abbrev S32768x1 : Shape := ⟨2, ![32768, 1]⟩
abbrev S32768x2048 : Shape := ⟨2, ![32768, 2048]⟩
abbrev S8192x4x2048 : Shape := ⟨3, ![8192, 4, 2048]⟩
abbrev S8192x4 : Shape := ⟨2, ![8192, 4]⟩
abbrev S8192x4x1 : Shape := ⟨3, ![8192, 4, 1]⟩
abbrev S2x6x2048 : Shape := ⟨3, ![2, 6, 2048]⟩
abbrev S2x1x2048 : Shape := ⟨3, ![2, 1, 2048]⟩
abbrev S2x4096x2048 : Shape := ⟨3, ![2, 4096, 2048]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 61
  | .vmem => 0
  | .smem => 0
  | _ => 0

abbrev bufTy : (tb : Table) → Fin (tcTables nBuf tb) → BufTy
  | .hbm, ⟨0, _⟩ => ⟨S32768, .i32⟩
  | .hbm, ⟨1, _⟩ => ⟨S49152x2048, .f32⟩
  | .hbm, ⟨2, _⟩ => ⟨S8192x128, .f32⟩
  | .hbm, ⟨3, _⟩ => ⟨S8192x2048, .f32⟩
  | .hbm, ⟨4, _⟩ => ⟨S2x12288, .f32⟩
  | .hbm, ⟨5, _⟩ => ⟨S2048, .f32⟩
  | .hbm, ⟨6, _⟩ => ⟨S2048, .f32⟩
  | .hbm, ⟨7, _⟩ => ⟨S_, .i32⟩
  | .hbm, ⟨8, _⟩ => ⟨S32768, .i32⟩
  | .hbm, ⟨9, _⟩ => ⟨S32768, .i1⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .i32⟩
  | .hbm, ⟨14, _⟩ => ⟨S32768x1, .i32⟩
  | .hbm, ⟨15, _⟩ => ⟨S32768x2048, .f32⟩
  | .hbm, ⟨16, _⟩ => ⟨S8192x4x2048, .f32⟩
  | .hbm, ⟨17, _⟩ => ⟨S8192x4, .f32⟩
  | .hbm, ⟨18, _⟩ => ⟨S8192x4x1, .f32⟩
  | .hbm, ⟨19, _⟩ => ⟨S8192x4x2048, .f32⟩
  | .hbm, ⟨20, _⟩ => ⟨S8192x4x2048, .f32⟩
  | .hbm, ⟨21, _⟩ => ⟨S_, .f32⟩
  | .hbm, ⟨22, _⟩ => ⟨S8192x2048, .f32⟩
  | .hbm, ⟨23, _⟩ => ⟨S2x6x2048, .f32⟩
  | .hbm, ⟨24, _⟩ => ⟨S2x1x2048, .f32⟩
  | .hbm, ⟨25, _⟩ => ⟨S2x4096x2048, .f32⟩
  | .hbm, ⟨26, _⟩ => ⟨S_, .f32⟩
  | .hbm, ⟨27, _⟩ => ⟨S2x4096x2048, .f32⟩
  | .hbm, ⟨28, _⟩ => ⟨S2x4096x2048, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S2x4096x2048, .f32⟩
  | .hbm, ⟨33, _⟩ => ⟨S_, .f32⟩
  | .hbm, ⟨34, _⟩ => ⟨S2x4096, .f32⟩
  | .hbm, ⟨35, _⟩ => ⟨S2x4096x1, .f32⟩
  | .hbm, ⟨36, _⟩ => ⟨S_, .f32⟩
  | .hbm, ⟨37, _⟩ => ⟨S2x4096x1, .f32⟩
  | .hbm, ⟨38, _⟩ => ⟨S2x4096x1, .f32⟩
  | .hbm, ⟨39, _⟩ => ⟨S2x4096x2048, .f32⟩
  | .hbm, ⟨40, _⟩ => ⟨S2x4096x2048, .f32⟩
  | .hbm, ⟨41, _⟩ => ⟨S2x4096x2048, .f32⟩
  | .hbm, ⟨42, _⟩ => ⟨S_, .f32⟩
  | .hbm, ⟨43, _⟩ => ⟨S2x4096, .f32⟩
  | .hbm, ⟨44, _⟩ => ⟨S2x4096x1, .f32⟩
  | .hbm, ⟨45, _⟩ => ⟨S_, .f32⟩
  | .hbm, ⟨46, _⟩ => ⟨S2x4096x1, .f32⟩
  | .hbm, ⟨47, _⟩ => ⟨S2x4096x1, .f32⟩
  | .hbm, ⟨48, _⟩ => ⟨S_, .f32⟩
  | .hbm, ⟨49, _⟩ => ⟨S2x4096x1, .f32⟩
  | .hbm, ⟨50, _⟩ => ⟨S2x4096x1, .f32⟩
  | .hbm, ⟨51, _⟩ => ⟨S2x4096x1, .f32⟩
  | .hbm, ⟨52, _⟩ => ⟨S2x4096x2048, .f32⟩
  | .hbm, ⟨53, _⟩ => ⟨S2x4096x2048, .f32⟩
  | .hbm, ⟨54, _⟩ => ⟨S1x1x2048, .f32⟩
  | .hbm, ⟨55, _⟩ => ⟨S2x4096x2048, .f32⟩
  | .hbm, ⟨56, _⟩ => ⟨S2x4096x2048, .f32⟩
  | .hbm, ⟨57, _⟩ => ⟨S1x1x2048, .f32⟩
  | .hbm, ⟨58, _⟩ => ⟨S2x4096x2048, .f32⟩
  | .hbm, ⟨59, _⟩ => ⟨S2x4096x2048, .f32⟩
  | .hbm, ⟨60, _⟩ => ⟨S8192x2048, .f32⟩
  | _, _ => ⟨S32768, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_cst_5 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== Ada.lean ====
abbrev S2x2048 : Shape := ⟨2, ![2, 2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S1 : Shape := ⟨1, ![1]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩

abbrev nBuf : Space → Nat
  | .hbm => 10
  | .vmem => 7
  | .smem => 0
  | _ => 0

abbrev bufTy : (tb : Table) → Fin (tcTables nBuf tb) → BufTy
  | .hbm, ⟨0, _⟩ => ⟨S2x2048, .f32⟩
  | .hbm, ⟨1, _⟩ => ⟨S2048x12288, .f32⟩
  | .hbm, ⟨2, _⟩ => ⟨S12288, .f32⟩
  | .hbm, ⟨3, _⟩ => ⟨S_, .f32⟩
  | .hbm, ⟨4, _⟩ => ⟨S8x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S1x12288, .f32⟩
  | .hbm, ⟨9, _⟩ => ⟨S8x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S2x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaRefIdeal.lean ====
abbrev S2x2048 : Shape := ⟨2, ![2, 2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S1 : Shape := ⟨1, ![1]⟩
abbrev S8x12288 : Shape := ⟨2, ![8, 12288]⟩
abbrev S1x12288 : Shape := ⟨2, ![1, 12288]⟩

abbrev nBuf : Space → Nat
  | .hbm => 21
  | .vmem => 0
  | .smem => 0
  | _ => 0

abbrev bufTy : (tb : Table) → Fin (tcTables nBuf tb) → BufTy
  | .hbm, ⟨0, _⟩ => ⟨S2x2048, .f32⟩
  | .hbm, ⟨1, _⟩ => ⟨S2048x12288, .f32⟩
  | .hbm, ⟨2, _⟩ => ⟨S12288, .f32⟩
  | .hbm, ⟨3, _⟩ => ⟨S_, .f32⟩
  | .hbm, ⟨4, _⟩ => ⟨S8x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S8x12288, .f32⟩
  | .hbm, ⟨18, _⟩ => ⟨S1x12288, .f32⟩
  | .hbm, ⟨19, _⟩ => ⟨S8x12288, .f32⟩
  | .hbm, ⟨20, _⟩ => ⟨S8x12288, .f32⟩
  | _, _ => ⟨S2x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩

abbrev nD : Nat := 1
abbrev τ : Topo := Topo.v7x

variable {F : FTy → Type} [FloatOps F]
-- ==== LnMod.lean ====
abbrev S2x4096x2048 : Shape := ⟨3, ![2, 4096, 2048]⟩
abbrev S2x12288 : Shape := ⟨2, ![2, 12288]⟩
abbrev S2048x22608 : Shape := ⟨2, ![2048, 22608]⟩
abbrev S2x6x1x2048 : Shape := ⟨4, ![2, 6, 1, 2048]⟩
abbrev S2048x16 : Shape := ⟨2, ![2048, 16]⟩
abbrev S2048x64 : Shape := ⟨2, ![2048, 64]⟩
abbrev S_ : Shape := ⟨0, ![]⟩
abbrev S2048x48 : Shape := ⟨2, ![2048, 48]⟩
abbrev S2048x128 : Shape := ⟨2, ![2048, 128]⟩
abbrev S2x4096x128 : Shape := ⟨3, ![2, 4096, 128]⟩
abbrev S1x512x2048 : Shape := ⟨3, ![1, 512, 2048]⟩
abbrev S1x1x1x2048 : Shape := ⟨4, ![1, 1, 1, 2048]⟩
abbrev S1x512x128 : Shape := ⟨3, ![1, 512, 128]⟩
abbrev S512x2048 : Shape := ⟨2, ![512, 2048]⟩
abbrev S512 : Shape := ⟨1, ![512]⟩
abbrev S512x1 : Shape := ⟨2, ![512, 1]⟩
abbrev S1x2048 : Shape := ⟨2, ![1, 2048]⟩
abbrev S512x128 : Shape := ⟨2, ![512, 128]⟩

abbrev nBuf : Space → Nat
  | .hbm => 11
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S2x12288, .f32⟩
  | .hbm, ⟨2, _⟩ => ⟨S2048x22608, .f32⟩
  | .hbm, ⟨3, _⟩ => ⟨S2x6x1x2048, .f32⟩
  | .hbm, ⟨4, _⟩ => ⟨S2048x16, .f32⟩
  | .hbm, ⟨5, _⟩ => ⟨S2048x64, .f32⟩
  | .hbm, ⟨6, _⟩ => ⟨S_, .f32⟩
  | .hbm, ⟨7, _⟩ => ⟨S2048x48, .f32⟩
  | .hbm, ⟨8, _⟩ => ⟨S2048x128, .f32⟩
  | .hbm, ⟨9, _⟩ => ⟨S2x4096x2048, .bf16⟩
  | .hbm, ⟨10, _⟩ => ⟨S2x4096x128, .f32⟩
  | .local _ .vmem, ⟨0, _⟩ => ⟨S1x512x2048, .f32⟩
  | .local _ .vmem, ⟨1, _⟩ => ⟨S1x512x2048, .f32⟩
  | .local _ .vmem, ⟨2, _⟩ => ⟨S1x1x1x2048, .f32⟩
  | .local _ .vmem, ⟨3, _⟩ => ⟨S1x1x1x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S2048x128, .f32⟩
  | .local _ .vmem, ⟨7, _⟩ => ⟨S1x512x2048, .bf16⟩
  | .local _ .vmem, ⟨8, _⟩ => ⟨S1x512x2048, .bf16⟩
  | .local _ .vmem, ⟨9, _⟩ => ⟨S1x512x128, .f32⟩
  | .local _ .vmem, ⟨10, _⟩ => ⟨S1x512x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== LnModRefIdeal.lean ====
abbrev S2x4096x2048 : Shape := ⟨3, ![2, 4096, 2048]⟩
abbrev S2x12288 : Shape := ⟨2, ![2, 12288]⟩
abbrev S2048x22608 : Shape := ⟨2, ![2048, 22608]⟩
abbrev S2x2048 : Shape := ⟨2, ![2, 2048]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S2x4096x22608 : Shape := ⟨3, ![2, 4096, 22608]⟩
abbrev S2x4096x16 : Shape := ⟨3, ![2, 4096, 16]⟩
abbrev S2x4096x64 : Shape := ⟨3, ![2, 4096, 64]⟩
abbrev S2x4096x80 : Shape := ⟨3, ![2, 4096, 80]⟩
abbrev S2x4096x48 : Shape := ⟨3, ![2, 4096, 48]⟩
abbrev S2x4096x128 : Shape := ⟨3, ![2, 4096, 128]⟩

abbrev nBuf : Space → Nat
  | .hbm => 43
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x12288, .f32⟩
  | .hbm, ⟨2, _⟩ => ⟨S2048x22608, .f32⟩
  | .hbm, ⟨3, _⟩ => ⟨S2x2048, .f32⟩
  | .hbm, ⟨4, _⟩ => ⟨S2x1x2048, .f32⟩
  | .hbm, ⟨5, _⟩ => ⟨S2x2048, .f32⟩
  | .hbm, ⟨6, _⟩ => ⟨S2x1x2048, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S2x4096x2048, .f32⟩
  | .hbm, ⟨14, _⟩ => ⟨S2x4096x2048, .f32⟩
  | .hbm, ⟨15, _⟩ => ⟨S2x4096x2048, .f32⟩
  | .hbm, ⟨16, _⟩ => ⟨S_, .f32⟩
  | .hbm, ⟨17, _⟩ => ⟨S2x4096, .f32⟩
  | .hbm, ⟨18, _⟩ => ⟨S2x4096x1, .f32⟩
  | .hbm, ⟨19, _⟩ => ⟨S_, .f32⟩
  | .hbm, ⟨20, _⟩ => ⟨S2x4096x1, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x1, .f32⟩
  | .hbm, ⟨26, _⟩ => ⟨S2x4096x2048, .f32⟩
  | .hbm, ⟨27, _⟩ => ⟨S2x4096x2048, .f32⟩
  | .hbm, ⟨28, _⟩ => ⟨S_, .f32⟩
  | .hbm, ⟨29, _⟩ => ⟨S2x1x2048, .f32⟩
  | .hbm, ⟨30, _⟩ => ⟨S2x1x2048, .f32⟩
  | .hbm, ⟨31, _⟩ => ⟨S2x4096x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S2x4096x22608, .f32⟩
  | .hbm, ⟨36, _⟩ => ⟨S2x4096x16, .f32⟩
  | .hbm, ⟨37, _⟩ => ⟨S2x4096x64, .f32⟩
  | .hbm, ⟨38, _⟩ => ⟨S2x4096x80, .f32⟩
  | .hbm, ⟨39, _⟩ => ⟨S_, .f32⟩
  | .hbm, ⟨40, _⟩ => ⟨S2x4096x48, .f32⟩
  | .hbm, ⟨41, _⟩ => ⟨S2x4096x2048, .bf16⟩
  | .hbm, ⟨42, _⟩ => ⟨S2x4096x128, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Post.lean ====
abbrev S2x4096x2048 : Shape := ⟨3, ![2, 4096, 2048]⟩
abbrev S2x12288 : Shape := ⟨2, ![2, 12288]⟩
abbrev S2048 : Shape := ⟨1, ![2048]⟩
abbrev S2048x32 : Shape := ⟨2, ![2048, 32]⟩
abbrev S32 : Shape := ⟨1, ![32]⟩
abbrev S2x6x1x2048 : Shape := ⟨4, ![2, 6, 1, 2048]⟩
abbrev S_ : Shape := ⟨0, ![]⟩
abbrev S2048x96 : Shape := ⟨2, ![2048, 96]⟩
abbrev S2048x128 : Shape := ⟨2, ![2048, 128]⟩
abbrev S96 : Shape := ⟨1, ![96]⟩
abbrev S128 : Shape := ⟨1, ![128]⟩
abbrev S1x128 : Shape := ⟨2, ![1, 128]⟩
abbrev S1x2048 : Shape := ⟨2, ![1, 2048]⟩
abbrev S2x4096x128 : Shape := ⟨3, ![2, 4096, 128]⟩
abbrev S1x256x2048 : Shape := ⟨3, ![1, 256, 2048]⟩
abbrev S1x1x1x2048 : Shape := ⟨4, ![1, 1, 1, 2048]⟩
abbrev S1x256x128 : Shape := ⟨3, ![1, 256, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩

abbrev nBuf : Space → Nat
  | .hbm => 21
  | .vmem => 22
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x12288, .f32⟩
  | .hbm, ⟨3, _⟩ => ⟨S2048, .f32⟩
  | .hbm, ⟨4, _⟩ => ⟨S2048, .f32⟩
  | .hbm, ⟨5, _⟩ => ⟨S2048x32, .f32⟩
  | .hbm, ⟨6, _⟩ => ⟨S32, .f32⟩
  | .hbm, ⟨7, _⟩ => ⟨S2x6x1x2048, .f32⟩
  | .hbm, ⟨8, _⟩ => ⟨S_, .f32⟩
  | .hbm, ⟨9, _⟩ => ⟨S2048x96, .f32⟩
  | .hbm, ⟨10, _⟩ => ⟨S2048x128, .f32⟩
  | .hbm, ⟨11, _⟩ => ⟨S_, .f32⟩
  | .hbm, ⟨12, _⟩ => ⟨S96, .f32⟩
  | .hbm, ⟨13, _⟩ => ⟨S128, .f32⟩
  | .hbm, ⟨14, _⟩ => ⟨S1x128, .f32⟩
  | .hbm, ⟨15, _⟩ => ⟨S1x2048, .f32⟩
  | .hbm, ⟨16, _⟩ => ⟨S1x2048, .f32⟩
  | .hbm, ⟨17, _⟩ => ⟨S2x4096x2048, .f32⟩
  | .hbm, ⟨18, _⟩ => ⟨S2x4096x2048, .f32⟩
  | .hbm, ⟨19, _⟩ => ⟨S2x4096x128, .i32⟩
  | .hbm, ⟨20, _⟩ => ⟨S2x4096x128, .f32⟩
  | .local _ .vmem, ⟨0, _⟩ => ⟨S1x256x2048, .f32⟩
  | .local _ .vmem, ⟨1, _⟩ => ⟨S1x256x2048, .f32⟩
  | .local _ .vmem, ⟨2, _⟩ => ⟨S1x256x2048, .f32⟩
  | .local _ .vmem, ⟨3, _⟩ => ⟨S1x256x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1x2048, .f32⟩
  | .local _ .vmem, ⟨7, _⟩ => ⟨S1x1x1x2048, .f32⟩
  | .local _ .vmem, ⟨8, _⟩ => ⟨S1x1x1x2048, .f32⟩
  | .local _ .vmem, ⟨9, _⟩ => ⟨S1x1x1x2048, .f32⟩
  | .local _ .vmem, ⟨10, _⟩ => ⟨S1x2048, .f32⟩
  | .local _ .vmem, ⟨11, _⟩ => ⟨S1x2048, .f32⟩
  | .local _ .vmem, ⟨12, _⟩ => ⟨S2048x128, .f32⟩
  | .local _ .vmem, ⟨13, _⟩ => ⟨S1x128, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | .local _ .vmem, ⟨17, _⟩ => ⟨S1x256x2048, .f32⟩
  | .local _ .vmem, ⟨18, _⟩ => ⟨S1x256x128, .i32⟩
  | .local _ .vmem, ⟨19, _⟩ => ⟨S1x256x128, .i32⟩
  | .local _ .vmem, ⟨20, _⟩ => ⟨S1x256x128, .f32⟩
  | .local _ .vmem, ⟨21, _⟩ => ⟨S1x256x128, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== PostRefIdeal.lean ====
abbrev S2x4096x2048 : Shape := ⟨3, ![2, 4096, 2048]⟩
abbrev S2x12288 : Shape := ⟨2, ![2, 12288]⟩
abbrev S2048 : Shape := ⟨1, ![2048]⟩
abbrev S2048x32 : Shape := ⟨2, ![2048, 32]⟩
abbrev S32 : Shape := ⟨1, ![32]⟩
abbrev S2x2048 : Shape := ⟨2, ![2, 2048]⟩
abbrev S2x1x2048 : Shape := ⟨3, ![2, 1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩

abbrev nBuf : Space → Nat
  | .hbm => 74
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S2x12288, .f32⟩
  | .hbm, ⟨3, _⟩ => ⟨S2048, .f32⟩
  | .hbm, ⟨4, _⟩ => ⟨S2048, .f32⟩
  | .hbm, ⟨5, _⟩ => ⟨S2048x32, .f32⟩
  | .hbm, ⟨6, _⟩ => ⟨S32, .f32⟩
  | .hbm, ⟨7, _⟩ => ⟨S2x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S2x2048, .f32⟩
  | .hbm, ⟨12, _⟩ => ⟨S2x1x2048, .f32⟩
  | .hbm, ⟨13, _⟩ => ⟨S_, .f32⟩
  | .hbm, ⟨14, _⟩ => ⟨S2x4096x2048, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S2x4096x2048, .f32⟩
  | .hbm, ⟨19, _⟩ => ⟨S_, .f32⟩
  | .hbm, ⟨20, _⟩ => ⟨S2x4096, .f32⟩
  | .hbm, ⟨21, _⟩ => ⟨S2x4096x1, .f32⟩
  | .hbm, ⟨22, _⟩ => ⟨S_, .f32⟩
  | .hbm, ⟨23, _⟩ => ⟨S2x4096x1, .f32⟩
  | .hbm, ⟨24, _⟩ => ⟨S2x4096x1, .f32⟩
  | .hbm, ⟨25, _⟩ => ⟨S2x4096x2048, .f32⟩
  | .hbm, ⟨26, _⟩ => ⟨S2x4096x2048, .f32⟩
  | .hbm, ⟨27, _⟩ => ⟨S2x4096x2048, .f32⟩
  | .hbm, ⟨28, _⟩ => ⟨S_, .f32⟩
  | .hbm, ⟨29, _⟩ => ⟨S2x4096, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S_, .f32⟩
  | .hbm, ⟨35, _⟩ => ⟨S2x4096x1, .f32⟩
  | .hbm, ⟨36, _⟩ => ⟨S2x4096x1, .f32⟩
  | .hbm, ⟨37, _⟩ => ⟨S2x4096x1, .f32⟩
  | .hbm, ⟨38, _⟩ => ⟨S2x4096x2048, .f32⟩
  | .hbm, ⟨39, _⟩ => ⟨S2x4096x2048, .f32⟩
  | .hbm, ⟨40, _⟩ => ⟨S1x1x2048, .f32⟩
  | .hbm, ⟨41, _⟩ => ⟨S2x4096x2048, .f32⟩
  | .hbm, ⟨42, _⟩ => ⟨S2x4096x2048, .f32⟩
  | .hbm, ⟨43, _⟩ => ⟨S1x1x2048, .f32⟩
  | .hbm, ⟨44, _⟩ => ⟨S2x4096x2048, .f32⟩
  | .hbm, ⟨45, _⟩ => ⟨S2x4096x2048, .f32⟩
  | .hbm, ⟨46, _⟩ => ⟨S_, .f32⟩
  | .hbm, ⟨47, _⟩ => ⟨S2x4096, .f32⟩
  | .hbm, ⟨48, _⟩ => ⟨S2x4096x1, .f32⟩
  | .hbm, ⟨49, _⟩ => ⟨S_, .f32⟩
  | .hbm, ⟨50, _⟩ => ⟨S2x4096x1, .f32⟩
  | .hbm, ⟨51, _⟩ => ⟨S2x4096x1, .f32⟩
  | .hbm, ⟨52, _⟩ => ⟨S2x4096x2048, .f32⟩
  | .hbm, ⟨53, _⟩ => ⟨S2x4096x2048, .f32⟩
  | .hbm, ⟨54, _⟩ => ⟨S2x4096x2048, .f32⟩
  | .hbm, ⟨55, _⟩ => ⟨S_, .f32⟩
  | .hbm, ⟨56, _⟩ => ⟨S2x4096, .f32⟩
  | .hbm, ⟨57, _⟩ => ⟨S2x4096x1, .f32⟩
  | .hbm, ⟨58, _⟩ => ⟨S_, .f32⟩
  | .hbm, ⟨59, _⟩ => ⟨S2x4096x1, .f32⟩
  | .hbm, ⟨60, _⟩ => ⟨S2x4096x1, .f32⟩
  | .hbm, ⟨61, _⟩ => ⟨S_, .f32⟩
  | .hbm, ⟨62, _⟩ => ⟨S2x4096x1, .f32⟩
  | .hbm, ⟨63, _⟩ => ⟨S2x4096x1, .f32⟩
  | .hbm, ⟨64, _⟩ => ⟨S2x4096x1, .f32⟩
  | .hbm, ⟨65, _⟩ => ⟨S2x4096x2048, .f32⟩
  | .hbm, ⟨66, _⟩ => ⟨S2x4096x2048, .f32⟩
  | .hbm, ⟨67, _⟩ => ⟨S_, .f32⟩
  | .hbm, ⟨68, _⟩ => ⟨S2x1x2048, .f32⟩
  | .hbm, ⟨69, _⟩ => ⟨S2x1x2048, .f32⟩
  | .hbm, ⟨70, _⟩ => ⟨S2x4096x2048, .f32⟩
  | .hbm, ⟨71, _⟩ => ⟨S2x4096x2048, .f32⟩
  | .hbm, ⟨72, _⟩ => ⟨S2x4096x2048, .f32⟩
  | .hbm, ⟨73, _⟩ => ⟨S2x4096x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩

abbrev nD : Nat := 1
abbrev τ : Topo := Topo.v7x

variable {F : FTy → Type} [FloatOps F]
-- ==== Proof.MergeValue.lean ====
/-
  The gated merge: each tile of the kernel holds whole rows of the two branches and whole columns of their weights, and
  the gates' columns at the same place of the projection's last two groups. So a tile's element is the reference's.
-/
module

public import proofs.«01_k».proof.Defs
public import proofs.«01_k».proof.Proof.Gen.MergeIdeal.Value
public import proofs.«01_k».proof.Proof.Gen.MergeRefIdeal.Run
public import Idealize.ShloMosaic.Lib.Pipeline.ValueKit
public import Idealize.ShloMosaic.Lib.Pointwise

@[expose] public section

set_option maxRecDepth 16384

noncomputable section

namespace Cert.MergeValue

open Idealize.ShloMosaic Idealize.ShloMosaic.TcCoe Idealize.SL.Sem
open Cert.MergeIdeal Cert.MergeIdeal.Gen

/-- The merged branches, element by element: each branch's product under its gate, the gates the two last groups of
    2048 columns of the projection. -/
def merged (hm : Vec Ideal S8192x2048 .bf16) (o : Vec Ideal S8192x4096 .bf16) (wa : Vec Ideal S2048x2048 .f32)
    (wb : Vec Ideal S4096x2048 .f32) (p : Vec Ideal S8192x22528 .bf16) : Vec Ideal S8192x2048 .bf16 :=
  truncf .bf16 (fun j => logistic (F := Ideal) (φ := .f32) (fun i : S8192x2048.Idx => p (ix2 (i 0) ⟨18432 + (i 1).val, by have := (i 1).isLt; simp at this; omega⟩)) j
      * (∑ k : Fin 2048, hm (ix2 (j 0) k) * wa (ix2 k (j 1)))
    + logistic (F := Ideal) (φ := .f32) (fun i : S8192x2048.Idx => p (ix2 (i 0) ⟨20480 + (i 1).val, by have := (i 1).isLt; simp at this; omega⟩)) j
      * (∑ k : Fin 4096, o (ix2 (j 0) k) * wb (ix2 k (j 1)))) bitsLt_bf16_f32

variable (m : (ℓ : Loc nD τ sig) → Buf (Elt Ideal) ℓ)

/-- After the run the result array holds the merged branches, tile by tile. -/
theorem final (c : Dev nD) : (dats m 0 c).arrAt 6 cfg0.N
    = merged (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 6 _ (by decide +kernel) fun t hf y => ?_
  blk_simp
  rw [after0_6]
  frame_out
  pointwise [k0_pay1, merged]
  have idx : ∀ t : Fin grid0.N, win0_0.index t = ![(grid0.coords t 1).val, 0]
      ∧ win0_1.index t = ![(grid0.coords t 1).val, 0]
      ∧ win0_2.index t = ![0, (grid0.coords t 0).val]
      ∧ win0_3.index t = ![0, (grid0.coords t 0).val]
      ∧ win0_4.index t = ![(grid0.coords t 1).val, 36 + (grid0.coords t 0).val]
      ∧ win0_5.index t = ![(grid0.coords t 1).val, 40 + (grid0.coords t 0).val]
      ∧ win0_6.index t = ![(grid0.coords t 1).val, (grid0.coords t 0).val] := by decide +kernel
  blk_point [iblk, V, idx t]

/-- The kernel's result and the reference's are the same merge. -/
theorem algebraic : Cert.algebraic_MergeIdeal_MergeRefIdeal := by
  intro m g m' g' _ hagree
  refine ⟨fun c => merged (m ((c : Thread nD τ).loc main_arg0)) (m ((c : Thread nD τ).loc main_arg1)) (m ((c : Thread nD τ).loc main_arg2))
      (m ((c : Thread nD τ).loc main_arg3)) (m ((c : Thread nD τ).loc main_arg4)), ?_, ?_⟩
  · exact (θ_run defs _ _).mono (fun r h c => ⟨(h c).1.trans (final m c), (h c).2⟩)
      (Cert.MergeIdeal.Value.run_blocks m g)
  · refine (θ_run Cert.MergeRefIdeal.defs _ _).mono (fun r h c => ⟨(h c).1.trans ?_, (h c).2⟩)
      (Cert.MergeRefIdeal.Value.run m' g')
    rw [(hagree c).1, (hagree c).2.1, (hagree c).2.2.1, (hagree c).2.2.2.1, (hagree c).2.2.2.2]
    funext j
    pointwise [merged]
    rfl

end Cert.MergeValue

end
-- ==== Proof.InProjValue.lean ====
/-
  The output projection: a tiled product on the kernel's side, one product on the reference's. Each tile holds whole rows
  of the left operand and whole columns of the right one, so a tile's element is the full sum.
-/
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.Pointwise

@[expose] public section

set_option maxRecDepth 16384

noncomputable section

namespace Cert.InProjValue

open Idealize.ShloMosaic Idealize.ShloMosaic.TcCoe Idealize.SL.Sem
open Cert.InProjIdeal Cert.InProjIdeal.Gen

/-- Where column `j` of the kept columns stands in the whole projection: the two groups of small gates are left out. -/
def col (j : Fin 22528) : Fin 22608 :=
  if j.val < 4096 then ⟨j.val, by omega⟩ else if j.val < 14336 then ⟨j.val + 16, by omega⟩ else ⟨j.val + 80, by omega⟩

theorem col_val (j : Fin 22528) : (col j).val = if j.val < 4096 then j.val else if j.val < 14336 then j.val + 16 else j.val + 80 := by
  unfold col; split
  · rfl
  · split <;> rfl

theorem col_a {j : Fin 22528} {x : Fin 22608} (h : j.val < 4096) (hx : x.val = j.val) : x.val = (col j).val := by
  rw [col_val, if_pos h, hx]
theorem col_b {j : Fin 22528} {x : Fin 22608} (h : ¬ j.val < 4096) (h' : j.val - 4096 < 10240)
    (hx : x.val = 4112 + (j.val - 4096)) : x.val = (col j).val := by
  rw [col_val, if_neg h, if_pos (by omega), hx]; omega
theorem col_c {j : Fin 22528} {x : Fin 22608} (h : ¬ j.val < 4096) (h' : ¬ j.val - 4096 < 10240)
    (hx : x.val = 14416 + (j.val - 4096 - 10240)) : x.val = (col j).val := by
  rw [col_val, if_neg h, if_neg (by omega), hx]; omega

/-- The product of the activations with the kept columns of the weights, element by element. -/
def prod (a : Vec Ideal S8192x2048 .bf16) (w : Vec Ideal S2048x22608 .f32) : Vec Ideal S8192x22528 .bf16 :=
  fun j => (∑ k : Fin 2048, a (ix2 (j 0) k) * w (ix2 k (col (j 1))) : EReal)

/-- A plain product, element by element. -/
def plain (a : Vec Ideal S8192x2048 .bf16) (w : Vec Ideal S2048x22528 .bf16) : Vec Ideal S8192x22528 .bf16 :=
  fun j => (∑ k : Fin 2048, a (ix2 (j 0) k) * w (ix2 k (j 1)) : EReal)

theorem prod_at (a : Vec Ideal S8192x2048 .bf16) (w : Vec Ideal S2048x22608 .f32) (i : Fin 8192) (j : Fin 22528)
    (x : Fin 22608) (hx : x.val = (col j).val) :
    (∑ k : Fin 2048, a (ix2 i k) * w (ix2 k x) : EReal) = ∑ k : Fin 2048, a (ix2 i k) * w (ix2 k (col j)) := by
  rw [Fin.ext hx]

/-- A plain product with the kept columns is the product above. -/
theorem plain_eq (a : Vec Ideal S8192x2048 .bf16) (w : Vec Ideal S2048x22528 .bf16) (w' : Vec Ideal S2048x22608 .f32)
    (h : ∀ (k : Fin 2048) (n : Fin 22528), w (ix2 k n) = w' (ix2 k (col n))) : plain a w = prod a w' := by
  funext j
  exact Finset.sum_congr rfl fun k _ => congrArg (fun x : EReal => (a (ix2 (j 0) k) : EReal) * x) (h k (j 1))

variable (m : (ℓ : Loc nD τ sig) → Buf (Elt Ideal) ℓ)

/-- The weights the kernel's windows read: the kept columns of the weights, one after the other. -/
theorem entry (c : Dev nD) (k : Fin 2048) (n : Fin 22528) :
    V m c main_v4 (ix2 k n) = m ((c : Thread nD τ).loc main_arg1) (ix2 k (col n)) := by
  have h : (V m c main_v4 : Vec Ideal S2048x22528 .bf16) = truncf (F := Ideal) .bf16 (concatenate S2048x22528 1
      [⟨S2048x4096, (extractStridedSlice S2048x4096 ![0, 0] (m ((c : Thread nD τ).loc main_arg1)) slices_S2048x22608_S2048x4096_0_0 : Vec Ideal S2048x4096 .f32)⟩,
        ⟨S2048x10240, (extractStridedSlice S2048x10240 ![0, 4112] (m ((c : Thread nD τ).loc main_arg1)) slices_S2048x22608_S2048x10240_0_4112 : Vec Ideal S2048x10240 .f32)⟩,
        ⟨S2048x8192, (extractStridedSlice S2048x8192 ![0, 14416] (m ((c : Thread nD τ).loc main_arg1)) slices_S2048x22608_S2048x8192_0_14416 : Vec Ideal S2048x8192 .f32)⟩]
      concatenates_S2048x4096_S2048x10240_S2048x8192_S2048x22528_d1 : Vec Ideal S2048x22528 .f32) bitsLt_bf16_f32 := by
    show StableHlo.after hostOps0 (fun b => m (c, b)) main_v4 = _
    after_results <;> rfl
  rw [h]
  pointwise
  have hn := n.isLt
  have key : ∀ x : Fin 22608, x.val = (col n).val → m ((c : Thread nD τ).loc main_arg1) (ix2 k x) = m ((c : Thread nD τ).loc main_arg1) (ix2 k (col n)) :=
    fun x hx => by rw [Fin.ext hx]
  split
  · exact key _ (col_a ‹_› rfl)
  · rename_i h1
    split
    · exact key _ (col_b h1 ‹_› rfl)
    · exact key _ (col_c h1 ‹_› rfl)

/-- After the run the result array holds the product of the arrays the windows read: block `(i, j)` is written once,
    from row block `i` and column block `j`. -/
theorem blocks (c : Dev nD) : (dats m 0 c).arrAt 2 cfg0.N = plain (V m c main_arg0) (V m c main_v4) := by
  refine (dats m 0 c).arrAt_eq_of_covers 2 _ (by decide +kernel) fun t hf y => ?_
  blk_simp
  rw [after0_2]
  frame_out
  have idx : ∀ t : Fin grid0.N, win0_0.index t = ![(grid0.coords t 1).val, 0]
      ∧ win0_1.index t = ![0, (grid0.coords t 0).val]
      ∧ win0_2.index t = ![(grid0.coords t 1).val, (grid0.coords t 0).val] := by decide +kernel
  pointwise [k0_pay1, plain]
  blk_point [iblk, idx t]

/-- So it holds the product with the kept columns. -/
theorem final (c : Dev nD) : (dats m 0 c).arrAt 2 cfg0.N
    = prod (m ((c : Thread nD τ).loc main_arg0)) (m ((c : Thread nD τ).loc main_arg1)) := by
  rw [blocks, V_main_arg0]
  exact plain_eq _ _ _ (entry m c)

/-- The kernel's result and the reference's are the same product. -/
theorem algebraic : Cert.algebraic_InProjIdeal_InProjRefIdeal := by
  intro m g m' g' _ hagree
  refine ⟨fun c => prod (m ((c : Thread nD τ).loc main_arg0)) (m ((c : Thread nD τ).loc main_arg1)), ?_, ?_⟩
  · exact (θ_run defs _ _).mono (fun r h c => ⟨(h c).1.trans (final m c), (h c).2⟩)
      (Cert.InProjIdeal.Value.run_blocks m g)
  · refine (θ_run Cert.InProjRefIdeal.defs _ _).mono (fun r h c => ⟨(h c).1.trans ?_, (h c).2⟩)
      (Cert.InProjRefIdeal.Value.run m' g')
    rw [(hagree c).1, (hagree c).2]
    funext j
    idx_vars j
    pointwise [prod]
    have hj := j1.isLt
    split
    · exact prod_at _ _ _ _ _ (col_a ‹_› rfl)
    · rename_i h1
      split
      · exact prod_at _ _ _ _ _ (col_b h1 ‹_› rfl)
      · exact prod_at _ _ _ _ _ (col_c h1 ‹_› rfl)

end Cert.InProjValue

end
-- ==== Proof.OutProjValue.lean ====
/-
  The output projection: a tiled product on the kernel's side, one product on the reference's. Each tile holds whole rows
  of the left operand and whole columns of the right one, so a tile's element is the full sum.
-/
module

public import proofs.«01_k».proof.Defs
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise

@[expose] public section

set_option maxRecDepth 16384

noncomputable section

namespace Cert.OutProjValue

open Idealize.ShloMosaic Idealize.ShloMosaic.TcCoe Idealize.SL.Sem
open Cert.OutProjIdeal Cert.OutProjIdeal.Gen

/-- The product of the merged activations with the output weights, element by element. -/
def prod (a : Vec Ideal S8192x2048 .bf16) (w : Vec Ideal S2048x2048 .f32) : Vec Ideal S8192x2048 .f32 :=
  fun j => ∑ k : Fin 2048, a (ix2 (j 0) k) * w (ix2 k (j 1))

variable (m : (ℓ : Loc nD τ sig) → Buf (Elt Ideal) ℓ)

/-- After the run the result array holds the product: block `(i, j)` is written once, from row block `i` and column block `j`. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay1, prod]
  have idx : ∀ t : Fin grid0.N, win0_0.index t = ![(grid0.coords t 1).val, 0]
      ∧ win0_1.index t = ![0, (grid0.coords t 0).val]
      ∧ win0_2.index t = ![(grid0.coords t 1).val, (grid0.coords t 0).val] := by decide +kernel
  blk_point [iblk, V, idx t]

/-- The kernel's result and the reference's are the same product. -/
theorem algebraic : Cert.algebraic_OutProjIdeal_OutProjRefIdeal := by
  intro m g m' g' _ hagree
  refine ⟨fun c => prod (m ((c : Thread nD τ).loc main_arg0)) (m ((c : Thread nD τ).loc main_arg1)), ?_, ?_⟩
  · exact (θ_run defs _ _).mono (fun r h c => ⟨(h c).1.trans (final m c), (h c).2⟩)
      (Cert.OutProjIdeal.Value.run_blocks m g)
  · refine (θ_run Cert.OutProjRefIdeal.defs _ _).mono (fun r h c => ⟨(h c).1.trans ?_, (h c).2⟩)
      (Cert.OutProjRefIdeal.Value.run m' g')
    rw [(hagree c).1, (hagree c).2]
    funext j
    pointwise [prod]

end Cert.OutProjValue

end
-- ==== Proof.ExpertsRunI.lean ====
/-
  One call of the experts' kernel body. The body is a sequence of loads and whole stores under three
  conditions; `body_run` says what the output buffer and the scratch hold afterwards as functions of what
  the staging buffers held before, whatever the conditions are.
-/
module

public import proofs.«01_k».proof.Proof.Gen.ExpertsIdeal
public import proofs.«01_k».proof.Proof.Gen.ExpertsIdeal.Launch
public import proofs.«01_k».proof.Proof.Gen.ExpertsIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.ExpertsIdeal.Own

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two tables as the body is handed them. -/
abbrev tab0 : Memref sig .tc .smem S96 .i32 := Memref.whole main_v24
abbrev tab1 : Memref sig .tc .smem S1 .i32 := Memref.whole main_arg1

/-- A table held at half the full share: the pipeline keeps the other half. -/
abbrev tabHeld (c : Dev nD) {S : Shape} {e : EltTy} (M : Memref sig .tc .smem S e)
    (f : Buf (Elt F) (M.view.loc (c : Thread nD τ))) : sProp 𝕄 :=
  M.view.loc (c : Thread nD τ) ↦{fullShare.right} f

/-- The word of the second table: how many blocks are in use. -/
abbrev word (c : Dev nD) (t1 : Buf (Elt F) (tab1.view.loc (c : Thread nD τ))) : BitVec 32 :=
  tab1.view.readAt (Elt F) (Rect.unit (s := S1) ![0] S1.size inb_S1_S1_0).toLoadRect t1
    (Shape.Idx.first (numel1_S1.symm ▸ Nat.one_pos))

/-- The output after one step on a block in use: what it held plus the slice's product. -/
def nextOut (o : Vec F S512x2048 .f32) (s : Vec F S512x2048 .bf16) (x1 x2 : Vec F S1x2048x512 .bf16)
    (x3 x4 : Vec F S1x1x512 .f32) (x5 : Vec F S1x512x2048 .f32) : Vec F S512x2048 .f32 :=
  k0_pay2 (k0_pay5 o) (k0_pay6 s x1 x3 x2 x4) x5

/-- The scratch after the body. -/
def scAfter (i : grid0.Coords) (w : BitVec 32) (x0 : Vec F S512x2048 .f32) (s : Vec F S512x2048 .bf16) :
    Vec F S512x2048 .bf16 :=
  if k0_cond2 i w = 1#1 then (if k0_cond3 i = 1#1 then k0_pay3 x0 else s) else s

/-- The output buffer after the body. -/
def outAfter (i : grid0.Coords) (w : BitVec 32) (x0 : Vec F S512x2048 .f32) (x1 x2 : Vec F S1x2048x512 .bf16)
    (x3 x4 : Vec F S1x1x512 .f32) (x5 : Vec F S1x512x2048 .f32) (x6 : Vec F S1x1x2048 .f32)
    (o : Vec F S512x2048 .f32) (s : Vec F S512x2048 .bf16) : Vec F S512x2048 .f32 :=
  if k0_cond2 i w = 1#1 then
    (if k0_cond3 i = 1#1 then nextOut (k0_pay4 x6) (k0_pay3 x0) x1 x2 x3 x4 x5
      else nextOut (if k0_cond1 i w = 1#1 then k0_pay1 else o) s x1 x2 x3 x4 x5)
  else if k0_cond1 i w = 1#1 then k0_pay1 else o

/-! A load or a store of a whole buffer, at the shapes the body uses. -/

theorem put_all {e : EltTy} (v : View sig .tc .vmem S512x2048 e) (f : v.ty.Contents (Elt F))
    (inb : ∀ a, (![0, 0] : Fin 2 → ℕ) a + (![512, 2048] : Fin 2 → ℕ) a ≤ S512x2048.size a) (w : Vec F S512x2048 e)
    (L : List (View.Piece (Elt F) S512x2048 e)) :
    v.read (Elt F) (v.writes (Elt F) f (⟨Rect.unit (s := S512x2048) ![0, 0] ![512, 2048] inb, w⟩ :: L)) = w :=
  View.read_writes_full (s := S512x2048) v f inb w L
theorem cov_all {e : EltTy} (v : View sig .tc .vmem S512x2048 e)
    (inb inb' : ∀ a, (![0, 0] : Fin 2 → ℕ) a + (![512, 2048] : Fin 2 → ℕ) a ≤ S512x2048.size a) (w : Vec F S512x2048 e)
    (L : List (View.Piece (Elt F) S512x2048 e)) :
    v.readCov (⟨Rect.unit (s := S512x2048) ![0, 0] ![512, 2048] inb', w⟩ :: L)
      (Rect.unit (s := S512x2048) ![0, 0] ![512, 2048] inb).toLoadRect = w :=
  View.readCov_full (s := S512x2048) v inb inb' w L
theorem get_a {e : EltTy} (v : View sig .tc .vmem S512x2048 e) (f : v.ty.Contents (Elt F))
    (inb : ∀ a, (![0, 0] : Fin 2 → ℕ) a + (![512, 2048] : Fin 2 → ℕ) a ≤ S512x2048.size a) :
    v.readAt (Elt F) (Rect.unit (s := S512x2048) ![0, 0] ![512, 2048] inb).toLoadRect f = v.read (Elt F) f :=
  View.readAt_full (s := S512x2048) v f inb
theorem get_b {e : EltTy} (v : View sig .tc .vmem S1x2048x512 e) (f : v.ty.Contents (Elt F))
    (inb : ∀ a, (![0, 0, 0] : Fin 3 → ℕ) a + (![1, 2048, 512] : Fin 3 → ℕ) a ≤ S1x2048x512.size a) :
    v.readAt (Elt F) (Rect.unit (s := S1x2048x512) ![0, 0, 0] ![1, 2048, 512] inb).toLoadRect f = v.read (Elt F) f :=
  View.readAt_full (s := S1x2048x512) v f inb
theorem get_c {e : EltTy} (v : View sig .tc .vmem S1x1x512 e) (f : v.ty.Contents (Elt F))
    (inb : ∀ a, (![0, 0, 0] : Fin 3 → ℕ) a + (![1, 1, 512] : Fin 3 → ℕ) a ≤ S1x1x512.size a) :
    v.readAt (Elt F) (Rect.unit (s := S1x1x512) ![0, 0, 0] ![1, 1, 512] inb).toLoadRect f = v.read (Elt F) f :=
  View.readAt_full (s := S1x1x512) v f inb
theorem get_d {e : EltTy} (v : View sig .tc .vmem S1x512x2048 e) (f : v.ty.Contents (Elt F))
    (inb : ∀ a, (![0, 0, 0] : Fin 3 → ℕ) a + (![1, 512, 2048] : Fin 3 → ℕ) a ≤ S1x512x2048.size a) :
    v.readAt (Elt F) (Rect.unit (s := S1x512x2048) ![0, 0, 0] ![1, 512, 2048] inb).toLoadRect f = v.read (Elt F) f :=
  View.readAt_full (s := S1x512x2048) v f inb
theorem get_e {e : EltTy} (v : View sig .tc .vmem S1x1x2048 e) (f : v.ty.Contents (Elt F))
    (inb : ∀ a, (![0, 0, 0] : Fin 3 → ℕ) a + (![1, 1, 2048] : Fin 3 → ℕ) a ≤ S1x1x2048.size a) :
    v.readAt (Elt F) (Rect.unit (s := S1x1x2048) ![0, 0, 0] ![1, 1, 2048] inb).toLoadRect f = v.read (Elt F) f :=
  View.readAt_full (s := S1x1x2048) v f inb

section Run

variable (c : Dev nD) (i : grid0.Coords)
  (a4 : Memref sig .tc .vmem S512x2048 .f32) (a5 a6 : Memref sig .tc .vmem S1x2048x512 .bf16)
  (a7 a8 : Memref sig .tc .vmem S1x1x512 .f32) (a9 : Memref sig .tc .vmem S1x512x2048 .f32)
  (a10 : Memref sig .tc .vmem S1x1x2048 .f32) (a11 : Memref sig .tc .vmem S512x2048 .f32)
  (a12 : Memref sig .tc .vmem S512x2048 .bf16)
  (h4 : a4.IsWhole) (h5 : a5.IsWhole) (h6 : a6.IsWhole) (h7 : a7.IsWhole) (h8 : a8.IsWhole) (h9 : a9.IsWhole)
  (h10 : a10.IsWhole) (h11 : a11.IsWhole) (h12 : a12.IsWhole)
  (x0 : Vec F S512x2048 .f32) (x1 x2 : Vec F S1x2048x512 .bf16)
  (x3 x4 : Vec F S1x1x512 .f32) (x5 : Vec F S1x512x2048 .f32) (x6 : Vec F S1x1x2048 .f32)
  (t0 : Buf (Elt F) (tab0.view.loc (c : Thread nD τ))) (t1 : Buf (Elt F) (tab1.view.loc (c : Thread nD τ)))
  (o : Vec F S512x2048 .f32) (s : Vec F S512x2048 .bf16)

/-- What the body works on: the seven input blocks, the output, the scratch, the two tables. -/
def held (o : Vec F S512x2048 .f32) (s : Vec F S512x2048 .bf16) : sProp 𝕄 :=
  iprop(owns (c : Thread nD τ) a4 fullShare x0 ∗ owns (c : Thread nD τ) a5 fullShare x1
    ∗ owns (c : Thread nD τ) a6 fullShare x2 ∗ owns (c : Thread nD τ) a7 fullShare x3
    ∗ owns (c : Thread nD τ) a8 fullShare x4 ∗ owns (c : Thread nD τ) a9 fullShare x5
    ∗ owns (c : Thread nD τ) a10 fullShare x6 ∗ owns (c : Thread nD τ) a11 fullShare o
    ∗ owns (c : Thread nD τ) a12 fullShare s ∗ tabHeld c tab0 t0 ∗ tabHeld c tab1 t1)

set_option maxHeartbeats 1000000 in
theorem body_run (E : Set ℕ) (K : PUnit → sProp 𝕄) :
    iprop(held c a4 a5 a6 a7 a8 a9 a10 a11 a12 x0 x1 x2 x3 x4 x5 x6 t0 t1 o s
        ∗ (held c a4 a5 a6 a7 a8 a9 a10 a11 a12 x0 x1 x2 x3 x4 x5 x6 t0 t1
            (outAfter i (word c t1) x0 x1 x2 x3 x4 x5 x6 o s) (scAfter i (word c t1) x0 s) -∗ K ⟨⟩))
      ⊢ wp frame (wpE (defs₀ (F := F)) Variants.none c none) E
          (cc0_moe_experts i tab0 (Memref.isWhole_whole _) tab1 (Memref.isWhole_whole _) a4 h4 a5 h5 a6 h6 a7 h7 a8 h8
            a9 h9 a10 h10 a11 h11 a12 h12) K := by
  simp only [cc0_moe_experts_eq_skeleton]; unfold cc0_moe_experts_skel
  simp only [k0_part1_eq_skeleton]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, HT0, HT1⟩, Hk⟩
  obtain rfl := h4.eq_unread hf0; obtain rfl := h5.eq_unread hf1; obtain rfl := h6.eq_unread hf2
  obtain rfl := h7.eq_unread hf3; obtain rfl := h8.eq_unread hf4; obtain rfl := h9.eq_unread hf5
  obtain rfl := h10.eq_unread hf6; obtain rfl := h11.eq_unread hf7; obtain rfl := h12.eq_unread hfs0
  by_cases c1 : k0_cond1 i (word c t1) = 1#1 <;> by_cases c2 : k0_cond2 i (word c t1) = 1#1 <;>
    by_cases c3 : k0_cond3 i = 1#1
  all_goals
    sl_exec (disch := first | sl_exact c1 | sl_exact c2 | sl_exact c3)
    sl_step
    iapply Hk
    isplitl [H0]
    · iexists _; isplitr; · ipureintro; exact h4.read_unread _
      iexact H0
    isplitl [H1]
    · iexists _; isplitr; · ipureintro; exact h5.read_unread _
      iexact H1
    isplitl [H2]
    · iexists _; isplitr; · ipureintro; exact h6.read_unread _
      iexact H2
    isplitl [H3]
    · iexists _; isplitr; · ipureintro; exact h7.read_unread _
      iexact H3
    isplitl [H4]
    · iexists _; isplitr; · ipureintro; exact h8.read_unread _
      iexact H4
    isplitl [H5]
    · iexists _; isplitr; · ipureintro; exact h9.read_unread _
      iexact H5
    isplitl [H6]
    · iexists _; isplitr; · ipureintro; exact h10.read_unread _
      iexact H6
    isplitl [H7]
    · iexists _; isplitr
      swap; · iexact H7
      ipureintro
      unfold outAfter nextOut
      try sl_unfold_run_names
      simp only [c1, c2, c3, if_true, if_false, put_all, cov_all, get_a, get_b, get_c, get_d, get_e, View.writes_nil, h4.read_unread, h5.read_unread, h6.read_unread, h7.read_unread, h8.read_unread, h9.read_unread, h10.read_unread,
        h11.read_unread, h12.read_unread]
    isplitl [HS0]
    · iexists _; isplitr
      swap; · iexact HS0
      ipureintro
      unfold scAfter
      try sl_unfold_run_names
      simp only [c1, c2, c3, if_true, if_false, put_all, cov_all, get_a, View.writes_nil, h4.read_unread, h12.read_unread]
    isplitl [HT0]; · iexact HT0
    iexact HT1

end Run

end Cert.ExpertsIdeal.Own

end
-- ==== Proof.ExpertsSetupI.lean ====
/-
  The experts' call set up for its launch: what the host lines leave the call, the contents of its two tables,
  the windows' blocks, and where the grid's points begin and end an output block.
-/
module

public import proofs.«01_k».proof.Proof.ExpertsRunI
public import Idealize.ShloMosaic.Lib.Pipeline.TableIdle

@[expose] public section

set_option maxRecDepth 16384

noncomputable section

namespace Cert.ExpertsIdeal.Own

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the call -/

/-- What core `c`'s buffers hold when the call is entered. -/
abbrev V (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

set_option maxHeartbeats 800000 in
/-- The host lines run, then the call. -/
theorem hmain (𝒱₀ : Variants) : Pipeline.HMainP (Ix := Unit) (Name := ℕ) (U := UR sig nD τ) (Lvl := ℕ) pcfgs 0 defs₀ 𝒱₀ m
    (main (F := F)) (V m) :=
  Pipeline.hmainP_prefix pcfgs 0 defs₀ 𝒱₀ m main hostOps0 hostOps0_sub host_fresh main_chain

/-- The seven arguments. -/
abbrev isArg (b : Ref sig .tc) : Prop :=
  b = main_arg0 ∨ b = main_arg1 ∨ b = main_arg2 ∨ b = main_arg3 ∨ b = main_arg4 ∨ b = main_arg5 ∨ b = main_arg6

/-- The host lines leave every argument as it was. -/
theorem V_arg (c : Dev nD) (b : Ref sig .tc) (hb : isArg b) : V m c b = m ((c : Thread nD τ).loc b) := by
  rcases hb with rfl | rfl | rfl | rfl | rfl | rfl | rfl <;>
  · refine StableHlo.after_of_forall_not_mem (b := Proc.devRef .tc _) _ _ (List.forall_iff_forall_mem.mp ?_)
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)

/-! ## The tables -/

/-- What the two tables hold when the call is entered. -/
def tbl : pre0.Contents (Elt F) := fun j => V m (0 : Dev nD) (pre0.ref j)
theorem V_pre (c : Dev nD) (j : Fin 2) : V m c (pre0.ref j) = tbl m j := by
  obtain rfl : c = 0 := Subsingleton.elim _ _; rfl

/-- Every block a table chooses lies in its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- How many blocks are in use, as the body reads it. -/
abbrev used (c : Dev nD) : BitVec 32 := word c (tbl m 1)

/-- At least one block is in use: the first block is. -/
def Starts : Prop := ∀ (c : Dev nD) (t : Fin grid0.N), t.val = 0 → k0_cond2 (grid0.coords t) (used m c) = 1#1

theorem PhiT_eq (c : Dev nD) : (Pipeline.ΦT pre0 (tbl m) c : sProp 𝕄) = iprop(tabHeld c tab0 (tbl m 0) ∗ tabHeld c tab1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

/-- The output's block is written back at the last of its four points. -/
theorem flush_out (a : (pcfg0 (F := F)).Adm) : ∀ t : Fin (cfg0 a).N, ((cfg0 a).win 7).flush t = true ↔ t.val % 4 = 3 :=
  (fun t => Pipeline.Window.flushOf_reads cc0_transform_7 reads0_7 hreads0_7 0 (by decide) (by decide)
      (Pipeline.Window.sep_of_coord cc0_transform_7 0 0 (fun _ => rfl) (by decide)) (P := 4) (m := 3) (by decide) rfl t :
    ∀ t : Fin grid0.N, Pipeline.Window.flushOf grid0 true cc0_transform_7 t = true ↔ t.val % 4 = 3)

/-! ## The conditions of the body at a point -/

/-- The third condition: the first of a block's four points. -/
theorem first_iff (t : Fin grid0.N) : k0_cond3 (grid0.coords t) = 1#1 ↔ t.val % 4 = 0 := by
  have ht : t.val < 384 := Nat.lt_of_lt_of_eq t.isLt N_0
  have e1 : (grid0.coords t 1).val = t.val / 1 % 4 := Pipeline.Grid.coords_val t 1 (by decide) rfl
  simp only [k0_cond3, e1]
  word_cmp

/-- A bit widened and tested against zero is the bit. -/
theorem bit_word (b : Bool) : IntOp.cmpi .ne ((BitVec.ofBool b).setWidth 32) 0#32 = BitVec.ofBool b := by
  cases b <;> decide

theorem sle_not_slt (x y : BitVec 32) : y.sle x = !(x.slt y) := by
  simp only [BitVec.sle, BitVec.slt]
  by_cases h : x.toInt < y.toInt
  · simp [h, not_le.mpr h]
  · simp [h, not_lt.mp h]

/-- The first two conditions are opposite at the first of a block's points. -/
theorem zero_iff (t : Fin grid0.N) (w : BitVec 32) :
    k0_cond1 (grid0.coords t) w = 1#1 ↔ (t.val % 4 = 0 ∧ ¬ k0_cond2 (grid0.coords t) w = 1#1) := by
  rw [← first_iff t]
  generalize grid0.coords t = i
  unfold k0_cond1 k0_cond2 k0_cond3
  simp only [Scalar.cmpi, Scalar.andi, Scalar.extui, bit_word, IntOp.cmpi]
  generalize ((BitVec.ofNat 32 (i 1).val) == 0#32) = b
  rw [sle_not_slt]
  generalize (BitVec.ofNat 32 (i 0).val).slt w = d
  cases b <;> cases d <;> decide

/-- A table of one element has one element. -/
theorem one_elem {α : Type} (f : S1.Idx → α) (x y : S1.Idx) : f x = f y := by
  congr 1; funext a
  obtain rfl : a = 0 := Subsingleton.elim _ _
  apply Fin.ext
  have h1 : (x 0).val < 1 := (x 0).isLt
  have h2 : (y 0).val < 1 := (y 0).isLt
  omega

/-- The output is idle where neither the zero store nor the block's own run. -/
theorem idle_out (t : Fin grid0.N) (c : Dev nD) :
    idle0 (tbl m) 7 (grid0.coords t) = true ↔ (¬ k0_cond1 (grid0.coords t) (used m c) = 1#1 ∧ ¬ k0_cond2 (grid0.coords t) (used m c) = 1#1) := by
  have e : (tbl m).atD 1 ![0] = used m c := by
    obtain rfl : c = 0 := Subsingleton.elim _ _
    unfold Pipeline.Prefetch.Contents.atD
    rw [dif_pos (by decide)]
    exact one_elem (tbl m 1) _ _
  simp only [idle0, e]
  by_cases h1 : k0_cond1 (grid0.coords t) (used m c) = 1#1 <;>
  by_cases h2 : k0_cond2 (grid0.coords t) (used m c) = 1#1 <;> simp [h1, h2]

/-! ## The current staging buffers -/

abbrev st_0 (hO : Ok m) (t : Fin (cfgM m hO).N) : Memref sig .tc .vmem S512x2048 .f32 := spec0_0.stage ((cfgM m hO).slots t 0)
abbrev st_1 (hO : Ok m) (t : Fin (cfgM m hO).N) : Memref sig .tc .vmem S1x2048x512 .bf16 := spec0_1.stage ((cfgM m hO).slots t 1)
abbrev st_2 (hO : Ok m) (t : Fin (cfgM m hO).N) : Memref sig .tc .vmem S1x2048x512 .bf16 := spec0_2.stage ((cfgM m hO).slots t 2)
abbrev st_3 (hO : Ok m) (t : Fin (cfgM m hO).N) : Memref sig .tc .vmem S1x1x512 .f32 := spec0_3.stage ((cfgM m hO).slots t 3)
abbrev st_4 (hO : Ok m) (t : Fin (cfgM m hO).N) : Memref sig .tc .vmem S1x1x512 .f32 := spec0_4.stage ((cfgM m hO).slots t 4)
abbrev st_5 (hO : Ok m) (t : Fin (cfgM m hO).N) : Memref sig .tc .vmem S1x512x2048 .f32 := spec0_5.stage ((cfgM m hO).slots t 5)
abbrev st_6 (hO : Ok m) (t : Fin (cfgM m hO).N) : Memref sig .tc .vmem S1x1x2048 .f32 := spec0_6.stage ((cfgM m hO).slots t 6)
abbrev st_7 (hO : Ok m) (t : Fin (cfgM m hO).N) : Memref sig .tc .vmem S512x2048 .f32 := spec0_7.stage ((cfgM m hO).slots t 7)
abbrev scr : Memref sig .tc .vmem S512x2048 .bf16 := Memref.whole cc0_scratch0

/-- The body at point `t`, on what the pipeline calls it with. -/
abbrev bodyAt (hO : Ok m) (t : Fin (cfgM m hO).N) : Prog (TpuEff nD τ sig (Elt F) Λ₀ .tc) PUnit :=
  cc0_moe_experts (grid0.coords t) tab0 (Memref.isWhole_whole _) tab1 (Memref.isWhole_whole _)
    (st_0 m hO t) (hstage0_0 (((cfgM m hO).slots t 0).cast nbuf0_0)) (st_1 m hO t) (hstage0_1 (((cfgM m hO).slots t 1).cast nbuf0_1))
    (st_2 m hO t) (hstage0_2 (((cfgM m hO).slots t 2).cast nbuf0_2)) (st_3 m hO t) (hstage0_3 (((cfgM m hO).slots t 3).cast nbuf0_3))
    (st_4 m hO t) (hstage0_4 (((cfgM m hO).slots t 4).cast nbuf0_4)) (st_5 m hO t) (hstage0_5 (((cfgM m hO).slots t 5).cast nbuf0_5))
    (st_6 m hO t) (hstage0_6 (((cfgM m hO).slots t 6).cast nbuf0_6)) (st_7 m hO t) (hstage0_7 (((cfgM m hO).slots t 7).cast nbuf0_7))
    scr (Memref.isWhole_whole _)

theorem body_row (hO : Ok m) (t : Fin (cfgM m hO).N) :
    defs₀ (F := F) .tc (cfgM m hO).body ((cfgM m hO).bodyArgs t ((cfgM m hO).slots t)) = bodyAt m hO t := by
  unfold defs₀; rw [Defs.onTc_tc]

theorem PhiA_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

end Cert.ExpertsIdeal.Own

end
-- ==== Proof.ExpertsFrameI.lean ====
/-
  The launch of the experts' call: what the output buffer and the scratch hold after each grid point (`st`), the
  pipeline's proof data over it, the body's obligation at every point, the run, and the frame.
-/
module

public import proofs.«01_k».proof.Proof.ExpertsSetupI

@[expose] public section

set_option maxRecDepth 16384

noncomputable section

namespace Cert.ExpertsIdeal.Own

open Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each point -/

/-- The output buffer after the body at point `t`, found at `o` with the scratch at `s`. -/
def stepO (hO : Ok m) (c : Dev nD) (t : Fin (cfgM m hO).N) (o : Vec F S512x2048 .f32) (s : Vec F S512x2048 .bf16) :
    Vec F S512x2048 .f32 :=
  outAfter (grid0.coords t) (used m c) (iblk m hO c 0 t) (iblk m hO c 1 t) (iblk m hO c 2 t) (iblk m hO c 3 t)
    (iblk m hO c 4 t) (iblk m hO c 5 t) (iblk m hO c 6 t) o s

/-- The scratch after it. -/
def stepS (hO : Ok m) (c : Dev nD) (t : Fin (cfgM m hO).N) (s : Vec F S512x2048 .bf16) : Vec F S512x2048 .bf16 :=
  scAfter (grid0.coords t) (used m c) (iblk m hO c 0 t) s

/-- At a block's first point what the output buffer held does not matter. -/
theorem stepO_first (hO : Ok m) (c : Dev nD) (t : Fin (cfgM m hO).N) (h0 : t.val % 4 = 0) (o o' : Vec F S512x2048 .f32)
    (s : Vec F S512x2048 .bf16) : stepO m hO c t o s = stepO m hO c t o' s := by
  unfold stepO outAfter
  have c3 := (first_iff t).mpr h0
  by_cases c2 : k0_cond2 (grid0.coords t) (used m c) = 1#1
  · rw [if_pos c2, if_pos c2, if_pos c3, if_pos c3]
  · have c1 := (zero_iff t (used m c)).mpr ⟨h0, c2⟩
    rw [if_neg c2, if_neg c2, if_pos c1, if_pos c1]

/-- At the first point of all neither does what the scratch held. -/
theorem step_start (hO : Ok m) (hS : Starts m) (c : Dev nD) (t : Fin (cfgM m hO).N) (h0 : t.val = 0) (o : Vec F S512x2048 .f32)
    (s s' : Vec F S512x2048 .bf16) : stepO m hO c t o s = stepO m hO c t o s' ∧ stepS m hO c t s = stepS m hO c t s' := by
  have c3 := (first_iff t).mpr (by omega)
  have c2 := hS c t h0
  unfold stepO stepS outAfter scAfter
  rw [if_pos c2, if_pos c2, if_pos c2, if_pos c2, if_pos c3, if_pos c3, if_pos c3, if_pos c3]
  exact ⟨rfl, rfl⟩

/-- At an idle point the output buffer stays as it was. -/
theorem stepO_idle (hO : Ok m) (c : Dev nD) (t : Fin (cfgM m hO).N) (hi : idle0 (tbl m) 7 (grid0.coords t) = true)
    (o : Vec F S512x2048 .f32) (s : Vec F S512x2048 .bf16) : stepO m hO c t o s = o := by
  obtain ⟨c1, c2⟩ := (idle_out m t c).mp hi
  unfold stepO outAfter
  rw [if_neg c2, if_neg c1]

/-- A block's first point is never idle. -/
theorem idle_not_first (hO : Ok m) (t : Fin (cfgM m hO).N) (hi : idle0 (tbl m) 7 (grid0.coords t) = true) : t.val % 4 ≠ 0 := by
  obtain ⟨c1, c2⟩ := (idle_out m t 0).mp hi
  exact fun h0 => c1 ((zero_iff t _).mpr ⟨h0, c2⟩)

attribute [local irreducible] stepO stepS

/-- Both after point `n`. The first point's start does not matter: it is written over. -/
def st (hO : Ok m) (c : Dev nD) : (n : ℕ) → n < (cfgM m hO).N → Vec F S512x2048 .f32 × Vec F S512x2048 .bf16
  | 0, h => (stepO m hO c ⟨0, h⟩ k0_pay1 (k0_pay3 (iblk m hO c 0 ⟨0, h⟩)), stepS m hO c ⟨0, h⟩ (k0_pay3 (iblk m hO c 0 ⟨0, h⟩)))
  | n + 1, h => (stepO m hO c ⟨n + 1, h⟩ (st hO c n (Nat.lt_of_succ_lt h)).1 (st hO c n (Nat.lt_of_succ_lt h)).2,
      stepS m hO c ⟨n + 1, h⟩ (st hO c n (Nat.lt_of_succ_lt h)).2)

theorem prev_lt (hO : Ok m) (t : Fin (cfgM m hO).N) : t.val - 1 < (cfgM m hO).N := Nat.lt_of_le_of_lt (Nat.sub_le _ _) t.isLt

theorem st_fst (hO : Ok m) (c : Dev nD) (t : Fin (cfgM m hO).N) (hz : t.val ≠ 0) :
    (st m hO c t.val t.isLt).1 = stepO m hO c t (st m hO c (t.val - 1) (prev_lt m hO t)).1 (st m hO c (t.val - 1) (prev_lt m hO t)).2 := by
  obtain ⟨n, hn⟩ := t
  cases n with
  | zero => exact absurd rfl hz
  | succ n => rfl
theorem st_snd (hO : Ok m) (c : Dev nD) (t : Fin (cfgM m hO).N) (hz : t.val ≠ 0) :
    (st m hO c t.val t.isLt).2 = stepS m hO c t (st m hO c (t.val - 1) (prev_lt m hO t)).2 := by
  obtain ⟨n, hn⟩ := t
  cases n with
  | zero => exact absurd rfl hz
  | succ n => rfl
theorem st_start (hO : Ok m) (c : Dev nD) (t : Fin (cfgM m hO).N) (hz : t.val = 0) :
    (st m hO c t.val t.isLt).1 = stepO m hO c t k0_pay1 (k0_pay3 (iblk m hO c 0 t))
      ∧ (st m hO c t.val t.isLt).2 = stepS m hO c t (k0_pay3 (iblk m hO c 0 t)) := by
  obtain ⟨n, hn⟩ := t
  change n = 0 at hz
  subst hz; exact ⟨rfl, rfl⟩

/-! ## The invariant between points -/

/-- Before the first point the scratch holds anything; afterwards what `st` says. -/
def Inv (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scr fullShare (st m hO c n hn).2) ∗ (∃ r, prngReg c r)) ∗ Pipeline.ΦT pre0 (tbl m) c)

theorem Inv_zero (hO : Ok m) (c : Dev nD) (n : ℕ) (h : n ≤ (cfgM m hO).N) (hz : n = 0) :
    Inv m hO c n h = iprop(Pipeline.ΦA spec0 c ∗ Pipeline.ΦT pre0 (tbl m) c) := by
  subst hz; rfl
theorem Inv_succ (hO : Ok m) (c : Dev nD) (n : ℕ) (hn : n < (cfgM m hO).N) :
    Inv m hO c (n + 1) hn = iprop(iprop(iprop(owns (c : Thread nD τ) scr fullShare (st m hO c n hn).2) ∗ (∃ r, prngReg c r)) ∗ Pipeline.ΦT pre0 (tbl m) c) := rfl
theorem Inv_pos (hO : Ok m) (c : Dev nD) (n : ℕ) (h : n ≤ (cfgM m hO).N) (hz : n ≠ 0) :
    Inv m hO c n h = iprop(iprop(iprop(owns (c : Thread nD τ) scr fullShare (st m hO c (n - 1) (by omega)).2) ∗ (∃ r, prngReg c r)) ∗ Pipeline.ΦT pre0 (tbl m) c) := by
  cases n with
  | zero => exact absurd rfl hz
  | succ n => rfl

/-! ## The pipeline's proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => (st m hO c t.val t.isLt).1
  Φ t := Inv m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem Inv_castSucc (hO : Ok m) (c : Dev nD) (t : Fin (cfgM m hO).N) :
    (dats m hO 0 c).Φ t.castSucc = Inv m hO c t.val (Nat.le_of_lt t.isLt) := by
  dsimp only [dats]; exact Pipeline.Dat.Φ_castSucc (Inv m hO c) t

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = iblk m hO c 5 t := by dsimp only [dats]; try rfl
theorem after_6 (hO : Ok m) (c : Dev nD) (t : Fin (cfgM m hO).N) : (dats m hO 0 c).after 6 t = iblk m hO c 6 t := by dsimp only [dats]; try rfl
theorem after_7 (hO : Ok m) (c : Dev nD) (t : Fin (cfgM m hO).N) : (dats m hO 0 c).after 7 t = (st m hO c t.val t.isLt).1 := by dsimp only [dats]; try rfl

/-- Input 0's buffer holds its block at every point. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input 1's buffer holds its block at every point. -/
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input 2's buffer holds its block at every point. -/
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input 3's buffer holds its block at every point. -/
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Input 4's buffer holds its block at every point. -/
theorem before_4 (hO : Ok m) (c : Dev nD) (t : Fin (cfgM m hO).N) (d) : (dats m hO 0 c).before 4 t d = iblk m hO c 4 t :=
  ((dats m hO 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
/-- Input 5's buffer holds its block at every point. -/
theorem before_5 (hO : Ok m) (c : Dev nD) (t : Fin (cfgM m hO).N) (d) : (dats m hO 0 c).before 5 t d = iblk m hO c 5 t :=
  ((dats m hO 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
/-- Input 6's buffer holds its block at every point. -/
theorem before_6 (hO : Ok m) (c : Dev nD) (t : Fin (cfgM m hO).N) (d) : (dats m hO 0 c).before 6 t d = iblk m hO c 6 t :=
  ((dats m hO 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

/-- The output's buffer is fresh at a block's first point only. -/
theorem fresh_out (hO : Ok m) (n : ℕ) (h : n ≤ (cfgM m hO).N) : (cfgM m hO).fresh 7 n = decide (n % 4 = 0) := by
  refine Pipeline.Cfg.fresh_tab (cfgM m hO) 7 (fun n => decide (n % 4 = 0)) (by decide) (fun t => ?_) n h
  have hf := flush_out (adm m hO) t
  have hi := idle_not_first m hO t
  show decide ((t.val + 1) % 4 = 0) = (((cfgM m hO).win 7).flush t || (idle0 (tbl m) 7 (grid0.coords t) && decide (t.val % 4 = 0)))
  have h2 : (idle0 (tbl m) 7 (grid0.coords t) && decide (t.val % 4 = 0)) = false := by
    cases hh : idle0 (tbl m) 7 (grid0.coords t)
    · rfl
    · rw [Bool.true_and]; exact decide_eq_false (hi hh)
  rw [h2, Bool.or_false, Bool.eq_iff_iff, decide_eq_true_eq]
  exact (show (t.val + 1) % 4 = 0 ↔ t.val % 4 = 3 by omega).trans hf.symm

theorem first_zero {n : ℕ} (h : n = 0) : n % 4 = 0 := by omega
theorem not_zero {n : ℕ} (h : n % 4 ≠ 0) : n ≠ 0 := by omega

/-- What the body finds in the output's buffer: anything at a block's first point, else what the point before left. -/
def found (hO : Ok m) (c : Dev nD) (t : Fin (cfgM m hO).N) (d : Vec F S512x2048 .f32) : Vec F S512x2048 .f32 :=
  if t.val % 4 = 0 then d else (st m hO c (t.val - 1) (prev_lt m hO t)).1

theorem before_7 (hO : Ok m) (c : Dev nD) (t : Fin (cfgM m hO).N) (d) :
    (dats m hO 0 c).before 7 t d = found m hO c t d := by
  have hc : ∀ (t : Fin (cfgM m hO).N) (_ : t.val ≠ 0), (cfgM m hO).idle 7 ((cfgM m hO).grid.coords t) = true →
      (cfgM m hO).fresh 7 t.val = false → (dats m hO 0 c).after 7 t = (dats m hO 0 c).after 7 ⟨t.val - 1, prev_lt m hO t⟩ := by
    intro t hz hi _
    have e := (st_fst m hO c t hz).trans (stepO_idle m hO c t hi (st m hO c (t.val - 1) (prev_lt m hO t)).1 (st m hO c (t.val - 1) (prev_lt m hO t)).2)
    exact (after_7 m hO c t).trans (e.trans (after_7 m hO c ⟨t.val - 1, prev_lt m hO t⟩).symm)
  refine ((dats m hO 0 c).before_out_traj 7 rfl (fun _ _ => rfl) hc t.val t rfl d).trans ?_
  have hf := fresh_out m hO t.val (Nat.le_of_lt t.isLt)
  unfold found
  by_cases h : t.val % 4 = 0
  · exact (if_pos (hf.trans (decide_eq_true h))).trans (if_pos h).symm
  · have hf' : ¬ (cfgM m hO).fresh 7 t.val = true := by rw [hf, decide_eq_false h]; exact Bool.false_ne_true
    exact (if_neg hf').trans ((after_7 m hO c ⟨t.val - 1, prev_lt m hO t⟩).trans (if_neg h).symm)

theorem found_zero (hO : Ok m) (hS : Starts m) (c : Dev nD) (t : Fin (cfgM m hO).N) (hz : t.val = 0) (d : Vec F S512x2048 .f32)
    (s : Vec F S512x2048 .bf16) :
    stepO m hO c t (found m hO c t d) s = (st m hO c t.val t.isLt).1 ∧ stepS m hO c t s = (st m hO c t.val t.isLt).2 := by
  obtain ⟨e1, e2⟩ := st_start m hO c t hz
  have h1 := stepO_first m hO c t (first_zero hz) (found m hO c t d) k0_pay1 s
  obtain ⟨h2, h3⟩ := step_start m hO hS c t hz k0_pay1 s (k0_pay3 (iblk m hO c 0 t))
  exact ⟨(h1.trans h2).trans e1.symm, h3.trans e2.symm⟩

theorem found_pos (hO : Ok m) (c : Dev nD) (t : Fin (cfgM m hO).N) (hz : t.val ≠ 0) (d : Vec F S512x2048 .f32) :
    stepO m hO c t (found m hO c t d) (st m hO c (t.val - 1) (prev_lt m hO t)).2 = (st m hO c t.val t.isLt).1
      ∧ stepS m hO c t (st m hO c (t.val - 1) (prev_lt m hO t)).2 = (st m hO c t.val t.isLt).2 := by
  refine ⟨Eq.trans ?_ (st_fst m hO c t hz).symm, (st_snd m hO c t hz).symm⟩
  by_cases h0 : t.val % 4 = 0
  · exact stepO_first m hO c t h0 (found m hO c t d) (st m hO c (t.val - 1) (prev_lt m hO t)).1 (st m hO c (t.val - 1) (prev_lt m hO t)).2
  · have hf : found m hO c t d = (st m hO c (t.val - 1) (prev_lt m hO t)).1 := by unfold found; rw [if_neg h0]
    rw [hf]

theorem found_idle (hO : Ok m) (c : Dev nD) (t : Fin (cfgM m hO).N) (hi : idle0 (tbl m) 7 (grid0.coords t) = true)
    (d : Vec F S512x2048 .f32) : found m hO c t d = (st m hO c t.val t.isLt).1 := by
  have h0 := idle_not_first m hO t hi
  have e := (st_fst m hO c t (not_zero h0)).trans (stepO_idle m hO c t hi (st m hO c (t.val - 1) (prev_lt m hO t)).1 (st m hO c (t.val - 1) (prev_lt m hO t)).2)
  have hf : found m hO c t d = (st m hO c (t.val - 1) (prev_lt m hO t)).1 := by unfold found; rw [if_neg h0]
  exact hf.trans e.symm

/-! ## The body obligation -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (st_0 m hO t) fullShare ((dats m hO 0 c).before 0 t d))
    ∗ (∃ d, owns (c : Thread nD τ) (st_1 m hO t) fullShare ((dats m hO 0 c).before 1 t d))
    ∗ (∃ d, owns (c : Thread nD τ) (st_2 m hO t) fullShare ((dats m hO 0 c).before 2 t d))
    ∗ (∃ d, owns (c : Thread nD τ) (st_3 m hO t) fullShare ((dats m hO 0 c).before 3 t d))
    ∗ (∃ d, owns (c : Thread nD τ) (st_4 m hO t) fullShare ((dats m hO 0 c).before 4 t d))
    ∗ (∃ d, owns (c : Thread nD τ) (st_5 m hO t) fullShare ((dats m hO 0 c).before 5 t d))
    ∗ (∃ d, owns (c : Thread nD τ) (st_6 m hO t) fullShare ((dats m hO 0 c).before 6 t d))
    ∗ (∃ d, owns (c : Thread nD τ) (st_7 m hO t) fullShare ((dats m hO 0 c).before 7 t d)))

/-- What the body returns; the output's buffer always at `st`. -/
def bodyPost (hO : Ok m) (c : Dev nD) (t : Fin (cfgM m hO).N) : sProp 𝕄 :=
  iprop((dats m hO 0 c).Φ t.succ ∗ (dats m hO 0 c).owesAt () t.succ
    ∗ owns (c : Thread nD τ) (st_0 m hO t) fullShare ((dats m hO 0 c).after 0 t)
    ∗ owns (c : Thread nD τ) (st_1 m hO t) fullShare ((dats m hO 0 c).after 1 t)
    ∗ owns (c : Thread nD τ) (st_2 m hO t) fullShare ((dats m hO 0 c).after 2 t)
    ∗ owns (c : Thread nD τ) (st_3 m hO t) fullShare ((dats m hO 0 c).after 3 t)
    ∗ owns (c : Thread nD τ) (st_4 m hO t) fullShare ((dats m hO 0 c).after 4 t)
    ∗ owns (c : Thread nD τ) (st_5 m hO t) fullShare ((dats m hO 0 c).after 5 t)
    ∗ owns (c : Thread nD τ) (st_6 m hO t) fullShare ((dats m hO 0 c).after 6 t)
    ∗ owns (c : Thread nD τ) (st_7 m hO t) fullShare ((dats m hO 0 c).after 7 t))

/-- The step from any contents of the scratch that leads to `st`: what the two cases of `sound_body` share. -/
theorem body_step (hO : Ok m) (c : Dev nD) (t : Fin (cfgM m hO).N) (o : Vec F S512x2048 .f32) (s : Vec F S512x2048 .bf16)
    (ho : stepO m hO c t o s = (st m hO c t.val t.isLt).1) (hs : stepS m hO c t s = (st m hO c t.val t.isLt).2) (P R : sProp 𝕄) :
    iprop(iprop(iprop(owns (c : Thread nD τ) scr fullShare s ∗ P) ∗ iprop(tabHeld c tab0 (tbl m 0) ∗ tabHeld c tab1 (tbl m 1))) ∗ R
      ∗ owns (c : Thread nD τ) (st_0 m hO t) fullShare (iblk m hO c 0 t)
      ∗ owns (c : Thread nD τ) (st_1 m hO t) fullShare (iblk m hO c 1 t)
      ∗ owns (c : Thread nD τ) (st_2 m hO t) fullShare (iblk m hO c 2 t)
      ∗ owns (c : Thread nD τ) (st_3 m hO t) fullShare (iblk m hO c 3 t)
      ∗ owns (c : Thread nD τ) (st_4 m hO t) fullShare (iblk m hO c 4 t)
      ∗ owns (c : Thread nD τ) (st_5 m hO t) fullShare (iblk m hO c 5 t)
      ∗ owns (c : Thread nD τ) (st_6 m hO t) fullShare (iblk m hO c 6 t)
      ∗ owns (c : Thread nD τ) (st_7 m hO t) fullShare o)
    ⊢ wp frame (wpE (defs₀ (F := F)) Variants.none c none) Set.univ (bodyAt m hO t) (fun _ =>
      iprop(iprop(iprop(owns (c : Thread nD τ) scr fullShare (st m hO c t.val t.isLt).2 ∗ P) ∗ iprop(tabHeld c tab0 (tbl m 0) ∗ tabHeld c tab1 (tbl m 1))) ∗ R
      ∗ owns (c : Thread nD τ) (st_0 m hO t) fullShare (iblk m hO c 0 t)
      ∗ owns (c : Thread nD τ) (st_1 m hO t) fullShare (iblk m hO c 1 t)
      ∗ owns (c : Thread nD τ) (st_2 m hO t) fullShare (iblk m hO c 2 t)
      ∗ owns (c : Thread nD τ) (st_3 m hO t) fullShare (iblk m hO c 3 t)
      ∗ owns (c : Thread nD τ) (st_4 m hO t) fullShare (iblk m hO c 4 t)
      ∗ owns (c : Thread nD τ) (st_5 m hO t) fullShare (iblk m hO c 5 t)
      ∗ owns (c : Thread nD τ) (st_6 m hO t) fullShare (iblk m hO c 6 t)
      ∗ owns (c : Thread nD τ) (st_7 m hO t) fullShare (st m hO c t.val t.isLt).1)) := by
  rw [← ho, ← hs]
  unfold bodyAt
  iintro ⟨⟨⟨HS0, HP⟩, HT0, HT1⟩, HR, H0, H1, H2, H3, H4, H5, H6, H7⟩
  iapply (body_run c (grid0.coords t) (st_0 m hO t) (st_1 m hO t) (st_2 m hO t) (st_3 m hO t) (st_4 m hO t) (st_5 m hO t)
    (st_6 m hO t) (st_7 m hO t) scr _ _ _ _ _ _ _ _ _ (iblk m hO c 0 t) (iblk m hO c 1 t) (iblk m hO c 2 t) (iblk m hO c 3 t)
    (iblk m hO c 4 t) (iblk m hO c 5 t) (iblk m hO c 6 t) (tbl m 0) (tbl m 1) o s Set.univ _)
  unfold held stepO stepS used
  isplitl [H0 H1 H2 H3 H4 H5 H6 H7 HS0 HT0 HT1]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexact HS0
    isplitl [HT0]; · iexact HT0
    iexact HT1
  iintro ⟨H0, H1, H2, H3, H4, H5, H6, H7, HS0, HT0, HT1⟩
  isplitl [HS0 HP HT0 HT1]
  · isplitl [HS0 HP]
    · isplitl [HS0]; · iexact HS0
      iexact HP
    isplitl [HT0]; · iexact HT0
    iexact HT1
  isplitl [HR]; · iexact HR
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 1600000 in
theorem sound_body (hO : Ok m) (hS : Starts m) (c : Dev nD) (t : Fin (cfgM m hO).N) :
    bodyPre m hO c t ⊢ wp frame (wpE (defs₀ (F := F)) Variants.none c none) Set.univ (bodyAt m hO t) (fun _ => bodyPost m hO c t) := by
  unfold bodyPre bodyPost
  simp only [before_0, before_1, before_2, before_3, before_4, before_5, before_6, before_7]
  rw [show (dats m hO 0 c).owesAt () t.succ = (dats m hO 0 c).owesAt () t.castSucc from rfl,
    after_0, after_1, after_2, after_3, after_4, after_5, after_6, after_7]
  rw [show (dats m hO 0 c).Φ t.succ = Inv m hO c (t.val + 1) t.isLt from rfl, Inv_succ, PhiT_eq]
  by_cases hz : t.val = 0
  · rw [Inv_castSucc m hO c t, Inv_zero m hO c _ _ hz, PhiT_eq, PhiA_eq]
    iintro ⟨⟨⟨⟨%s, HS0⟩, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e := found_zero m hO hS c t hz d7 s
    iapply (body_step m hO c t (found m hO c t d7) s e.1 e.2 iprop(∃ r, prngReg c r) ((dats m hO 0 c).owesAt () t.castSucc))
    isplitl [HS0 Hg HT]
    · isplitl [HS0 Hg]
      · isplitl [HS0]; · iexact HS0
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Inv_castSucc m hO c t, Inv_pos m hO c _ _ hz, PhiT_eq]
    iintro ⟨⟨⟨HS0, Hg⟩, HT⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have e := found_pos m hO c t hz d7
    iapply (body_step m hO c t (found m hO c t d7) (st m hO c (t.val - 1) (prev_lt m hO t)).2 e.1 e.2 iprop(∃ r, prngReg c r) ((dats m hO 0 c).owesAt () t.castSucc))
    isplitl [HS0 Hg HT]
    · isplitl [HS0 Hg]
      · isplitl [HS0]; · iexact HS0
        iexact Hg
      iexact HT
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- At an idle point that ends no block the output's buffer is handed back as found: that is `st` too. -/
theorem leave_idle (hO : Ok m) (c : Dev nD) (t : Fin (cfgM m hO).N) (hi : idle0 (tbl m) 7 (grid0.coords t) = true) :
    owns (c : Thread nD τ) (st_7 m hO t) fullShare ((dats m hO 0 c).after 7 t)
      ⊢ (iprop(∃ d, owns (c : Thread nD τ) (st_7 m hO t) fullShare ((dats m hO 0 c).before 7 t d)) : sProp 𝕄) := by
  have e : (dats m hO 0 c).after 7 t = (dats m hO 0 c).before 7 t ((dats m hO 0 c).after 7 t) := by
    rw [before_7, after_7]; exact (found_idle m hO c t hi _).symm
  iintro H
  iexists ((dats m hO 0 c).after 7 t)
  rw [← e]
  iexact H

theorem body_obligation (hO : Ok m) (hS : Starts m) (c : Dev nD) :
    BodyObligation (dats (F := F) m hO 0 c) (defs₀ (F := F)) Variants.none () Set.univ := fun t => by
  rw [bigSep_W0, bigSep_W0, body_row m hO]
  refine triple_restated (sound_body m hO hS c t) rfl .rfl fun _ => ?_
  unfold bodyPost
  iintro ⟨HI, Ho, H0, H1, H2, H3, H4, H5, H6, H7⟩
  isplitl [HI]; · iexact HI
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  dsimp only
  split
  · rename_i hi
    split
    · iapply (leave_idle m hO c t hi); iexact H7
    · iexact H7
  · iexact H7

theorem hin (hO : Ok m) (c : Dev nD) : iprop(Pipeline.ΦA spec0 c ∗ Pipeline.ΦT pre0 (tbl m) c) ⊢ (dats m hO 0 c).Φ 0 := by
  rw [show (dats m hO 0 c).Φ 0 = Inv m hO c 0 (Nat.zero_le _) from rfl, Inv_zero m hO c 0 _ rfl]
  try exact Idealize.SL.BI.Entails.refl _

theorem hout (hO : Ok m) (c : Dev nD) : (dats m hO 0 c).Φ (Fin.last (cfgM m hO).N) ⊢ Pipeline.ΦA spec0 c := by
  have ht : (Fin.last (cfgM m hO).N).val ≠ 0 := by rw [Fin.val_last]; have : (cfgM m hO).N = 384 := N_0; omega
  rw [show (dats m hO 0 c).Φ (Fin.last (cfgM m hO).N) = Inv m hO c (Fin.last (cfgM m hO).N).val (Nat.le_of_lt_succ (Fin.last _).isLt) from rfl,
    Inv_pos m hO c _ _ ht, PhiA_eq]
  iintro ⟨⟨HS0, Hg⟩, -⟩
  isplitl [HS0]
  · iexists _; iexact HS0
  iexact Hg

/-! ## The run and the frame -/

set_option backward.isDefEq.respectTransparency.types false in
theorem run_quiescent (hO : Ok m) (hS : Starts m) : θ_run defs (onTc (τ := τ) (main (F := F))) (s₀ m ρ)
    (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO hS c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The frame: the arguments end unchanged and every semaphore at zero. -/
theorem frame (hO : Ok m) (hS : Starts m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).2 main_arg0 (by decide : main_arg0 ∈ Pipeline.restRefs sig spec0)).trans (V_arg m c _ (by simp [isArg])),
      ((h.1 c).2 main_arg1 (by decide : main_arg1 ∈ Pipeline.restRefs sig spec0)).trans (V_arg m c _ (by simp [isArg])),
      ((h.1 c).1 0).trans (((dats m hO 0 c).arrAt_in 0 rfl _).trans ((A_eq m hO c 0).trans (V_arg m c main_arg2 (by simp [isArg])))),
      ((h.1 c).2 main_arg3 (by decide : main_arg3 ∈ Pipeline.restRefs sig spec0)).trans (V_arg m c _ (by simp [isArg])),
      ((h.1 c).2 main_arg4 (by decide : main_arg4 ∈ Pipeline.restRefs sig spec0)).trans (V_arg m c _ (by simp [isArg])),
      ((h.1 c).1 5).trans (((dats m hO 0 c).arrAt_in 5 rfl _).trans ((A_eq m hO c 5).trans (V_arg m c main_arg5 (by simp [isArg])))),
      ((h.1 c).2 main_arg6 (by decide : main_arg6 ∈ Pipeline.restRefs sig spec0)).trans (V_arg m c _ (by simp [isArg]))⟩, h.2⟩)
    (run_quiescent m ρ hO hS)

end Cert.ExpertsIdeal.Own

end
-- ==== Proof.ExpertsPreI.lean ====
/-
  What the precondition says of the two tables, and what follows from it for the experts' call: every block a table
  chooses lies in its array, and the first block is in use.
-/
module

public import proofs.«01_k».proof.Proof.ExpertsFrameI
public import proofs.«01_k».proof.Proof.Gen.Pre_tables
public import Idealize.ShloMosaic.Lib.ReduceAll
public import Idealize.ShloMosaic.Lib.StableHlo.Predicate
public import Idealize.ShloMosaic.Lib.Pipeline.ValueKit
public import Idealize.ShloMosaic.Lib.Pointwise

@[expose] public section

set_option maxRecDepth 16384

noncomputable section

namespace Cert.ExpertsIdeal.Own

open Cert.ExpertsIdeal.Gen
open Idealize.ShloMosaic Idealize.ShloMosaic.TcCoe Idealize.SL.Sem

variable {F : FTy → Type} [FloatOps F]

/-! ## Words -/

theorem word_range {x : BitVec 32} (h1 : IntOp.cmpi .sge x 0#32 = 1#1) (h2 : IntOp.cmpi .slt x 32#32 = 1#1) : x.toNat < 32 := by
  simp only [IntOp.cmpi, StableHlo.Predicate.ofBool_eq_one_iff, BitVec.sle, BitVec.slt, decide_eq_true_eq] at h1 h2
  rw [show (0#32 : BitVec 32).toInt = 0 from by decide] at h1
  rw [show (32#32 : BitVec 32).toInt = 32 from by decide] at h2
  rw [BitVec.toInt_eq_toNat_cond] at h1 h2
  have := x.isLt
  split at h1 <;> omega

theorem count_range {x : BitVec 32} (h1 : IntOp.cmpi .sge x 1#32 = 1#1) (h2 : IntOp.cmpi .sle x 96#32 = 1#1) :
    1 ≤ x.toNat ∧ x.toNat ≤ 96 := by
  simp only [IntOp.cmpi, StableHlo.Predicate.ofBool_eq_one_iff, BitVec.sle, decide_eq_true_eq] at h1 h2
  rw [show (1#32 : BitVec 32).toInt = 1 from by decide] at h1
  rw [show (96#32 : BitVec 32).toInt = 96 from by decide] at h2
  rw [BitVec.toInt_eq_toNat_cond] at h1 h2
  have := x.isLt
  split at h1 <;> omega

/-- The smaller of a block's number and the last block in use, as a word. -/
theorem min_word {p : ℕ} {x : BitVec 32} (hp : p < 96) (h : 1 ≤ x.toNat ∧ x.toNat ≤ 96) :
    IntOp.minsi (BitVec.ofNat 32 p) (IntOp.subi x 1#32) = BitVec.ofNat 32 (min p (x.toNat - 1)) := by
  obtain ⟨n, hn⟩ : ∃ n, n = x.toNat := ⟨_, rfl⟩
  obtain rfl : x = BitVec.ofNat 32 n := BitVec.eq_of_toNat_eq (by rw [BitVec.toNat_ofNat, hn]; have := x.isLt; omega)
  rw [← hn] at h ⊢
  have e : IntOp.subi (BitVec.ofNat 32 n) 1#32 = BitVec.ofNat 32 (n - 1) := StableHlo.Predicate.sub_one_ofNat n h.1 (by omega)
  rw [e]
  have s : (BitVec.ofNat 32 p).slt (BitVec.ofNat 32 (n - 1)) = decide (p < n - 1) := by
    simp only [BitVec.slt, StableHlo.Predicate.toInt_ofNat_small p (by omega), StableHlo.Predicate.toInt_ofNat_small (n - 1) (by omega), Nat.cast_lt]
  show (if (BitVec.ofNat 32 p).slt (BitVec.ofNat 32 (n - 1)) then BitVec.ofNat 32 p else BitVec.ofNat 32 (n - 1)) = _
  rw [s]
  by_cases hh : p < n - 1
  · rw [decide_eq_true hh, if_pos rfl, Nat.min_eq_left (by omega)]
  · rw [decide_eq_false hh, if_neg (by decide), Nat.min_eq_right (by omega)]

/-- A small word is not negative. -/
theorem not_neg {n : ℕ} (hn : n < 96) : IntOp.cmpi .slt (BitVec.ofNat 32 n) 0#32 = 0#1 := by
  simp only [IntOp.cmpi, BitVec.slt, StableHlo.Predicate.toInt_ofNat_small n (by omega)]
  rw [show (0#32 : BitVec 32).toInt = 0 from by decide, decide_eq_false (by omega)]
  rfl

/-! ## The precondition's two facts -/

/-- Every entry of the first table is one of the 32 experts; at least one and at most 96 blocks are in use. -/
structure Ranges (be : IVec S96 32) (nu : IVec S1 32) : Prop where
  expert : ∀ b, (be b).toNat < 32
  count : ∀ j, 1 ≤ (nu j).toNat ∧ (nu j).toNat ≤ 96

theorem ranges_of (be : IVec S96 32) (nu : IVec S1 32) (x : FVec F S49152x2048 .f32) (w : FVec F S32x2048x4096 .f32)
    (b : FVec F S32x4096 .f32) (d : FVec F S32x2048x2048 .f32) (e : FVec F S32x2048 .f32)
    (h : Cert.Pre_tables.fn (F := F) be nu x w b d e = fun _ => 1#1) : Ranges be nu := by
  have h0 := congrFun h (Shape.Idx.first Cert.Pre_tables.Gen.h_S_)
  obtain ⟨h123, h4⟩ := IntOp.andi_eq_one.mp h0
  obtain ⟨h12, h3⟩ := IntOp.andi_eq_one.mp h123
  obtain ⟨h1, h2⟩ := IntOp.andi_eq_one.mp h12
  haveI : Subsingleton (Cert.Pre_tables.S_).Idx := ⟨fun a b => funext fun i => i.elim0⟩
  have a1 := Host.reduce_andi_all _ _ _ _ _ h1
  have a2 := Host.reduce_andi_all _ _ _ _ _ h2
  refine ⟨fun b => word_range (a1 b) (a2 b), fun j => ?_⟩
  have c := count_range h3 h4
  rwa [one_elem nu j _]

variable (m : (ℓ : Loc nD τ sig) → Buf (Elt F) ℓ)

/-- The two facts of the tables as they were launched with. -/
abbrev Tab : Prop := ∀ c : Dev nD, Ranges (m ((c : Thread nD τ).loc main_arg0)) (m ((c : Thread nD τ).loc main_arg1))

/-! ## The first table as the host lines leave it: `block_e` at the smaller of the block and the last block in use -/

/-- The entry the table takes for block `p`. -/
def pick (nu : IVec S1 32) (p : Fin 96) : Fin 96 := ⟨min p.val ((nu (ix1 0)).toNat - 1), by omega⟩

theorem table_term (c : Dev nD) (y : S96.Idx) :
    (V m c main_v24 : IVec S96 32) y = Host.gather gather_S96_S96x1_S96_n_0_n_n_0_1_1 (m ((c : Thread nD τ).loc main_arg0) : IVec S96 32)
      (broadcastInDim S96x1 ![0] bcast_S96_S96x1_0 (select
        (cmpi .slt (minsi (iotaInDim S96 32 0) (broadcastInDim S96 ![] bcast_S_S96 (subi (shapeCast S_ (m ((c : Thread nD τ).loc main_arg1) : IVec S1 32) shapeCasts_S1_S_) (constantI S_ 32 1#32))))
          (broadcastInDim S96 ![] bcast_S_S96 (constantI S_ 32 0#32)))
        (addi (minsi (iotaInDim S96 32 0) (broadcastInDim S96 ![] bcast_S_S96 (subi (shapeCast S_ (m ((c : Thread nD τ).loc main_arg1) : IVec S1 32) shapeCasts_S1_S_) (constantI S_ 32 1#32))))
          (broadcastInDim S96 ![] bcast_S_S96 (constantI S_ 32 96#32)))
        (minsi (iotaInDim S96 32 0) (broadcastInDim S96 ![] bcast_S_S96 (subi (shapeCast S_ (m ((c : Thread nD τ).loc main_arg1) : IVec S1 32) shapeCasts_S1_S_) (constantI S_ 32 1#32)))))) y := by
  refine congrFun ?_ y
  show StableHlo.after hostOps0 (fun b => m (c, b)) main_v24 = _
  after_results <;> rfl

theorem start_word (nu : IVec S1 32) (h : 1 ≤ (nu (ix1 0)).toNat ∧ (nu (ix1 0)).toNat ≤ 96) (p : Fin 96) (x : BitVec 32)
    (hx : x = nu (ix1 0)) :
    Scalar.select (IntOp.cmpi .slt (IntOp.minsi (BitVec.ofNat 32 p.val) (IntOp.subi x 1#32)) 0#32)
      (IntOp.addi (IntOp.minsi (BitVec.ofNat 32 p.val) (IntOp.subi x 1#32)) 96#32)
      (IntOp.minsi (BitVec.ofNat 32 p.val) (IntOp.subi x 1#32)) = BitVec.ofNat 32 (pick nu p).val := by
  subst hx
  rw [min_word p.isLt h, not_neg (by have := p.isLt; omega)]
  rfl

theorem ofFin_ix1 {n : ℕ} (p : Fin n) : (Shape.Idx.ofFin p : (⟨1, ![n]⟩ : Shape).Idx) = ix1 p := by
  funext a
  obtain rfl : a = 0 := Subsingleton.elim _ _
  rfl

theorem table_at (hT : Tab m) (c : Dev nD) (p : Fin 96) :
    (V m c main_v24 : IVec S96 32) (ix1 p) = (m ((c : Thread nD τ).loc main_arg0) : IVec S96 32) (ix1 (pick (m ((c : Thread nD τ).loc main_arg1)) p)) := by
  have hn := (hT c).count (ix1 0)
  refine (table_term m c (ix1 p)).trans ?_
  rw [← ofFin_ix1 p]
  refine (StableHlo.Predicate.gather_take (N := 96) (n := 96) gather_S96_S96x1_S96_n_0_n_n_0_1_1 rfl rfl rfl rfl _ _ p (by decide)).trans ?_
  rw [ofFin_ix1]
  refine congrArg (fun k : Fin 96 => (m ((c : Thread nD τ).loc main_arg0) : IVec S96 32) (ix1 k)) (Fin.ext ?_)
  have e : ∀ w : BitVec 32, w = BitVec.ofNat 32 (pick (m ((c : Thread nD τ).loc main_arg1)) p).val →
      min w.toInt.toNat (96 - 1) = (pick (m ((c : Thread nD τ).loc main_arg1)) p).val := by
    intro w hw
    have hp := (pick (m ((c : Thread nD τ).loc main_arg1)) p).isLt
    rw [hw, StableHlo.Predicate.toInt_ofNat_small _ (by omega)]
    omega
  refine e _ ?_
  refine (StableHlo.Predicate.bcast_col1 bcast_S96_S96x1_0 _ p).trans ?_
  exact start_word (m ((c : Thread nD τ).loc main_arg1)) hn p _ (one_elem (m ((c : Thread nD τ).loc main_arg1) : IVec S1 32) _ _)

/-! ## The blocks the index maps choose -/

/-- The word of the second table. -/
theorem count_at (x : S1.Idx) : (tbl m 1 : IVec S1 32) x = (m (((0 : Dev nD) : Thread nD τ).loc main_arg1) : IVec S1 32) (ix1 0) :=
  (congrFun (V_arg m 0 main_arg1 (by simp [isArg])) x).trans (one_elem (m (((0 : Dev nD) : Thread nD τ).loc main_arg1) : IVec S1 32) _ _)

/-- The block of the activations at a grid point: the smaller of the block's number and the last block in use. -/
abbrev blkX (i : grid0.Coords) : Fin 96 := pick (m (((0 : Dev nD) : Thread nD τ).loc main_arg1)) ⟨(i 0).val, (i 0).isLt⟩

/-- The expert there. -/
abbrev expX (i : grid0.Coords) : ℕ := ((m (((0 : Dev nD) : Thread nD τ).loc main_arg0) : IVec S96 32) (ix1 (blkX m i))).toNat

theorem tr_x (hT : Tab m) (i : grid0.Coords) : cc0_transform_0 inb_S1_S1_0 numel1_S1 (tbl m) i = ![(blkX m i).val, 0] := by
  have hn := (hT 0).count (ix1 0)
  have hi : (i 0).val < 96 := (i 0).isLt
  unfold cc0_transform_0
  have e : ∀ w : BitVec 32, w = (m (((0 : Dev nD) : Thread nD τ).loc main_arg1) : IVec S1 32) (ix1 0) →
      (![(IntOp.minsi (BitVec.ofNat 32 (i 0).val) (IntOp.subi w 1#32)).toNat, (0#32 : BitVec 32).toNat] : Fin 2 → ℕ) = ![(blkX m i).val, 0] := by
    intro w hw
    rw [hw, min_word hi hn, BitVec.toNat_ofNat, Nat.mod_eq_of_lt (by omega)]
    rfl
  exact e _ (count_at m _)

theorem off_emb (n : ℕ) (x : S96.Idx) (hn : n < 96) (h : (x 0).val = n) : x = ix1 ⟨n, hn⟩ := by
  funext a
  obtain rfl : a = 0 := Subsingleton.elim _ _
  exact Fin.ext h

theorem expert_at (hT : Tab m) (i : grid0.Coords) (inb) :
    ((tbl m).at 0 (Rect.unit (s := S96) ![(Scalar.indexCast (BitVec.ofNat 32 (i 0).val)).toNat] S1.size inb) numel1_S1 : BitVec 32).toNat = expX m i := by
  have hi : (i 0).val < 96 := (i 0).isLt
  have e : ∀ x : S96.Idx, (x 0).val = (i 0).val → ((tbl m 0 : IVec S96 32) x).toNat = expX m i := by
    intro x hx
    rw [off_emb _ x hi hx]
    exact congrArg BitVec.toNat (table_at m hT 0 ⟨(i 0).val, hi⟩)
  refine e _ ?_
  show (BitVec.ofNat 32 (i 0).val).toNat + 1 * _ = _
  rw [BitVec.toNat_ofNat, Nat.mod_eq_of_lt (by omega)]
  rfl

theorem coord_word (i : grid0.Coords) : (BitVec.ofNat 32 (i 1).val).toNat = (i 1).val := by
  have hi : (i 1).val < 4 := (i 1).isLt
  rw [BitVec.toNat_ofNat, Nat.mod_eq_of_lt (by omega)]

theorem vec_col (a a' b b' : ℕ) (h : a = a') (h' : b = b') : (![a, (0#32 : BitVec 32).toNat, b] : Fin 3 → ℕ) = ![a', 0, b'] := by
  subst h h'; rfl
theorem vec_row (a a' b b' : ℕ) (h : a = a') (h' : b = b') : (![a, b, (0#32 : BitVec 32).toNat] : Fin 3 → ℕ) = ![a', b', 0] := by
  subst h h'; rfl
theorem vec_one (a a' : ℕ) (h : a = a') : (![a, (0#32 : BitVec 32).toNat, (0#32 : BitVec 32).toNat] : Fin 3 → ℕ) = ![a', 0, 0] := by
  subst h; rfl

theorem tr_col (hT : Tab m) (i : grid0.Coords) : cc0_transform_1 k0_off1_inb numel1_S1 (tbl m) i = ![expX m i, 0, (i 1).val] := by
  unfold cc0_transform_1
  exact vec_col _ _ _ _ (expert_at m hT i _) (coord_word i)
theorem tr_col2 (hT : Tab m) (i : grid0.Coords) : cc0_transform_2 k0_off1_inb numel1_S1 (tbl m) i = ![expX m i, 0, (i 1).val] := by
  unfold cc0_transform_2
  exact vec_col _ _ _ _ (expert_at m hT i _) (coord_word i)
theorem tr_col3 (hT : Tab m) (i : grid0.Coords) : cc0_transform_3 k0_off1_inb numel1_S1 (tbl m) i = ![expX m i, 0, (i 1).val] := by
  unfold cc0_transform_3
  exact vec_col _ _ _ _ (expert_at m hT i _) (coord_word i)
theorem tr_col4 (hT : Tab m) (i : grid0.Coords) : cc0_transform_4 k0_off1_inb numel1_S1 (tbl m) i = ![expX m i, 0, (i 1).val] := by
  unfold cc0_transform_4
  exact vec_col _ _ _ _ (expert_at m hT i _) (coord_word i)
theorem tr_row (hT : Tab m) (i : grid0.Coords) : cc0_transform_5 k0_off1_inb numel1_S1 (tbl m) i = ![expX m i, (i 1).val, 0] := by
  unfold cc0_transform_5
  exact vec_row _ _ _ _ (expert_at m hT i _) (coord_word i)
theorem tr_one (hT : Tab m) (i : grid0.Coords) : cc0_transform_6 k0_off1_inb numel1_S1 (tbl m) i = ![expX m i, 0, 0] := by
  unfold cc0_transform_6
  exact vec_one _ _ (expert_at m hT i _)

theorem expX_lt (hT : Tab m) (i : grid0.Coords) : expX m i < 32 := (hT 0).expert _

/-! ## The two conditions of the run -/

theorem inb_x (ix : Fin 2 → ℕ) (b : ℕ) (hb : b < 96) (e : ix = ![b, 0]) :
    ∀ a, (ix a + 1) * S512x2048.size a ≤ S49152x2048.size a := by
  subst e
  intro a
  match a with
  | ⟨0, _⟩ => show (b + 1) * 512 ≤ 49152; omega
  | ⟨1, _⟩ => show (0 + 1) * 2048 ≤ 2048; omega
theorem inb_col (ix : Fin 3 → ℕ) (b f : ℕ) (hb : b < 32) (hf : f < 4) (e : ix = ![b, 0, f]) :
    ∀ a, (ix a + 1) * S1x2048x512.size a ≤ S32x2048x2048.size a := by
  subst e
  intro a
  match a with
  | ⟨0, _⟩ => show (b + 1) * 1 ≤ 32; omega
  | ⟨1, _⟩ => show (0 + 1) * 2048 ≤ 2048; omega
  | ⟨2, _⟩ => show (f + 1) * 512 ≤ 2048; omega
theorem inb_bias (ix : Fin 3 → ℕ) (b f : ℕ) (hb : b < 32) (hf : f < 4) (e : ix = ![b, 0, f]) :
    ∀ a, (ix a + 1) * S1x1x512.size a ≤ S32x1x2048.size a := by
  subst e
  intro a
  match a with
  | ⟨0, _⟩ => show (b + 1) * 1 ≤ 32; omega
  | ⟨1, _⟩ => show (0 + 1) * 1 ≤ 1; omega
  | ⟨2, _⟩ => show (f + 1) * 512 ≤ 2048; omega
theorem inb_row (ix : Fin 3 → ℕ) (b f : ℕ) (hb : b < 32) (hf : f < 4) (e : ix = ![b, f, 0]) :
    ∀ a, (ix a + 1) * S1x512x2048.size a ≤ S32x2048x2048.size a := by
  subst e
  intro a
  match a with
  | ⟨0, _⟩ => show (b + 1) * 1 ≤ 32; omega
  | ⟨1, _⟩ => show (f + 1) * 512 ≤ 2048; omega
  | ⟨2, _⟩ => show (0 + 1) * 2048 ≤ 2048; omega
theorem inb_one (ix : Fin 3 → ℕ) (b : ℕ) (hb : b < 32) (e : ix = ![b, 0, 0]) :
    ∀ a, (ix a + 1) * S1x1x2048.size a ≤ S32x1x2048.size a := by
  subst e
  intro a
  match a with
  | ⟨0, _⟩ => show (b + 1) * 1 ≤ 32; omega
  | ⟨1, _⟩ => show (0 + 1) * 1 ≤ 1; omega
  | ⟨2, _⟩ => show (0 + 1) * 2048 ≤ 2048; omega

/-- A block of whole columns takes whole words. -/
theorem words_col (ix : Fin 3 → ℕ) (h : ∀ a, (ix a + 1) * S1x2048x512.size a ≤ S32x2048x2048.size a) :
    (Rect.block (s := S32x2048x2048) S1x2048x512.size ix h).WholeWords (EltTy.packing .bf16) := by
  have h2 : 2 ≤ S32x2048x2048.rank := by decide
  refine .inl (.inr ⟨h2, rfl, .inl ⟨?_, ?_⟩⟩)
  · show 2 ∣ ix 1 * 2048
    exact Dvd.dvd.mul_left (by decide) _
  · show 2 ∣ 2048
    decide

theorem ok_of (hT : Tab m) : Ok m := by
  have hf : ∀ i : grid0.Coords, (i 1).val < 4 := fun i => (i 1).isLt
  exact ⟨fun i => ⟨inb_x _ _ (blkX m i).isLt (tr_x m hT i), .inl rfl⟩,
    fun i => ⟨inb_col _ _ _ (expX_lt m hT i) (hf i) (tr_col m hT i), .inr (words_col _ _)⟩,
    fun i => ⟨inb_col _ _ _ (expX_lt m hT i) (hf i) (tr_col2 m hT i), .inr (words_col _ _)⟩,
    fun i => ⟨inb_bias _ _ _ (expX_lt m hT i) (hf i) (tr_col3 m hT i), .inl rfl⟩,
    fun i => ⟨inb_bias _ _ _ (expX_lt m hT i) (hf i) (tr_col4 m hT i), .inl rfl⟩,
    fun i => ⟨inb_row _ _ _ (expX_lt m hT i) (hf i) (tr_row m hT i), .inl rfl⟩,
    fun i => ⟨inb_one _ _ (expX_lt m hT i) (tr_one m hT i), .inl rfl⟩⟩

/-- The word the body reads. -/
theorem used_eq (c : Dev nD) : used m c = (m ((c : Thread nD τ).loc main_arg1) : IVec S1 32) (ix1 0) := by
  obtain rfl : c = 0 := Subsingleton.elim _ _
  exact count_at m _

/-- A block is run where its number is below the count. -/
theorem run_iff (hT : Tab m) (c : Dev nD) (t : Fin grid0.N) :
    k0_cond2 (grid0.coords t) (used m c) = 1#1 ↔ t.val / 4 < ((m ((c : Thread nD τ).loc main_arg1) : IVec S1 32) (ix1 0)).toNat := by
  have ht : t.val < 384 := Nat.lt_of_lt_of_eq t.isLt N_0
  have hn := (hT c).count (ix1 0)
  have e0 : (grid0.coords t 0).val = t.val / 4 % 96 := Pipeline.Grid.coords_val t 0 (by decide) rfl
  rw [used_eq m c]
  unfold k0_cond2
  simp only [Scalar.cmpi, Scalar.extui, IntOp.cmpi, e0]
  rw [show ∀ b : Bool, BitVec.ofBool ((BitVec.ofBool b).setWidth 32 != 0#32) = BitVec.ofBool b from by decide]
  rw [StableHlo.Predicate.slt_bool_iff_toNat (by rw [BitVec.toNat_ofNat]; omega) (by omega), BitVec.toNat_ofNat]
  have e1 : t.val / 4 % 96 % 2 ^ 32 = t.val / 4 := by omega
  rw [e1]

theorem starts_of (hT : Tab m) : Starts m := fun c t h0 =>
  (run_iff m hT c t).mpr (by have := ((hT c).count (ix1 0)).1; omega)

end Cert.ExpertsIdeal.Own

end
-- ==== Proof.ExpertsSpec.lean ====
/-
  What the routed experts compute, element by element, and the reference's side: row block `i` of the buffer goes
  through expert `block_e[i]`'s two layers, and a block that is not in use is zero.
-/
module

public import proofs.«01_k».proof.Defs
public import proofs.«01_k».proof.Proof.Gen.ExpertsRefIdeal.Run
public import proofs.«01_k».proof.Proof.ExpertsPreI
public import Idealize.ShloMosaic.Lib.Routing.Ops

@[expose] public section

set_option maxRecDepth 16384

noncomputable section

namespace Cert.ExpertsSpec

open Idealize.ShloMosaic Idealize.ShloMosaic.TcCoe Idealize.SL.Sem
open Cert.ExpertsRefIdeal Cert.ExpertsRefIdeal.Gen

/-! ## A gather of slabs -/

section Slab
variable {α : Type}

/-- The dimension numbers of `table[idx]` for a table of `N` slabs `[A, B]` and `n` indices. -/
abbrev slabDims (N A B n : ℕ) (wf : GatherDims.WF ⟨3, ![N, A, B]⟩ ⟨2, ![n, 1]⟩ ⟨3, ![n, A, B]⟩ [1, 2] [0] [] [0] [] 1 ![1, A, B]) :
    GatherDims ⟨3, ![N, A, B]⟩ ⟨2, ![n, 1]⟩ ⟨3, ![n, A, B]⟩ where
  offsetDims := [1, 2]
  collapsedSliceDims := [0]
  operandBatchingDims := []
  startIndicesBatchingDims := []
  startIndexMap := [0]
  indexVectorDim := 1
  sliceSizes := ![1, A, B]
  wf := wf

/-- Slab `c` of the result is the table's slab at index `c`. -/
theorem slab_at {N A B n : ℕ} (hN : N < 2 ^ 31)
    (wf : GatherDims.WF ⟨3, ![N, A, B]⟩ ⟨2, ![n, 1]⟩ ⟨3, ![n, A, B]⟩ [1, 2] [0] [] [0] [] 1 ![1, A, B])
    (x : (⟨3, ![N, A, B]⟩ : Shape).Idx → α) (idx : IVec ⟨2, ![n, 1]⟩ 32) (c : Fin n) (a : Fin A) (b : Fin B) (e : Fin N)
    (he : idx (ix2 c (0 : Fin 1)) = BitVec.ofNat 32 e.val) :
    Host.gather (slabDims N A B n wf) x idx (ix3 c a b) = x (ix3 e a b) := by
  unfold Host.gather
  refine congrArg x (funext fun q => Fin.ext ?_)
  show (slabDims N A B n wf).start (ix3 c a b) idx q + (slabDims N A B n wf).batchCoord (ix3 c a b) q
      + (slabDims N A B n wf).offCoord (ix3 c a b) q = _
  rw [GatherDims.batchCoord_eq_zero _ _ _ List.not_mem_nil, Nat.add_zero]
  have h012 : q = 0 ∨ q = 1 ∨ q = 2 := by
    match q with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    unfold GatherDims.start
    rw [dif_pos (show (0 : Fin 3) ∈ (slabDims N A B n wf).startIndexMap from List.mem_singleton.mpr rfl)]
    have hsi : (slabDims N A B n wf).siIdx (ix3 c a b) ⟨List.idxOf (0 : Fin 3) (slabDims N A B n wf).startIndexMap,
        List.idxOf_lt_length_iff.2 (List.mem_singleton.mpr rfl)⟩ = ix2 c (0 : Fin 1) := by
      funext b'; refine Fin.ext ?_
      match b' with
      | ⟨0, _⟩ => rfl
      | ⟨1, _⟩ => rfl
    have hl := e.isLt
    rw [hsi, he, StableHlo.Predicate.toInt_ofNat_small _ (by omega)]
    show min ((e.val : ℤ)).toNat (N - 1) + 0 = e.val
    omega
  · unfold GatherDims.start
    rw [dif_neg (show ¬ ((1 : Fin 3) ∈ (slabDims N A B n wf).startIndexMap) from (by decide : ¬ ((1 : Fin 3) ∈ ([0] : List (Fin 3))))), Nat.zero_add]
    rfl
  · unfold GatherDims.start
    rw [dif_neg (show ¬ ((2 : Fin 3) ∈ (slabDims N A B n wf).startIndexMap) from (by decide : ¬ ((2 : Fin 3) ∈ ([0] : List (Fin 3))))), Nat.zero_add]
    rfl

end Slab

/-- The expert of block `i`. -/
def ex (be : IVec S96 32) (i : Fin 96) : Fin 32 := ⟨(be (ix1 i)).toNat % 32, Nat.mod_lt _ (by decide)⟩

/-- The start indices the reference gathers at. -/
def start (be : IVec S96 32) : IVec S96x1 32 :=
  broadcastInDim S96x1 ![0] bcast_S96_S96x1_0 (select (cmpi .slt be (broadcastInDim S96 ![] bcast_S_S96 (constantI S_ 32 0#32)))
    (addi be (broadcastInDim S96 ![] bcast_S_S96 (constantI S_ 32 32#32))) be)

theorem start_def (be : IVec S96 32) : start be = broadcastInDim S96x1 ![0] bcast_S96_S96x1_0 (select (cmpi .slt be
    (broadcastInDim S96 ![] bcast_S_S96 (constantI S_ 32 0#32))) (addi be (broadcastInDim S96 ![] bcast_S_S96 (constantI S_ 32 32#32))) be) := rfl

theorem start_at (be : IVec S96 32) (hr : ∀ b, (be b).toNat < 32) (i : Fin 96) :
    start be (ix2 i (0 : Fin 1)) = BitVec.ofNat 32 (ex be i).val := by
  have e : be (ix1 i) = BitVec.ofNat 32 (ex be i).val := by
    refine BitVec.eq_of_toNat_eq ?_
    have := hr (ix1 i)
    show _ = (BitVec.ofNat 32 ((be (ix1 i)).toNat % 32)).toNat
    rw [BitVec.toNat_ofNat, Nat.mod_eq_of_lt this, Nat.mod_eq_of_lt (by omega)]
  unfold start
  pointwise
  rw [e, Cert.ExpertsIdeal.Own.not_neg (by have := (ex be i).isLt; omega)]
  rfl

theorem gather_up (be : IVec S96 32) (hr : ∀ b, (be b).toNat < 32) (w : Vec Ideal S32x2048x4096 .f32) :
    Host.gather gather_S32x2048x4096_S96x1_S96x2048x4096_12_0_n_n_0_1_120484096 w (start be)
      = fun j => w (ix3 (ex be (j 0)) (j 1) (j 2)) := by
  funext j
  idx_vars j
  exact slab_at (by decide) _ w (start be) _ _ _ _ (start_at be hr _)

theorem gather_down (be : IVec S96 32) (hr : ∀ b, (be b).toNat < 32) (w : Vec Ideal S32x2048x2048 .f32) :
    Host.gather gather_S32x2048x2048_S96x1_S96x2048x2048_12_0_n_n_0_1_120482048 w (start be)
      = fun j => w (ix3 (ex be (j 0)) (j 1) (j 2)) := by
  funext j
  idx_vars j
  exact slab_at (by decide) _ w (start be) _ _ _ _ (start_at be hr _)

theorem gather_bup (be : IVec S96 32) (hr : ∀ b, (be b).toNat < 32) (w : Vec Ideal S32x4096 .f32) :
    Host.gather gather_S32x4096_S96x1_S96x4096_1_0_n_n_0_1_14096 w (start be) = fun j => w (ix2 (ex be (j 0)) (j 1)) := by
  funext j
  idx_vars j
  exact Routing.gather_row _ rfl rfl rfl rfl rfl w (start be) _ _ _ (start_at be hr _) (by decide)

theorem gather_bdown (be : IVec S96 32) (hr : ∀ b, (be b).toNat < 32) (w : Vec Ideal S32x2048 .f32) :
    Host.gather gather_S32x2048_S96x1_S96x2048_1_0_n_n_0_1_12048 w (start be) = fun j => w (ix2 (ex be (j 0)) (j 1)) := by
  funext j
  idx_vars j
  exact Routing.gather_row _ rfl rfl rfl rfl rfl w (start be) _ _ _ (start_at be hr _) (by decide)

/-! ## The layer's mathematics -/

/-- Expert `e`'s first layer at row `j` and column `n`. -/
def lin (x : Vec Ideal S49152x2048 .f32) (w : Vec Ideal S32x2048x4096 .f32) (b : Vec Ideal S32x4096 .f32)
    (e : Fin 32) (j : Fin 49152) (n : Fin 4096) : EReal :=
  (∑ k : Fin 2048, x (ix2 j k) * w (ix3 e k n) : EReal) + b (ix2 e n)

/-- The gated activation of a gate value and an up value. -/
def gated (g u : EReal) : EReal :=
  (min (Ideal.ofBits .f32 0x40E00000#32) (max (Ideal.ofBits .f32 0xC0E00000#32) u) + 1) * min g (Ideal.ofBits .f32 0x40E00000#32)
    * Ideal.div 1 (1 + Ideal.exp (-(Ideal.ofBits .f32 0x3FD9DB23#32 * min g (Ideal.ofBits .f32 0x40E00000#32))))

/-- Expert `e`'s activation at row `j`: column `n` gates columns `2n` and `2n + 1` of the first layer. -/
def act (x : Vec Ideal S49152x2048 .f32) (w : Vec Ideal S32x2048x4096 .f32) (b : Vec Ideal S32x4096 .f32)
    (e : Fin 32) (j : Fin 49152) (n : Fin 2048) : EReal :=
  gated (lin x w b e j ⟨2 * n.val, by omega⟩) (lin x w b e j ⟨1 + 2 * n.val, by omega⟩)

/-- The block of a row. -/
def blockOf (j : Fin 49152) : Fin 96 := ⟨j.val / 512, by omega⟩

/-- The experts' result. -/
def spec (be : IVec S96 32) (nu : IVec S1 32) (x : Vec Ideal S49152x2048 .f32) (w : Vec Ideal S32x2048x4096 .f32)
    (b : Vec Ideal S32x4096 .f32) (wd : Vec Ideal S32x2048x2048 .f32) (bd : Vec Ideal S32x2048 .f32) : Vec Ideal S49152x2048 .f32 :=
  fun j => (if (j 0).val / 512 < (nu (ix1 0)).toNat then
    (∑ k : Fin 2048, act x w b (ex be (blockOf (j 0))) (j 0) k * wd (ix3 (ex be (blockOf (j 0))) k (j 1)) : EReal)
      + bd (ix2 (ex be (blockOf (j 0))) (j 1)) else 0 : EReal)

/-! ## The reference's terms -/

/-- The reference's first layer, gate and up columns interleaved. -/
def refHid (be : IVec S96 32) (x : Vec Ideal S49152x2048 .f32) (w : Vec Ideal S32x2048x4096 .f32) (b : Vec Ideal S32x4096 .f32) :
    Vec Ideal S96x512x4096 .f32 :=
  addf (F := Ideal) (φ := .f32) (Host.dotGeneral (φ₁ := .f32) (φ₂ := .f32) dot_S96x512x2048_S96x2048x4096_S96x512x4096_2_1_1_2_0_0 none
      (shapeCast _ x shapeCasts_S49152x2048_S96x512x2048)
      (Host.gather gather_S32x2048x4096_S96x1_S96x2048x4096_12_0_n_n_0_1_120484096 w (start be)))
    (broadcastInDim S96x512x4096 ![0, 1, 2] bcast_S96x1x4096_S96x512x4096_0_1_2 (broadcastInDim S96x1x4096 ![0, 2]
      bcast_S96x4096_S96x1x4096_0_2 (Host.gather gather_S32x4096_S96x1_S96x4096_1_0_n_n_0_1_14096 b (start be))))

/-- The reference's clipped gate columns. -/
def refGate (h : Vec Ideal S96x512x4096 .f32) : Vec Ideal S96x512x2048 .f32 :=
  minimumf (F := Ideal) (φ := .f32) (Host.slice S96x512x2048 ![0, 0, 0] ![1, 1, 2] h slicesBy_S96x512x4096_S96x512x2048_0s1_0s1_0s2)
    (broadcastInDim S96x512x2048 ![] bcast_S_S96x512x2048 (constant S_ .f32 0x40E00000#32))

/-- The reference's gated activation. -/
def refAct (h : Vec Ideal S96x512x4096 .f32) : Vec Ideal S96x512x2048 .f32 :=
  mulf (F := Ideal) (φ := .f32) (mulf (addf (minimumf (broadcastInDim S96x512x2048 ![] bcast_S_S96x512x2048 (id (constant (F := Ideal) S_ .f32 0x40E00000#32)))
      (maximumf (broadcastInDim S96x512x2048 ![] bcast_S_S96x512x2048 (id (constant (F := Ideal) S_ .f32 0xC0E00000#32)))
        (Host.slice S96x512x2048 ![0, 0, 1] ![1, 1, 2] h slicesBy_S96x512x4096_S96x512x2048_0s1_0s1_1s2)))
      (broadcastInDim S96x512x2048 ![] bcast_S_S96x512x2048 (constant S_ .f32 0x3F800000#32))) (refGate h))
    (Host.divf (broadcastInDim S96x512x2048 ![] bcast_S_S96x512x2048 (constant S_ .f32 0x3F800000#32))
      (addf (broadcastInDim S96x512x2048 ![] bcast_S_S96x512x2048 (constant S_ .f32 0x3F800000#32))
        (Host.exp (Host.negf (mulf (broadcastInDim S96x512x2048 ![] bcast_S_S96x512x2048 (constant S_ .f32 0x3FD9DB23#32)) (refGate h))))))

/-- The reference's result from its activation. -/
def refOut (be : IVec S96 32) (nu : IVec S1 32) (a : Vec Ideal S96x512x2048 .f32) (wd : Vec Ideal S32x2048x2048 .f32)
    (bd : Vec Ideal S32x2048 .f32) : Vec Ideal S49152x2048 .f32 :=
  shapeCast _ (select (broadcastInDim S96x512x2048 ![0, 1, 2] bcast_S96x1x1_S96x512x2048_0_1_2 (broadcastInDim S96x1x1 ![0] bcast_S96_S96x1x1_0
      (cmpi .slt (iotaInDim S96 32 0) (broadcastInDim S96 ![] bcast_S_S96 (shapeCast _ nu shapeCasts_S1_S_)))))
    (addf (F := Ideal) (φ := .f32) (Host.dotGeneral (φ₁ := .f32) (φ₂ := .f32) dot_S96x512x2048_S96x2048x2048_S96x512x2048_2_1_1_2_0_0 none a
        (Host.gather gather_S32x2048x2048_S96x1_S96x2048x2048_12_0_n_n_0_1_120482048 wd (start be)))
      (broadcastInDim S96x512x2048 ![0, 1, 2] bcast_S96x1x2048_S96x512x2048_0_1_2 (broadcastInDim S96x1x2048 ![0, 2]
        bcast_S96x2048_S96x1x2048_0_2 (Host.gather gather_S32x2048_S96x1_S96x2048_1_0_n_n_0_1_12048 bd (start be)))))
    (broadcastInDim S96x512x2048 ![] bcast_S_S96x512x2048 (id (constant (F := Ideal) S_ .f32 0x00000000#32)))) shapeCasts_S96x512x2048_S49152x2048

theorem res_eq (m : (ℓ : Loc nD τ sig) → Buf (Elt Ideal) ℓ) (c : Dev nD) : Value.res_main_v60 m c
    = refOut (m ((c : Thread nD τ).loc main_arg0)) (m ((c : Thread nD τ).loc main_arg1))
        (refAct (refHid (m ((c : Thread nD τ).loc main_arg0)) (m ((c : Thread nD τ).loc main_arg2))
          (m ((c : Thread nD τ).loc main_arg3)) (m ((c : Thread nD τ).loc main_arg4))))
        (m ((c : Thread nD τ).loc main_arg5)) (m ((c : Thread nD τ).loc main_arg6)) := rfl

theorem hid_at (be : IVec S96 32) (hr : ∀ b, (be b).toNat < 32) (x : Vec Ideal S49152x2048 .f32) (w : Vec Ideal S32x2048x4096 .f32)
    (b : Vec Ideal S32x4096 .f32) (i : Fin 96) (r : Fin 512) (n : Fin 4096) (j : Fin 49152) (hj : j.val = i.val * 512 + r.val) :
    refHid be x w b (ix3 i r n) = lin x w b (ex be i) j n := by
  unfold refHid
  rw [gather_up _ hr, gather_bup _ hr]
  obtain ⟨jv, hjl⟩ := j
  subst hj
  pointwise [lin]

theorem act_at (h : Vec Ideal S96x512x4096 .f32) (i : Fin 96) (r : Fin 512) (n : Fin 2048) :
    refAct h (ix3 i r n) = gated (h (ix3 i r ⟨2 * n.val, by omega⟩)) (h (ix3 i r ⟨1 + 2 * n.val, by omega⟩)) := by
  pointwise [refAct, refGate]
  rfl

theorem less_iff {p : ℕ} {x : BitVec 32} (hp : p < 96) (h : x.toNat ≤ 96) :
    IntOp.cmpi .slt (BitVec.ofNat 32 p) x = BitVec.ofBool (decide (p < x.toNat)) := by
  obtain ⟨n, hn⟩ : ∃ n, n = x.toNat := ⟨_, rfl⟩
  obtain rfl : x = BitVec.ofNat 32 n := BitVec.eq_of_toNat_eq (by rw [BitVec.toNat_ofNat, hn]; have := x.isLt; omega)
  rw [← hn] at h ⊢
  simp only [IntOp.cmpi, BitVec.slt, StableHlo.Predicate.toInt_ofNat_small p (by omega), StableHlo.Predicate.toInt_ofNat_small n (by omega), Nat.cast_lt]

/-- The row of a row's block. -/
def rowOf (j : Fin 49152) : Fin 512 := ⟨j.val % 512, by omega⟩

/-- A choice by a bit that says `q`. -/
theorem select_iff (q : Prop) [Decidable q] (a b : EReal) : Scalar.select (BitVec.ofBool (decide q)) a b = if q then a else b := by
  by_cases h : q
  · rw [decide_eq_true h, if_pos h]; rfl
  · rw [decide_eq_false h, if_neg h]; rfl

theorem out_at (be : IVec S96 32) (nu : IVec S1 32) (hr : ∀ b, (be b).toNat < 32) (hn : (nu (ix1 0)).toNat ≤ 96)
    (a : Vec Ideal S96x512x2048 .f32) (wd : Vec Ideal S32x2048x2048 .f32)
    (bd : Vec Ideal S32x2048 .f32) (j : Fin 49152) (n : Fin 2048) : refOut be nu a wd bd (ix2 j n)
      = (if j.val / 512 < (nu (ix1 0)).toNat then
          (∑ k : Fin 2048, a (ix3 (blockOf j) (rowOf j) k) * wd (ix3 (ex be (blockOf j)) k n) : EReal)
            + bd (ix2 (ex be (blockOf j)) n) else 0 : EReal) := by
  unfold refOut
  rw [gather_down _ hr, gather_bdown _ hr]
  pointwise
  refine Eq.trans ?_ (select_iff _ _ _)
  rw [less_iff (by omega) hn]
  refine congrArg (fun z : EReal => Scalar.select _ _ z) ?_
  show (Ideal.ofBits .f32 0x00000000#32 : EReal) = 0
  exact Ideal.ofBits_zero _

theorem sum_at (a f : Fin 2048 → EReal) (h : ∀ k, a k = f k) (w : Fin 2048 → EReal) : ∑ k, a k * w k = ∑ k, f k * w k :=
  Finset.sum_congr rfl fun k _ => by rw [h k]

/-- The reference's result is the layer's mathematics. -/
theorem ref_eq (be : IVec S96 32) (nu : IVec S1 32) (hr : ∀ b, (be b).toNat < 32) (hn : (nu (ix1 0)).toNat ≤ 96)
    (x : Vec Ideal S49152x2048 .f32) (w : Vec Ideal S32x2048x4096 .f32) (b : Vec Ideal S32x4096 .f32)
    (wd : Vec Ideal S32x2048x2048 .f32) (bd : Vec Ideal S32x2048 .f32) :
    refOut be nu (refAct (refHid be x w b)) wd bd = spec be nu x w b wd bd := by
  funext j
  idx_vars j
  refine (out_at be nu hr hn _ wd bd j0 j1).trans ?_
  have hrow : j0.val = (blockOf j0).val * 512 + (rowOf j0).val := by
    show j0.val = j0.val / 512 * 512 + j0.val % 512
    omega
  have ha : ∀ k : Fin 2048, refAct (refHid be x w b) (ix3 (blockOf j0) (rowOf j0) k) = act x w b (ex be (blockOf j0)) j0 k := fun k =>
    (act_at _ _ _ _).trans (by rw [hid_at be hr x w b _ _ _ j0 hrow, hid_at be hr x w b _ _ _ j0 hrow]; rfl)
  have hs := sum_at _ _ ha (fun k => wd (ix3 (ex be (blockOf j0)) k j1))
  exact congrArg (fun z : EReal => if j0.val / 512 < (nu (ix1 0)).toNat then z + bd (ix2 (ex be (blockOf j0)) j1) else 0) hs

end Cert.ExpertsSpec

end
-- ==== Proof.ExpertsPoint.lean ====
/-
  One grid point of the experts' call, element by element: what the body adds to the output buffer, and which elements
  of the arguments its blocks hold.
-/
module

public import proofs.«01_k».proof.Proof.ExpertsPreI
public import proofs.«01_k».proof.Proof.ExpertsSpec

@[expose] public section

set_option maxRecDepth 16384

noncomputable section

namespace Cert.ExpertsIdeal.Own

open Cert.ExpertsIdeal.Gen
open Idealize.ShloMosaic Idealize.ShloMosaic.TcCoe Idealize.SL.Sem

/-- What the body adds, at a row and a column: the 512 activation columns of the point against its rows of the second layer. -/
theorem next_at (o : Vec Ideal S512x2048 .f32) (s : Vec Ideal S512x2048 .bf16) (x1 x2 : Vec Ideal S1x2048x512 .bf16)
    (x3 x4 : Vec Ideal S1x1x512 .f32) (x5 : Vec Ideal S1x512x2048 .f32) (r : Fin 512) (n : Fin 2048) :
    nextOut o s x1 x2 x3 x4 x5 (ix2 r n) = (o (ix2 r n) + ∑ f : Fin 512,
      ExpertsSpec.gated ((∑ k : Fin 2048, s (ix2 r k) * x1 (ix3 0 k f) : EReal) + x3 (ix3 0 0 f))
        ((∑ k : Fin 2048, s (ix2 r k) * x2 (ix3 0 k f) : EReal) + x4 (ix3 0 0 f)) * x5 (ix3 0 f n) : EReal) := by
  pointwise [nextOut, k0_pay2, k0_pay5, k0_pay6]
  rfl

theorem bias_at (x6 : Vec Ideal S1x1x2048 .f32) (r : Fin 512) (n : Fin 2048) : k0_pay4 x6 (ix2 r n) = x6 (ix3 0 0 n) := by
  pointwise [k0_pay4]

theorem zero_at (r : Fin 512) (n : Fin 2048) : (k0_pay1 (F := Ideal)) (ix2 r n) = (0 : EReal) := by
  pointwise [k0_pay1]

theorem cast_at (x0 : Vec Ideal S512x2048 .f32) (r : Fin 512) (k : Fin 2048) : k0_pay3 x0 (ix2 r k) = x0 (ix2 r k) := by
  pointwise [k0_pay3]

/-! ## A window's block, whatever its tables hold -/

section Block
variable (a : (pcfg0 (F := Ideal)).Adm) (t : Fin (cfg0 a).N)

theorem read_0 (f : Vec Ideal S49152x2048 .f32) (b : Fin 96) (h : cc0_transform_0 inb_S1_S1_0 numel1_S1 a.1 (grid0.coords t) = ![b.val, 0])
    (r : Fin 512) (k : Fin 2048) :
    (((((cfg0 a).win 0).blk t).view.read (Elt Ideal) f : Vec Ideal S512x2048 .f32) (ix2 r k) : EReal) = f (ix2 ⟨b.val * 512 + r.val, by omega⟩ k) := by
  have e : ((cfg0 a).win 0).index t = ![b.val, 0] := h
  have r0 := Pipeline.Window.rect_emb_val ((cfg0 a).win 0) t (ix2 r k) (0 : Fin 2)
  have r1 := Pipeline.Window.rect_emb_val ((cfg0 a).win 0) t (ix2 r k) (1 : Fin 2)
  rw [e] at r0 r1
  refine congrArg f ?_
  funext q
  refine Fin.ext ?_
  match q with
  | ⟨0, _⟩ => exact r0
  | ⟨1, _⟩ => exact r1.trans (by show 0 * 2048 + k.val = k.val; omega)

theorem read_1 (f : Vec Ideal S32x2048x2048 .bf16) (b : Fin 32) (p : Fin 4) (h : cc0_transform_1 k0_off1_inb numel1_S1 a.1 (grid0.coords t) = ![b.val, 0, p.val])
    (k : Fin 2048) (n : Fin 512) :
    (((((cfg0 a).win 1).blk t).view.read (Elt Ideal) f : Vec Ideal S1x2048x512 .bf16) (ix3 0 k n) : EReal) = f (ix3 b k ⟨p.val * 512 + n.val, by omega⟩) := by
  have e : ((cfg0 a).win 1).index t = ![b.val, 0, p.val] := h
  have r0 := Pipeline.Window.rect_emb_val ((cfg0 a).win 1) t (ix3 0 k n) (0 : Fin 3)
  have r1 := Pipeline.Window.rect_emb_val ((cfg0 a).win 1) t (ix3 0 k n) (1 : Fin 3)
  have r2 := Pipeline.Window.rect_emb_val ((cfg0 a).win 1) t (ix3 0 k n) (2 : Fin 3)
  rw [e] at r0 r1 r2
  refine congrArg f ?_
  funext q
  refine Fin.ext ?_
  match q with
  | ⟨0, _⟩ => exact r0.trans (by show b.val * 1 + 0 = b.val; omega)
  | ⟨1, _⟩ => exact r1.trans (by show 0 * 2048 + k.val = k.val; omega)
  | ⟨2, _⟩ => exact r2.trans (by show p.val * 512 + n.val = p.val * 512 + n.val; rfl)

theorem read_2 (f : Vec Ideal S32x2048x2048 .bf16) (b : Fin 32) (p : Fin 4) (h : cc0_transform_2 k0_off1_inb numel1_S1 a.1 (grid0.coords t) = ![b.val, 0, p.val])
    (k : Fin 2048) (n : Fin 512) :
    (((((cfg0 a).win 2).blk t).view.read (Elt Ideal) f : Vec Ideal S1x2048x512 .bf16) (ix3 0 k n) : EReal) = f (ix3 b k ⟨p.val * 512 + n.val, by omega⟩) := by
  have e : ((cfg0 a).win 2).index t = ![b.val, 0, p.val] := h
  have r0 := Pipeline.Window.rect_emb_val ((cfg0 a).win 2) t (ix3 0 k n) (0 : Fin 3)
  have r1 := Pipeline.Window.rect_emb_val ((cfg0 a).win 2) t (ix3 0 k n) (1 : Fin 3)
  have r2 := Pipeline.Window.rect_emb_val ((cfg0 a).win 2) t (ix3 0 k n) (2 : Fin 3)
  rw [e] at r0 r1 r2
  refine congrArg f ?_
  funext q
  refine Fin.ext ?_
  match q with
  | ⟨0, _⟩ => exact r0.trans (by show b.val * 1 + 0 = b.val; omega)
  | ⟨1, _⟩ => exact r1.trans (by show 0 * 2048 + k.val = k.val; omega)
  | ⟨2, _⟩ => exact r2.trans (by show p.val * 512 + n.val = p.val * 512 + n.val; rfl)

theorem read_3 (f : Vec Ideal S32x1x2048 .f32) (b : Fin 32) (p : Fin 4) (h : cc0_transform_3 k0_off1_inb numel1_S1 a.1 (grid0.coords t) = ![b.val, 0, p.val])
    (n : Fin 512) :
    (((((cfg0 a).win 3).blk t).view.read (Elt Ideal) f : Vec Ideal S1x1x512 .f32) (ix3 0 0 n) : EReal) = f (ix3 b 0 ⟨p.val * 512 + n.val, by omega⟩) := by
  have e : ((cfg0 a).win 3).index t = ![b.val, 0, p.val] := h
  have r0 := Pipeline.Window.rect_emb_val ((cfg0 a).win 3) t (ix3 0 0 n) (0 : Fin 3)
  have r1 := Pipeline.Window.rect_emb_val ((cfg0 a).win 3) t (ix3 0 0 n) (1 : Fin 3)
  have r2 := Pipeline.Window.rect_emb_val ((cfg0 a).win 3) t (ix3 0 0 n) (2 : Fin 3)
  rw [e] at r0 r1 r2
  refine congrArg f ?_
  funext q
  refine Fin.ext ?_
  match q with
  | ⟨0, _⟩ => exact r0.trans (by show b.val * 1 + 0 = b.val; omega)
  | ⟨1, _⟩ => exact r1.trans (by show 0 * 1 + 0 = 0; omega)
  | ⟨2, _⟩ => exact r2.trans (by show p.val * 512 + n.val = p.val * 512 + n.val; rfl)

theorem read_4 (f : Vec Ideal S32x1x2048 .f32) (b : Fin 32) (p : Fin 4) (h : cc0_transform_4 k0_off1_inb numel1_S1 a.1 (grid0.coords t) = ![b.val, 0, p.val])
    (n : Fin 512) :
    (((((cfg0 a).win 4).blk t).view.read (Elt Ideal) f : Vec Ideal S1x1x512 .f32) (ix3 0 0 n) : EReal) = f (ix3 b 0 ⟨p.val * 512 + n.val, by omega⟩) := by
  have e : ((cfg0 a).win 4).index t = ![b.val, 0, p.val] := h
  have r0 := Pipeline.Window.rect_emb_val ((cfg0 a).win 4) t (ix3 0 0 n) (0 : Fin 3)
  have r1 := Pipeline.Window.rect_emb_val ((cfg0 a).win 4) t (ix3 0 0 n) (1 : Fin 3)
  have r2 := Pipeline.Window.rect_emb_val ((cfg0 a).win 4) t (ix3 0 0 n) (2 : Fin 3)
  rw [e] at r0 r1 r2
  refine congrArg f ?_
  funext q
  refine Fin.ext ?_
  match q with
  | ⟨0, _⟩ => exact r0.trans (by show b.val * 1 + 0 = b.val; omega)
  | ⟨1, _⟩ => exact r1.trans (by show 0 * 1 + 0 = 0; omega)
  | ⟨2, _⟩ => exact r2.trans (by show p.val * 512 + n.val = p.val * 512 + n.val; rfl)

theorem read_5 (f : Vec Ideal S32x2048x2048 .f32) (b : Fin 32) (p : Fin 4) (h : cc0_transform_5 k0_off1_inb numel1_S1 a.1 (grid0.coords t) = ![b.val, p.val, 0])
    (n : Fin 512) (k : Fin 2048) :
    (((((cfg0 a).win 5).blk t).view.read (Elt Ideal) f : Vec Ideal S1x512x2048 .f32) (ix3 0 n k) : EReal) = f (ix3 b ⟨p.val * 512 + n.val, by omega⟩ k) := by
  have e : ((cfg0 a).win 5).index t = ![b.val, p.val, 0] := h
  have r0 := Pipeline.Window.rect_emb_val ((cfg0 a).win 5) t (ix3 0 n k) (0 : Fin 3)
  have r1 := Pipeline.Window.rect_emb_val ((cfg0 a).win 5) t (ix3 0 n k) (1 : Fin 3)
  have r2 := Pipeline.Window.rect_emb_val ((cfg0 a).win 5) t (ix3 0 n k) (2 : Fin 3)
  rw [e] at r0 r1 r2
  refine congrArg f ?_
  funext q
  refine Fin.ext ?_
  match q with
  | ⟨0, _⟩ => exact r0.trans (by show b.val * 1 + 0 = b.val; omega)
  | ⟨1, _⟩ => exact r1.trans (by show p.val * 512 + n.val = p.val * 512 + n.val; rfl)
  | ⟨2, _⟩ => exact r2.trans (by show 0 * 2048 + k.val = k.val; omega)

theorem read_6 (f : Vec Ideal S32x1x2048 .f32) (b : Fin 32) (h : cc0_transform_6 k0_off1_inb numel1_S1 a.1 (grid0.coords t) = ![b.val, 0, 0])
    (n : Fin 2048) :
    (((((cfg0 a).win 6).blk t).view.read (Elt Ideal) f : Vec Ideal S1x1x2048 .f32) (ix3 0 0 n) : EReal) = f (ix3 b 0 n) := by
  have e : ((cfg0 a).win 6).index t = ![b.val, 0, 0] := h
  have r0 := Pipeline.Window.rect_emb_val ((cfg0 a).win 6) t (ix3 0 0 n) (0 : Fin 3)
  have r1 := Pipeline.Window.rect_emb_val ((cfg0 a).win 6) t (ix3 0 0 n) (1 : Fin 3)
  have r2 := Pipeline.Window.rect_emb_val ((cfg0 a).win 6) t (ix3 0 0 n) (2 : Fin 3)
  rw [e] at r0 r1 r2
  refine congrArg f ?_
  funext q
  refine Fin.ext ?_
  match q with
  | ⟨0, _⟩ => exact r0.trans (by show b.val * 1 + 0 = b.val; omega)
  | ⟨1, _⟩ => exact r1.trans (by show 0 * 1 + 0 = 0; omega)
  | ⟨2, _⟩ => exact r2.trans (by show 0 * 2048 + n.val = n.val; omega)

end Block

variable (m : (ℓ : Loc nD τ sig) → Buf (Elt Ideal) ℓ)

theorem iblk_0 (hO : Ok m) (hT : Tab m) (c : Dev nD) (t : Fin (cfgM m hO).N) (r : Fin 512) (k : Fin 2048) :
    (iblk m hO c 0 t : Vec Ideal S512x2048 .f32) (ix2 r k)
      = (V m c main_arg2 : Vec Ideal S49152x2048 .f32) (ix2 ⟨(blkX m (grid0.coords t)).val * 512 + r.val, by omega⟩ k) :=
  read_0 (adm m hO) t _ _ (tr_x m hT (grid0.coords t)) r k

/-! ## What the host lines leave the windows -/

theorem host_gate (c : Dev nD) (e : Fin 32) (k n : Fin 2048) : (V m c main_v4 : Vec Ideal S32x2048x2048 .bf16) (ix3 e k n)
    = (m ((c : Thread nD τ).loc main_arg3) : Vec Ideal S32x2048x4096 .f32) (ix3 e k ⟨2 * n.val, by omega⟩) := by
  have h : (V m c main_v4 : Vec Ideal S32x2048x2048 .bf16) = truncf (F := Ideal) .bf16 (shapeCast S32x2048x2048
      (extractStridedSlice S32x2048x2048x1 ![0, 0, 0, 0] (shapeCast S32x2048x2048x2 (m ((c : Thread nD τ).loc main_arg3) : Vec Ideal S32x2048x4096 .f32)
        shapeCasts_S32x2048x4096_S32x2048x2048x2) slices_S32x2048x2048x2_S32x2048x2048x1_0_0_0_0) shapeCasts_S32x2048x2048x1_S32x2048x2048 : Vec Ideal S32x2048x2048 .f32) bitsLt_bf16_f32 := by
    show StableHlo.after hostOps0 (fun b => m (c, b)) main_v4 = _
    after_results <;> rfl
  rw [h]
  pointwise
  exact congrArg (fun x : Fin 4096 => (m ((c : Thread nD τ).loc main_arg3) : Vec Ideal S32x2048x4096 .f32) (ix3 e k x)) (Fin.ext (by dsimp only; omega))

set_option maxRecDepth 100000 in
theorem host_bgate (c : Dev nD) (e : Fin 32) (n : Fin 2048) : (V m c main_v9 : Vec Ideal S32x1x2048 .f32) (ix3 e 0 n)
    = (m ((c : Thread nD τ).loc main_arg4) : Vec Ideal S32x4096 .f32) (ix2 e ⟨2 * n.val, by omega⟩) := by
  have h : (V m c main_v9 : Vec Ideal S32x1x2048 .f32) = shapeCast S32x1x2048
      (extractStridedSlice S32x1x2048x1 ![0, 0, 0, 0] (shapeCast S32x1x2048x2 (m ((c : Thread nD τ).loc main_arg4) : Vec Ideal S32x4096 .f32)
        shapeCasts_S32x4096_S32x1x2048x2) slices_S32x1x2048x2_S32x1x2048x1_0_0_0_0) shapeCasts_S32x1x2048x1_S32x1x2048 := by
    show StableHlo.after hostOps0 (fun b => m (c, b)) main_v9 = _
    after_results <;> rfl
  rw [h]
  pointwise
  exact congrArg (fun x : Fin 4096 => (m ((c : Thread nD τ).loc main_arg4) : Vec Ideal S32x4096 .f32) (ix2 e x)) (Fin.ext (by dsimp only; omega))

theorem host_up (c : Dev nD) (e : Fin 32) (k n : Fin 2048) : (V m c main_v7 : Vec Ideal S32x2048x2048 .bf16) (ix3 e k n)
    = (m ((c : Thread nD τ).loc main_arg3) : Vec Ideal S32x2048x4096 .f32) (ix3 e k ⟨1 + 2 * n.val, by omega⟩) := by
  have h : (V m c main_v7 : Vec Ideal S32x2048x2048 .bf16) = truncf (F := Ideal) .bf16 (shapeCast S32x2048x2048
      (extractStridedSlice S32x2048x2048x1 ![0, 0, 0, 1] (shapeCast S32x2048x2048x2 (m ((c : Thread nD τ).loc main_arg3) : Vec Ideal S32x2048x4096 .f32)
        shapeCasts_S32x2048x4096_S32x2048x2048x2) slices_S32x2048x2048x2_S32x2048x2048x1_0_0_0_1) shapeCasts_S32x2048x2048x1_S32x2048x2048 : Vec Ideal S32x2048x2048 .f32) bitsLt_bf16_f32 := by
    show StableHlo.after hostOps0 (fun b => m (c, b)) main_v7 = _
    after_results <;> rfl
  rw [h]
  pointwise
  exact congrArg (fun x : Fin 4096 => (m ((c : Thread nD τ).loc main_arg3) : Vec Ideal S32x2048x4096 .f32) (ix3 e k x)) (Fin.ext (by dsimp only; omega))

set_option maxRecDepth 100000 in
theorem host_bup (c : Dev nD) (e : Fin 32) (n : Fin 2048) : (V m c main_v11 : Vec Ideal S32x1x2048 .f32) (ix3 e 0 n)
    = (m ((c : Thread nD τ).loc main_arg4) : Vec Ideal S32x4096 .f32) (ix2 e ⟨1 + 2 * n.val, by omega⟩) := by
  have h : (V m c main_v11 : Vec Ideal S32x1x2048 .f32) = shapeCast S32x1x2048
      (extractStridedSlice S32x1x2048x1 ![0, 0, 0, 1] (shapeCast S32x1x2048x2 (m ((c : Thread nD τ).loc main_arg4) : Vec Ideal S32x4096 .f32)
        shapeCasts_S32x4096_S32x1x2048x2) slices_S32x1x2048x2_S32x1x2048x1_0_0_0_1) shapeCasts_S32x1x2048x1_S32x1x2048 := by
    show StableHlo.after hostOps0 (fun b => m (c, b)) main_v11 = _
    after_results <;> rfl
  rw [h]
  pointwise
  exact congrArg (fun x : Fin 4096 => (m ((c : Thread nD τ).loc main_arg4) : Vec Ideal S32x4096 .f32) (ix2 e x)) (Fin.ext (by dsimp only; omega))

theorem host_bdown (c : Dev nD) (e : Fin 32) (n : Fin 2048) : (V m c main_v12 : Vec Ideal S32x1x2048 .f32) (ix3 e 0 n)
    = (m ((c : Thread nD τ).loc main_arg6) : Vec Ideal S32x2048 .f32) (ix2 e n) := by
  have h : (V m c main_v12 : Vec Ideal S32x1x2048 .f32) = shapeCast S32x1x2048 (m ((c : Thread nD τ).loc main_arg6) : Vec Ideal S32x2048 .f32)
        shapeCasts_S32x2048_S32x1x2048 := by
    show StableHlo.after hostOps0 (fun b => m (c, b)) main_v12 = _
    after_results <;> rfl
  rw [h]
  pointwise

end Cert.ExpertsIdeal.Own

end
-- ==== Proof.ExpertsValue.lean ====
/-
  The experts' call over the grid: a block's four points add the four quarters of the activation's columns onto the second
  layer's bias, a block that is not in use is zero, and the two sides agree.
-/
module

public import proofs.«01_k».proof.Proof.ExpertsPoint

@[expose] public section

set_option maxRecDepth 16384

noncomputable section

namespace Cert.ExpertsIdeal.Own

open Cert.ExpertsIdeal.Gen
open Idealize.ShloMosaic Idealize.ShloMosaic.TcCoe Idealize.SL.Sem
open ExpertsSpec (ex act gated lin spec blockOf)

/-- Column `f` of the quarter `p`. -/
def lane (p : Fin 4) (f : Fin 512) : Fin 2048 := ⟨p.val * 512 + f.val, by omega⟩

/-- What the quarter `q` adds at row `j` and column `n`. -/
def piece (x : Vec Ideal S49152x2048 .f32) (w : Vec Ideal S32x2048x4096 .f32) (b : Vec Ideal S32x4096 .f32)
    (wd : Vec Ideal S32x2048x2048 .f32) (e : Fin 32) (j : Fin 49152) (n : Fin 2048) (q : Fin 4) : EReal :=
  ∑ f : Fin 512, act x w b e j (lane q f) * wd (ix3 e (lane q f) n)

theorem next_piece (o : Vec Ideal S512x2048 .f32) (s : Vec Ideal S512x2048 .bf16) (x1 x2 : Vec Ideal S1x2048x512 .bf16)
    (x3 x4 : Vec Ideal S1x1x512 .f32) (x5 : Vec Ideal S1x512x2048 .f32) (x : Vec Ideal S49152x2048 .f32)
    (w : Vec Ideal S32x2048x4096 .f32) (b : Vec Ideal S32x4096 .f32) (wd : Vec Ideal S32x2048x2048 .f32)
    (e : Fin 32) (j : Fin 49152) (p : Fin 4) (r : Fin 512) (n : Fin 2048)
    (hs : ∀ k, s (ix2 r k) = x (ix2 j k))
    (h1 : ∀ k f, x1 (ix3 0 k f) = w (ix3 e k ⟨2 * (lane p f).val, by omega⟩))
    (h2 : ∀ k f, x2 (ix3 0 k f) = w (ix3 e k ⟨1 + 2 * (lane p f).val, by omega⟩))
    (h3 : ∀ f, x3 (ix3 0 0 f) = b (ix2 e ⟨2 * (lane p f).val, by omega⟩))
    (h4 : ∀ f, x4 (ix3 0 0 f) = b (ix2 e ⟨1 + 2 * (lane p f).val, by omega⟩))
    (h5 : ∀ f n, x5 (ix3 0 f n) = wd (ix3 e (lane p f) n)) :
    nextOut o s x1 x2 x3 x4 x5 (ix2 r n) = (o (ix2 r n) + piece x w b wd e j n p : EReal) := by
  refine (next_at o s x1 x2 x3 x4 x5 r n).trans (congrArg (fun z : EReal => (o (ix2 r n) + z : EReal)) ?_)
  refine Finset.sum_congr rfl fun f _ => ?_
  refine congrArg₂ (fun y z : EReal => y * z) (congrArg₂ gated ?_ ?_) (h5 f n)
  · exact congrArg₂ (fun y z : EReal => y + z) (Finset.sum_congr rfl fun k _ => congrArg₂ (fun y z : EReal => y * z) (hs k) (h1 k f)) (h3 f)
  · exact congrArg₂ (fun y z : EReal => y + z) (Finset.sum_congr rfl fun k _ => congrArg₂ (fun y z : EReal => y * z) (hs k) (h2 k f)) (h4 f)

/-- The four quarters onto the bias are the whole contraction and the bias. -/
theorem pieces (x : Vec Ideal S49152x2048 .f32) (w : Vec Ideal S32x2048x4096 .f32) (b : Vec Ideal S32x4096 .f32)
    (wd : Vec Ideal S32x2048x2048 .f32) (e : Fin 32) (j : Fin 49152) (n : Fin 2048) (z : EReal) :
    z + piece x w b wd e j n 0 + piece x w b wd e j n 1 + piece x w b wd e j n 2 + piece x w b wd e j n 3
      = (∑ k : Fin 2048, act x w b e j k * wd (ix3 e k n) : EReal) + z := by
  have h : ∑ q : Fin 4, piece x w b wd e j n q = (∑ k : Fin 2048, act x w b e j k * wd (ix3 e k n) : EReal) :=
    Fin.sum_mul_add_fin 4 512 (fun k : Fin 2048 => (act x w b e j k * wd (ix3 e k n) : EReal))
  rw [← h, Fin.sum_univ_four, add_comm _ z]
  simp only [add_assoc]

variable (m : (ℓ : Loc nD τ sig) → Buf (Elt Ideal) ℓ)

/-! ## The blocks of a point whose block is in use -/

theorem row_point (t : Fin grid0.N) : t.val / 4 < 96 := by
  have ht : t.val < 384 := Nat.lt_of_lt_of_eq t.isLt N_0
  omega

/-- The output block and the quarter of a point. -/
abbrev outer (t : Fin grid0.N) : Fin 96 := ⟨t.val / 4, row_point t⟩
abbrev quarter (t : Fin grid0.N) : Fin 4 := ⟨t.val % 4, by omega⟩

theorem coord_0 (t : Fin grid0.N) : (grid0.coords t 0).val = t.val / 4 := by
  have e0 : (grid0.coords t 0).val = t.val / 4 % 96 := Pipeline.Grid.coords_val t 0 (by decide) rfl
  have := row_point t
  omega
theorem coord_1 (t : Fin grid0.N) : (grid0.coords t 1).val = t.val % 4 := by
  have e1 : (grid0.coords t 1).val = t.val / 1 % 4 := Pipeline.Grid.coords_val t 1 (by decide) rfl
  omega

/-- The arguments. -/
abbrev aE : IVec S96 32 := m (((0 : Dev nD) : Thread nD τ).loc main_arg0)
abbrev aN : IVec S1 32 := m (((0 : Dev nD) : Thread nD τ).loc main_arg1)
abbrev aX : Vec Ideal S49152x2048 .f32 := m (((0 : Dev nD) : Thread nD τ).loc main_arg2)
abbrev aW : Vec Ideal S32x2048x4096 .f32 := m (((0 : Dev nD) : Thread nD τ).loc main_arg3)
abbrev aB : Vec Ideal S32x4096 .f32 := m (((0 : Dev nD) : Thread nD τ).loc main_arg4)
abbrev aWd : Vec Ideal S32x2048x2048 .f32 := m (((0 : Dev nD) : Thread nD τ).loc main_arg5)
abbrev aBd : Vec Ideal S32x2048 .f32 := m (((0 : Dev nD) : Thread nD τ).loc main_arg6)

theorem blk_used (t : Fin grid0.N) (hu : t.val / 4 < (aN m (ix1 0)).toNat) : blkX m (grid0.coords t) = outer t := by
  refine Fin.ext ?_
  show min (grid0.coords t 0).val ((aN m (ix1 0)).toNat - 1) = t.val / 4
  rw [coord_0]
  omega

theorem exp_used (hT : Tab m) (t : Fin grid0.N) (hu : t.val / 4 < (aN m (ix1 0)).toNat) :
    expX m (grid0.coords t) = (ex (aE m) (outer t)).val := by
  show (aE m (ix1 (blkX m (grid0.coords t)))).toNat = (aE m (ix1 (outer t))).toNat % 32
  rw [blk_used m t hu, Nat.mod_eq_of_lt ((hT 0).expert _)]

theorem vec2 (a b : ℕ) (h : a = b) : (![a, 0] : Fin 2 → ℕ) = ![b, 0] := by rw [h]
theorem vecc (a b p q : ℕ) (h : a = b) (h' : p = q) : (![a, 0, p] : Fin 3 → ℕ) = ![b, 0, q] := by rw [h, h']
theorem vecr (a b p q : ℕ) (h : a = b) (h' : p = q) : (![a, p, 0] : Fin 3 → ℕ) = ![b, q, 0] := by rw [h, h']
theorem veco (a b : ℕ) (h : a = b) : (![a, 0, 0] : Fin 3 → ℕ) = ![b, 0, 0] := by rw [h]

section Used
variable (hO : Ok m) (hT : Tab m) (t : Fin (cfgM m hO).N) (hu : t.val / 4 < (aN m (ix1 0)).toNat)
include hT hu

theorem used_0 (r : Fin 512) (k : Fin 2048) : (iblk m hO 0 0 t : Vec Ideal S512x2048 .f32) (ix2 r k)
    = aX m (ix2 ⟨t.val / 4 * 512 + r.val, by have := row_point t; omega⟩ k) :=
  (read_0 (adm m hO) t _ (outer t) ((tr_x m hT (grid0.coords t)).trans (vec2 _ _ (congrArg Fin.val (blk_used m t hu)))) r k).trans
    (congrFun (V_arg m 0 main_arg2 (by simp [isArg])) _)
theorem used_1 (k : Fin 2048) (f : Fin 512) : (iblk m hO 0 1 t : Vec Ideal S1x2048x512 .bf16) (ix3 0 k f)
    = aW m (ix3 (ex (aE m) (outer t)) k ⟨2 * (lane (quarter t) f).val, by omega⟩) :=
  (read_1 (adm m hO) t _ (ex (aE m) (outer t)) (quarter t) ((tr_col m hT (grid0.coords t)).trans (vecc _ _ _ _ (exp_used m hT t hu) (coord_1 t))) k f).trans
    (host_gate m 0 _ k _)
theorem used_2 (k : Fin 2048) (f : Fin 512) : (iblk m hO 0 2 t : Vec Ideal S1x2048x512 .bf16) (ix3 0 k f)
    = aW m (ix3 (ex (aE m) (outer t)) k ⟨1 + 2 * (lane (quarter t) f).val, by omega⟩) :=
  (read_2 (adm m hO) t _ (ex (aE m) (outer t)) (quarter t) ((tr_col2 m hT (grid0.coords t)).trans (vecc _ _ _ _ (exp_used m hT t hu) (coord_1 t))) k f).trans
    (host_up m 0 _ k _)
theorem used_3 (f : Fin 512) : (iblk m hO 0 3 t : Vec Ideal S1x1x512 .f32) (ix3 0 0 f)
    = aB m (ix2 (ex (aE m) (outer t)) ⟨2 * (lane (quarter t) f).val, by omega⟩) :=
  (read_3 (adm m hO) t _ (ex (aE m) (outer t)) (quarter t) ((tr_col3 m hT (grid0.coords t)).trans (vecc _ _ _ _ (exp_used m hT t hu) (coord_1 t))) f).trans
    (host_bgate m 0 _ _)
theorem used_4 (f : Fin 512) : (iblk m hO 0 4 t : Vec Ideal S1x1x512 .f32) (ix3 0 0 f)
    = aB m (ix2 (ex (aE m) (outer t)) ⟨1 + 2 * (lane (quarter t) f).val, by omega⟩) :=
  (read_4 (adm m hO) t _ (ex (aE m) (outer t)) (quarter t) ((tr_col4 m hT (grid0.coords t)).trans (vecc _ _ _ _ (exp_used m hT t hu) (coord_1 t))) f).trans
    (host_bup m 0 _ _)
theorem used_5 (f : Fin 512) (n : Fin 2048) : (iblk m hO 0 5 t : Vec Ideal S1x512x2048 .f32) (ix3 0 f n)
    = aWd m (ix3 (ex (aE m) (outer t)) (lane (quarter t) f) n) :=
  (read_5 (adm m hO) t _ (ex (aE m) (outer t)) (quarter t) ((tr_row m hT (grid0.coords t)).trans (vecr _ _ _ _ (exp_used m hT t hu) (coord_1 t))) f n).trans
    (congrFun (V_arg m 0 main_arg5 (by simp [isArg])) _)
theorem used_6 (n : Fin 2048) : (iblk m hO 0 6 t : Vec Ideal S1x1x2048 .f32) (ix3 0 0 n)
    = aBd m (ix2 (ex (aE m) (outer t)) n) :=
  (read_6 (adm m hO) t _ (ex (aE m) (outer t)) ((tr_one m hT (grid0.coords t)).trans (veco _ _ (exp_used m hT t hu))) n).trans
    (host_bdown m 0 _ _)

end Used

/-! ## One point -/

theorem stepO_more (hO : Ok m) (hT : Tab m) (t : Fin (cfgM m hO).N) (hu : t.val / 4 < (aN m (ix1 0)).toNat) (hz : ¬ t.val % 4 = 0)
    (o : Vec Ideal S512x2048 .f32) (s : Vec Ideal S512x2048 .bf16) : stepO m hO 0 t o s
      = nextOut o s (iblk m hO 0 1 t) (iblk m hO 0 2 t) (iblk m hO 0 3 t) (iblk m hO 0 4 t) (iblk m hO 0 5 t) := by
  unfold stepO outAfter
  rw [if_pos ((run_iff m hT 0 t).mpr hu), if_neg (fun h => hz ((first_iff t).mp h)),
    if_neg (fun h => hz ((zero_iff t _).mp h).1)]
theorem stepO_open (hO : Ok m) (hT : Tab m) (t : Fin (cfgM m hO).N) (hu : t.val / 4 < (aN m (ix1 0)).toNat) (hz : t.val % 4 = 0)
    (o : Vec Ideal S512x2048 .f32) (s : Vec Ideal S512x2048 .bf16) : stepO m hO 0 t o s
      = nextOut (k0_pay4 (iblk m hO 0 6 t)) (k0_pay3 (iblk m hO 0 0 t))
          (iblk m hO 0 1 t) (iblk m hO 0 2 t) (iblk m hO 0 3 t) (iblk m hO 0 4 t) (iblk m hO 0 5 t) := by
  unfold stepO outAfter
  rw [if_pos ((run_iff m hT 0 t).mpr hu), if_pos ((first_iff t).mpr hz)]
theorem stepO_zero (hO : Ok m) (hT : Tab m) (t : Fin (cfgM m hO).N) (hu : ¬ t.val / 4 < (aN m (ix1 0)).toNat) (hz : t.val % 4 = 0)
    (o : Vec Ideal S512x2048 .f32) (s : Vec Ideal S512x2048 .bf16) : stepO m hO 0 t o s = k0_pay1 (F := Ideal) := by
  unfold stepO outAfter
  rw [if_neg (fun h => hu ((run_iff m hT 0 t).mp h)), if_pos ((zero_iff t _).mpr ⟨hz, fun h => hu ((run_iff m hT 0 t).mp h)⟩)]
theorem stepO_keep (hO : Ok m) (hT : Tab m) (t : Fin (cfgM m hO).N) (hu : ¬ t.val / 4 < (aN m (ix1 0)).toNat) (hz : ¬ t.val % 4 = 0)
    (o : Vec Ideal S512x2048 .f32) (s : Vec Ideal S512x2048 .bf16) : stepO m hO 0 t o s = o := by
  unfold stepO outAfter
  rw [if_neg (fun h => hu ((run_iff m hT 0 t).mp h)), if_neg (fun h => hz ((zero_iff t _).mp h).1)]
theorem stepS_more (hO : Ok m) (t : Fin (cfgM m hO).N) (hz : ¬ t.val % 4 = 0)
    (s : Vec Ideal S512x2048 .bf16) : stepS m hO 0 t s = s := by
  unfold stepS scAfter
  rw [if_neg (fun h => hz ((first_iff t).mp h)), ite_self]
theorem stepS_open (hO : Ok m) (hT : Tab m) (t : Fin (cfgM m hO).N) (hu : t.val / 4 < (aN m (ix1 0)).toNat) (hz : t.val % 4 = 0)
    (s : Vec Ideal S512x2048 .bf16) : stepS m hO 0 t s = k0_pay3 (iblk m hO 0 0 t) := by
  unfold stepS scAfter
  rw [if_pos ((run_iff m hT 0 t).mpr hu), if_pos ((first_iff t).mpr hz)]

/-- The pair after a point is the step from some pair. -/
theorem st_step (hO : Ok m) (t : Fin (cfgM m hO).N) : ∃ (o : Vec Ideal S512x2048 .f32) (s : Vec Ideal S512x2048 .bf16),
    (st m hO 0 t.val t.isLt).1 = stepO m hO 0 t o s ∧ (st m hO 0 t.val t.isLt).2 = stepS m hO 0 t s := by
  by_cases hz : t.val = 0
  · exact ⟨_, _, st_start m hO 0 t hz⟩
  · exact ⟨_, _, st_fst m hO 0 t hz, st_snd m hO 0 t hz⟩

/-! ## The four points of a block -/

attribute [local irreducible] stepO stepS st iblk

/-- The row of the output at row `r` of the block of a point. -/
def rowAt (t : Fin grid0.N) (r : Fin 512) : Fin 49152 := ⟨t.val / 4 * 512 + r.val, by have := row_point t; omega⟩

/-- What quarter `q` adds at a point's block. -/
abbrev part (t : Fin grid0.N) (r : Fin 512) (n : Fin 2048) (q : Fin 4) : EReal :=
  piece (aX m) (aW m) (aB m) (aWd m) (ex (aE m) (outer t)) (rowAt t r) n q

theorem open_at (hO : Ok m) (hT : Tab m) (t : Fin (cfgM m hO).N) (hu : t.val / 4 < (aN m (ix1 0)).toNat) (hz : t.val % 4 = 0) :
    (∀ r k, (st m hO 0 t.val t.isLt).2 (ix2 r k) = aX m (ix2 (rowAt t r) k))
    ∧ ∀ r n, (st m hO 0 t.val t.isLt).1 (ix2 r n)
        = (aBd m (ix2 (ex (aE m) (outer t)) n) + part m t r n (quarter t) : EReal) := by
  obtain ⟨o, s, h1, h2⟩ := st_step m hO t
  have hs : ∀ r k, k0_pay3 (F := Ideal) (iblk m hO 0 0 t) (ix2 r k) = aX m (ix2 (rowAt t r) k) := fun r k =>
    (cast_at _ r k).trans (used_0 m hO hT t hu r k)
  refine ⟨fun r k => (congrFun (h2.trans (stepS_open m hO hT t hu hz s)) _).trans (hs r k), fun r n => ?_⟩
  refine (congrFun (h1.trans (stepO_open m hO hT t hu hz o s)) _).trans ?_
  refine (next_piece _ _ _ _ _ _ _ (aX m) (aW m) (aB m) (aWd m) (ex (aE m) (outer t)) (rowAt t r) (quarter t) r n (hs r)
    (used_1 m hO hT t hu) (used_2 m hO hT t hu) (used_3 m hO hT t hu) (used_4 m hO hT t hu) (used_5 m hO hT t hu)).trans ?_
  exact congrArg (fun z : EReal => z + part m t r n (quarter t)) ((bias_at _ r n).trans (used_6 m hO hT t hu n))

theorem more_at (hO : Ok m) (hT : Tab m) (t : Fin (cfgM m hO).N) (hu : t.val / 4 < (aN m (ix1 0)).toNat) (hz : ¬ t.val % 4 = 0)
    (hz' : t.val ≠ 0)
    (hs : ∀ r k, (st m hO 0 (t.val - 1) (prev_lt m hO t)).2 (ix2 r k) = aX m (ix2 (rowAt t r) k)) :
    (∀ r k, (st m hO 0 t.val t.isLt).2 (ix2 r k) = aX m (ix2 (rowAt t r) k))
    ∧ ∀ r n, (st m hO 0 t.val t.isLt).1 (ix2 r n)
        = ((st m hO 0 (t.val - 1) (prev_lt m hO t)).1 (ix2 r n) + part m t r n (quarter t) : EReal) := by
  refine ⟨fun r k => (congrFun ((st_snd m hO 0 t hz').trans (stepS_more m hO t hz _)) _).trans (hs r k), fun r n => ?_⟩
  refine (congrFun ((st_fst m hO 0 t hz').trans (stepO_more m hO hT t hu hz _ _)) _).trans ?_
  exact next_piece _ _ _ _ _ _ _ (aX m) (aW m) (aB m) (aWd m) (ex (aE m) (outer t)) (rowAt t r) (quarter t) r n (hs r)
    (used_1 m hO hT t hu) (used_2 m hO hT t hu) (used_3 m hO hT t hu) (used_4 m hO hT t hu) (used_5 m hO hT t hu)

/-- The pair after the point `4 i + q`. -/
abbrev stAt (hO : Ok m) (i : Fin 96) (q : Fin 4) : Vec Ideal S512x2048 .f32 × Vec Ideal S512x2048 .bf16 :=
  st m hO 0 (i.val * 4 + q.val) (Nat.lt_of_lt_of_eq (by omega : i.val * 4 + q.val < 384) N_0.symm)

/-- The point `4 i + q`. -/
def pt (i : Fin 96) (q : Fin 4) : Fin grid0.N := ⟨i.val * 4 + q.val, Nat.lt_of_lt_of_eq (by omega : i.val * 4 + q.val < 384) N_0.symm⟩

theorem pt_outer (i : Fin 96) (q : Fin 4) : outer (pt i q) = i := Fin.ext (by show (i.val * 4 + q.val) / 4 = i.val; omega)
theorem pt_quarter (i : Fin 96) (q : Fin 4) : quarter (pt i q) = q := Fin.ext (by show (i.val * 4 + q.val) % 4 = q.val; omega)

/-- The output's row at row `r` of block `i`. -/
def rowIn (i : Fin 96) (r : Fin 512) : Fin 49152 := ⟨i.val * 512 + r.val, by omega⟩
theorem pt_row (i : Fin 96) (q : Fin 4) (r : Fin 512) : rowAt (pt i q) r = rowIn i r :=
  Fin.ext (by show (i.val * 4 + q.val) / 4 * 512 + r.val = i.val * 512 + r.val; omega)

abbrev partIn (i : Fin 96) (r : Fin 512) (n : Fin 2048) (q : Fin 4) : EReal :=
  piece (aX m) (aW m) (aB m) (aWd m) (ex (aE m) i) (rowIn i r) n q

theorem part_pt (i : Fin 96) (q : Fin 4) (r : Fin 512) (n : Fin 2048) :
    part m (pt i q) r n (quarter (pt i q)) = partIn m i r n q := by
  show piece _ _ _ _ (ex (aE m) (outer (pt i q))) (rowAt (pt i q) r) n (quarter (pt i q)) = _
  rw [pt_outer, pt_quarter, pt_row]

theorem open_in (hO : Ok m) (hT : Tab m) (i : Fin 96) (hu : i.val < (aN m (ix1 0)).toNat) :
    (∀ r k, (stAt m hO i 0).2 (ix2 r k) = aX m (ix2 (rowIn i r) k))
    ∧ ∀ r n, (stAt m hO i 0).1 (ix2 r n) = (aBd m (ix2 (ex (aE m) i) n) + partIn m i r n 0 : EReal) := by
  obtain ⟨h2, h1⟩ := open_at m hO hT (pt i 0) (by show (i.val * 4 + 0) / 4 < _; omega) (by show (i.val * 4 + 0) % 4 = 0; omega)
  refine ⟨fun r k => (h2 r k).trans (by rw [pt_row]), fun r n => (h1 r n).trans ?_⟩
  rw [part_pt, pt_outer]

theorem more_in (hO : Ok m) (hT : Tab m) (i : Fin 96) (hu : i.val < (aN m (ix1 0)).toNat) (p q : Fin 4) (hpq : q.val = p.val + 1)
    (hs : ∀ r k, (stAt m hO i p).2 (ix2 r k) = aX m (ix2 (rowIn i r) k)) :
    (∀ r k, (stAt m hO i q).2 (ix2 r k) = aX m (ix2 (rowIn i r) k))
    ∧ ∀ r n, (stAt m hO i q).1 (ix2 r n) = ((stAt m hO i p).1 (ix2 r n) + partIn m i r n q : EReal) := by
  have hp : ∀ (k : ℕ) (h : k < grid0.N), k = i.val * 4 + p.val → st m hO 0 k h = stAt m hO i p := by
    intro k h e; subst e; rfl
  have e := hp ((pt i q).val - 1) (prev_lt m hO (pt i q)) (by show i.val * 4 + q.val - 1 = _; omega)
  obtain ⟨h2, h1⟩ := more_at m hO hT (pt i q) (by show (i.val * 4 + q.val) / 4 < _; omega)
    (by show ¬ (i.val * 4 + q.val) % 4 = 0; omega) (by show i.val * 4 + q.val ≠ 0; omega)
    (fun r k => ((congrArg (fun z => z.2 (ix2 r k)) e).trans (hs r k)).trans (by rw [pt_row]))
  refine ⟨fun r k => (h2 r k).trans (by rw [pt_row]), fun r n => (h1 r n).trans ?_⟩
  rw [part_pt]
  exact congrArg (fun z : EReal => z + partIn m i r n q) (congrArg (fun z => z.1 (ix2 r n)) e)

/-- A block in use ends at the value of its expert's second layer. -/
theorem block_used (hO : Ok m) (hT : Tab m) (i : Fin 96) (hu : i.val < (aN m (ix1 0)).toNat) (r : Fin 512) (n : Fin 2048) :
    (stAt m hO i 3).1 (ix2 r n) = ((∑ k : Fin 2048, act (aX m) (aW m) (aB m) (ex (aE m) i) (rowIn i r) k
      * aWd m (ix3 (ex (aE m) i) k n)) + aBd m (ix2 (ex (aE m) i) n) : EReal) := by
  obtain ⟨s0, o0⟩ := open_in m hO hT i hu
  obtain ⟨s1, o1⟩ := more_in m hO hT i hu 0 1 rfl s0
  obtain ⟨s2, o2⟩ := more_in m hO hT i hu 1 2 rfl s1
  obtain ⟨s3, o3⟩ := more_in m hO hT i hu 2 3 rfl s2
  refine Eq.trans ?_ (pieces (aX m) (aW m) (aB m) (aWd m) (ex (aE m) i) (rowIn i r) n (aBd m (ix2 (ex (aE m) i) n)))
  refine (o3 r n).trans (congrArg (fun z : EReal => z + partIn m i r n 3) ?_)
  refine (o2 r n).trans (congrArg (fun z : EReal => z + partIn m i r n 2) ?_)
  exact (o1 r n).trans (congrArg (fun z : EReal => z + partIn m i r n 1) (o0 r n))

theorem zero_in (hO : Ok m) (hT : Tab m) (i : Fin 96) (hu : ¬ i.val < (aN m (ix1 0)).toNat) : (stAt m hO i 0).1 = k0_pay1 (F := Ideal) := by
  obtain ⟨o, s, h1, h2⟩ := st_step m hO (pt i 0)
  exact h1.trans (stepO_zero m hO hT (pt i 0) (by show ¬ (i.val * 4 + 0) / 4 < _; omega) (by show (i.val * 4 + 0) % 4 = 0; omega) o s)

theorem idle_in (hO : Ok m) (hT : Tab m) (i : Fin 96) (hu : ¬ i.val < (aN m (ix1 0)).toNat) (p q : Fin 4) (hpq : q.val = p.val + 1) :
    (stAt m hO i q).1 = (stAt m hO i p).1 := by
  have hp : ∀ (k : ℕ) (h : k < grid0.N), k = i.val * 4 + p.val → st m hO 0 k h = stAt m hO i p := by
    intro k h e; subst e; rfl
  have e := hp ((pt i q).val - 1) (prev_lt m hO (pt i q)) (by show i.val * 4 + q.val - 1 = _; omega)
  refine ((st_fst m hO 0 (pt i q) (by show i.val * 4 + q.val ≠ 0; omega)).trans
    (stepO_keep m hO hT (pt i q) (by show ¬ (i.val * 4 + q.val) / 4 < _; omega) (by show ¬ (i.val * 4 + q.val) % 4 = 0; omega) _ _)).trans ?_
  exact congrArg Prod.fst e

/-- A block that is not in use is zero. -/
theorem block_idle (hO : Ok m) (hT : Tab m) (i : Fin 96) (hu : ¬ i.val < (aN m (ix1 0)).toNat) (r : Fin 512) (n : Fin 2048) :
    (stAt m hO i 3).1 (ix2 r n) = (0 : EReal) :=
  (congrFun ((idle_in m hO hT i hu 2 3 rfl).trans ((idle_in m hO hT i hu 1 2 rfl).trans
    ((idle_in m hO hT i hu 0 1 rfl).trans (zero_in m hO hT i hu)))) _).trans (zero_at r n)

/-- What the call leaves in its output. -/
abbrev out : Vec Ideal S49152x2048 .f32 := spec (aE m) (aN m) (aX m) (aW m) (aB m) (aWd m) (aBd m)

theorem block_out (hO : Ok m) (hT : Tab m) (i : Fin 96) (r : Fin 512) (n : Fin 2048) :
    (stAt m hO i 3).1 (ix2 r n) = out m (ix2 (rowIn i r) n) := by
  have hb : blockOf (rowIn i r) = i := Fin.ext (by show (i.val * 512 + r.val) / 512 = i.val; omega)
  have hd : (rowIn i r).val / 512 = i.val := congrArg Fin.val hb
  by_cases hu : i.val < (aN m (ix1 0)).toNat
  · refine (block_used m hO hT i hu r n).trans (Eq.trans ?_ (if_pos (Nat.lt_of_le_of_lt (Nat.le_of_eq hd) hu)).symm)
    show _ = ((∑ k : Fin 2048, act (aX m) (aW m) (aB m) (ex (aE m) (blockOf (rowIn i r))) (rowIn i r) k
      * aWd m (ix3 (ex (aE m) (blockOf (rowIn i r))) k n)) + aBd m (ix2 (ex (aE m) (blockOf (rowIn i r))) n) : EReal)
    rw [hb]
  · exact (block_idle m hO hT i hu r n).trans (if_neg (fun h => hu (Nat.lt_of_le_of_lt (Nat.le_of_eq hd.symm) h))).symm

/-! ## The output array -/

section Array
variable (a : (pcfg0 (F := Ideal)).Adm) (t : Fin (cfg0 a).N)

theorem index_7 : ((cfg0 a).win 7).index t = ![t.val / 4, 0] := by
  have hi : 96 ≤ 2 ^ 32 := by norm_num
  have hr := row_point t
  have h0 := coord_0 t
  show cc0_transform_7 (grid0.coords t) = _
  unfold cc0_transform_7
  exact vec2 _ _ ((Nat.mod_eq_of_lt (by rw [h0]; omega)).trans h0)

/-- The output's row and column under an entry of a point's block. -/
theorem emb_7 (r : Fin 512) (n : Fin 2048) : ((((cfg0 a).win 7).blk t).view.emb (ix2 r n) : S49152x2048.Idx) = ix2 (rowAt t r) n := by
  have r0 := Pipeline.Window.rect_emb_val ((cfg0 a).win 7) t (ix2 r n) (0 : Fin 2)
  have r1 := Pipeline.Window.rect_emb_val ((cfg0 a).win 7) t (ix2 r n) (1 : Fin 2)
  rw [index_7] at r0 r1
  funext q
  refine Fin.ext ?_
  match q with
  | ⟨0, _⟩ => exact r0
  | ⟨1, _⟩ => exact r1.trans (by show 0 * 2048 + n.val = n.val; omega)

theorem mem_7 (i : S49152x2048.Idx) (r : Fin 512) (n : Fin 2048) (e : i = ix2 (rowAt t r) n) :
    i ∈ (((cfg0 a).win 7).blk t).view.set := by
  rw [e, ← emb_7 a t r n]
  exact View.emb_mem_set _ _

theorem cover_7 (i : S49152x2048.Idx) : ∃ t : Fin (cfg0 a).N, ((cfg0 a).win 7).flush t = true ∧ i ∈ (((cfg0 a).win 7).blk t).view.set := by
  have h0 : (i 0).val < 49152 := (i 0).isLt
  have e : i = ix2 (rowAt (pt ⟨(i 0).val / 512, by omega⟩ 3) ⟨(i 0).val % 512, by omega⟩) (i 1) := by
    funext q
    refine Fin.ext ?_
    match q with
    | ⟨0, _⟩ =>
      show (i 0).val = ((i 0).val / 512 * 4 + 3) / 4 * 512 + (i 0).val % 512
      omega
    | ⟨1, _⟩ => rfl
  refine ⟨pt ⟨(i 0).val / 512, by omega⟩ 3, (flush_out a _).mpr ?_, ?_⟩
  · show ((i 0).val / 512 * 4 + 3) % 4 = 3
    omega
  · exact mem_7 a _ i _ _ e

end Array

theorem point_out (hO : Ok m) (hT : Tab m) (t : Fin (cfgM m hO).N) (hf : t.val % 4 = 3) (r : Fin 512) (n : Fin 2048) :
    (st m hO 0 t.val t.isLt).1 (ix2 r n) = out m (ix2 (rowAt t r) n) := by
  have e : t = pt (outer t) 3 := Fin.ext (by show t.val = t.val / 4 * 4 + 3; omega)
  rw [e]
  exact (block_out m hO hT (outer t) r n).trans (by rw [pt_row])

theorem idx_pair (y : S512x2048.Idx) : ∃ (r : Fin 512) (n : Fin 2048), y = ix2 r n :=
  ⟨y 0, y 1, by funext q; match q with | ⟨0, _⟩ => rfl | ⟨1, _⟩ => rfl⟩

theorem array_out (hO : Ok m) (hT : Tab m) : (dats m hO 0 0).arrAt 7 (cfgM m hO).N = out m := by
  refine (dats m hO 0 0).arrAt_eq_of_emb 7 (out m) (fun t hf y => ?_) (cover_7 (adm m hO))
  have hf' := (flush_out (adm m hO) t).mp hf
  obtain ⟨r, n, rfl⟩ := idx_pair y
  refine (congrFun (after_7 m hO 0 t) (ix2 r n)).trans ?_
  exact (point_out m hO hT t hf' r n).trans (congrArg (out m) (emb_7 (adm m hO) t r n).symm)

end Cert.ExpertsIdeal.Own

namespace Cert.ExpertsValue

open Idealize.ShloMosaic Idealize.ShloMosaic.TcCoe Idealize.SL.Sem
open Cert.ExpertsIdeal Cert.ExpertsIdeal.Own

/-- The reference's result at arguments in range. -/
theorem ref_out (m : (ℓ : Loc Cert.ExpertsRefIdeal.nD Cert.ExpertsRefIdeal.τ Cert.ExpertsRefIdeal.sig) → Buf (Elt Ideal) ℓ)
    (c : Dev Cert.ExpertsRefIdeal.nD) (be : IVec S96 32) (nu : IVec S1 32) (x : Vec Ideal S49152x2048 .f32)
    (w : Vec Ideal S32x2048x4096 .f32) (b : Vec Ideal S32x4096 .f32) (wd : Vec Ideal S32x2048x2048 .f32) (bd : Vec Ideal S32x2048 .f32)
    (hR : Ranges be nu)
    (h0 : m ((c : Thread Cert.ExpertsRefIdeal.nD Cert.ExpertsRefIdeal.τ).loc Cert.ExpertsRefIdeal.main_arg0) = be)
    (h1 : m ((c : Thread Cert.ExpertsRefIdeal.nD Cert.ExpertsRefIdeal.τ).loc Cert.ExpertsRefIdeal.main_arg1) = nu)
    (h2 : m ((c : Thread Cert.ExpertsRefIdeal.nD Cert.ExpertsRefIdeal.τ).loc Cert.ExpertsRefIdeal.main_arg2) = x)
    (h3 : m ((c : Thread Cert.ExpertsRefIdeal.nD Cert.ExpertsRefIdeal.τ).loc Cert.ExpertsRefIdeal.main_arg3) = w)
    (h4 : m ((c : Thread Cert.ExpertsRefIdeal.nD Cert.ExpertsRefIdeal.τ).loc Cert.ExpertsRefIdeal.main_arg4) = b)
    (h5 : m ((c : Thread Cert.ExpertsRefIdeal.nD Cert.ExpertsRefIdeal.τ).loc Cert.ExpertsRefIdeal.main_arg5) = wd)
    (h6 : m ((c : Thread Cert.ExpertsRefIdeal.nD Cert.ExpertsRefIdeal.τ).loc Cert.ExpertsRefIdeal.main_arg6) = bd) :
    Cert.ExpertsRefIdeal.Value.res_main_v60 m c = ExpertsSpec.spec be nu x w b wd bd := by
  refine (ExpertsSpec.res_eq m c).trans ?_
  subst h0 h1 h2 h3 h4 h5 h6
  exact ExpertsSpec.ref_eq _ _ hR.expert (hR.count _).2 _ _ _ _ _

theorem algebraic : Cert.algebraic_ExpertsIdeal_ExpertsRefIdeal := by
  intro m g m' g' hpre hagree
  have hT : Tab m := fun c => ranges_of _ _ _ _ _ _ _ (hpre c)
  have hO := ok_of m hT
  refine ⟨fun _ => out m, ?_, ?_⟩
  · refine (θ_run defs _ _).mono (fun r h c => ?_) (run_quiescent m g hO (starts_of m hT))
    obtain rfl : c = 0 := Subsingleton.elim _ _
    exact ⟨((h.1 0).1 7).trans (array_out m hO hT),
      ((h.1 0).2 main_arg0 (by decide : main_arg0 ∈ Pipeline.restRefs sig spec0)).trans (V_arg m 0 _ (by simp [isArg])),
      ((h.1 0).2 main_arg1 (by decide : main_arg1 ∈ Pipeline.restRefs sig spec0)).trans (V_arg m 0 _ (by simp [isArg])),
      ((h.1 0).1 0).trans (((dats m hO 0 0).arrAt_in 0 rfl _).trans ((A_eq m hO 0 0).trans (V_arg m 0 main_arg2 (by simp [isArg])))),
      ((h.1 0).2 main_arg3 (by decide : main_arg3 ∈ Pipeline.restRefs sig spec0)).trans (V_arg m 0 _ (by simp [isArg])),
      ((h.1 0).2 main_arg4 (by decide : main_arg4 ∈ Pipeline.restRefs sig spec0)).trans (V_arg m 0 _ (by simp [isArg])),
      ((h.1 0).1 5).trans (((dats m hO 0 0).arrAt_in 5 rfl _).trans ((A_eq m hO 0 5).trans (V_arg m 0 main_arg5 (by simp [isArg])))),
      ((h.1 0).2 main_arg6 (by decide : main_arg6 ∈ Pipeline.restRefs sig spec0)).trans (V_arg m 0 _ (by simp [isArg]))⟩
  · refine (θ_run Cert.ExpertsRefIdeal.defs _ _).mono (fun r h c => ⟨(h c).1.trans ?_, (h c).2⟩)
      (Cert.ExpertsRefIdeal.Value.run m' g')
    obtain rfl : c = 0 := Subsingleton.elim _ _
    obtain ⟨e0, e1, e2, e3, e4, e5, e6⟩ := hagree 0
    exact ref_out m' 0 _ _ _ _ _ _ _ (hT 0) e0 e1 e2 e3 e4 e5 e6

end Cert.ExpertsValue

end
-- ==== Proof.CombineRunI.lean ====
/-
  One call of the combination's kernel body. The body starts 512 row copies, four for each of its 128
  tokens, all on one semaphore; it waits for all of them and then works on whole blocks. This module
  says which rows are copied where, and that after the copies the scratch holds the rows the positions
  name.
-/
module

public import proofs.«01_k».proof.Proof.Gen.CombineIdeal
public import proofs.«01_k».proof.Proof.Gen.CombineIdeal.Launch
public import proofs.«01_k».proof.Proof.Gen.CombineIdeal.Skeleton
public import Idealize.ShloMosaic.Lib.Pipeline.FrameBody
public import Idealize.ShloMosaic.Lib.Batch
public import Idealize.ShloMosaic.Lib.Ring
public import Idealize.ShloMosaic.Lib.Tactic
public import Idealize.ShloMosaic.Lib.ValueLayout
public import Idealize.ShloMosaic.Lib.WordCmp
public import Idealize.ShloMosaic.Lib.VecWindow

@[expose] public section

set_option maxRecDepth 16384

noncomputable section

namespace Cert.CombineIdeal.Own

open Cert.CombineIdeal.Gen
open Idealize.ShloMosaic Idealize.ShloMosaic.TcCoe Idealize.ShloMosaic.Tactic Idealize.ShloMosaic.VecWindow Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The table of positions, the experts' rows and the scratch, as the body is handed them. -/
abbrev tab : Memref sig .tc .smem S32768 .i32 := Memref.whole main_arg0
abbrev rowsM : Memref sig .tc .hbm S49152x2048 .f32 := Memref.whole main_arg1
abbrev scM : Memref sig .tc .vmem S4x128x2048 .f32 := Memref.whole cc0_scratch0

/-- A row of the scratch, and a row of the experts' output, at given offsets. -/
abbrev dstM (off : Fin 3 → ℕ) (inb : ∀ a, off a + S1x1x2048.size a ≤ S4x128x2048.size a) : Memref sig .tc .vmem S1x2048 .f32 :=
  (scM.slice (Rect.unit (s := S4x128x2048) off S1x1x2048.size inb) (fun _ => rfl)).squeeze S1x2048 squeezes_S1x1x2048_S1x2048
abbrev srcM (off : Fin 2 → ℕ) (inb : ∀ a, off a + S1x2048.size a ≤ S49152x2048.size a) : Memref sig .tc .hbm S1x2048 .f32 :=
  rowsM.slice (Rect.unit (s := S49152x2048) off S1x2048.size inb) (fun _ => rfl)

/-- The elements of row `k` of the scratch's block `q`, and of row `r` of the experts' output. -/
def slotSet (q k : ℕ) : Finset S4x128x2048.Idx := Finset.univ.filter fun y => (y 0).val = q ∧ (y 1).val = k
def rowSet (r : ℕ) : Finset S49152x2048.Idx := Finset.univ.filter fun y => (y 0).val = r

theorem dst_set (q k : ℕ) (off : Fin 3 → ℕ) (inb : ∀ a, off a + S1x1x2048.size a ≤ S4x128x2048.size a) (ho : off = ![q, k, 0]) :
    (dstM off inb).view.set = slotSet q k := by
  subst ho
  refine ((View.set_reshape _ _).trans (View.set_slice_whole _ _)).trans ?_
  ext y
  have h2 : (y 2).val < 2048 := (y 2).isLt
  rw [Rect.mem_set_unit]
  simp only [slotSet, Finset.mem_filter, Finset.mem_univ, _root_.true_and]
  constructor
  · intro H
    have a0 : q ≤ (y 0).val ∧ (y 0).val < q + 1 := H 0
    have a1 : k ≤ (y 1).val ∧ (y 1).val < k + 1 := H 1
    omega
  · intro H a
    match a with
    | ⟨0, _⟩ => show q ≤ (y 0).val ∧ (y 0).val < q + 1; omega
    | ⟨1, _⟩ => show k ≤ (y 1).val ∧ (y 1).val < k + 1; omega
    | ⟨2, _⟩ => show 0 ≤ (y 2).val ∧ (y 2).val < 0 + 2048; omega

theorem src_set (r : ℕ) (off : Fin 2 → ℕ) (inb : ∀ a, off a + S1x2048.size a ≤ S49152x2048.size a) (ho : off = ![r, 0]) :
    (srcM off inb).view.set = rowSet r := by
  subst ho
  refine (View.set_slice_whole _ _).trans ?_
  ext y
  have h2 : (y 1).val < 2048 := (y 1).isLt
  rw [Rect.mem_set_unit]
  simp only [rowSet, Finset.mem_filter, Finset.mem_univ, _root_.true_and]
  constructor
  · intro H
    have a0 : r ≤ (y 0).val ∧ (y 0).val < r + 1 := H 0
    omega
  · intro H a
    match a with
    | ⟨0, _⟩ => show r ≤ (y 0).val ∧ (y 0).val < r + 1; omega
    | ⟨1, _⟩ => show 0 ≤ (y 1).val ∧ (y 1).val < 0 + 2048; omega

theorem dst_emb (q : Fin 4) (k : Fin 128) (j : Fin 2048) (off : Fin 3 → ℕ) (inb : ∀ a, off a + S1x1x2048.size a ≤ S4x128x2048.size a)
    (ho : off = ![q.val, k.val, 0]) : ((dstM off inb).view.emb (ix2 (0 : Fin 1) j) : S4x128x2048.Idx) = ix3 q k j := by
  subst ho
  have e : (dstM ![q.val, k.val, 0] inb).view.emb (ix2 (0 : Fin 1) j)
      = (Rect.unit (s := S4x128x2048) ![q.val, k.val, 0] S1x1x2048.size inb).emb (ix3 (0 : Fin 1) (0 : Fin 1) j) :=
    congrArg (Rect.unit (s := S4x128x2048) ![q.val, k.val, 0] S1x1x2048.size inb).emb
      (reshapeEquiv_ix2_1ab (a := 1) (b := 2048) _ (0 : Fin 1) j)
  refine e.trans ?_
  funext a
  refine Fin.ext ?_
  match a with
  | ⟨0, _⟩ => show q.val + 1 * 0 = q.val; omega
  | ⟨1, _⟩ => show k.val + 1 * 0 = k.val; omega
  | ⟨2, _⟩ => show 0 + 1 * j.val = j.val; omega

theorem src_emb (r : Fin 49152) (j : Fin 2048) (off : Fin 2 → ℕ) (inb : ∀ a, off a + S1x2048.size a ≤ S49152x2048.size a)
    (ho : off = ![r.val, 0]) : ((srcM off inb).view.emb (ix2 (0 : Fin 1) j) : S49152x2048.Idx) = ix2 r j := by
  subst ho
  funext a
  refine Fin.ext ?_
  match a with
  | ⟨0, _⟩ => show r.val + 1 * 0 = r.val; omega
  | ⟨1, _⟩ => show 0 + 1 * j.val = j.val; omega

/-- What a copy leaves in its row of the scratch. -/
theorem landed (q : Fin 4) (k : Fin 128) (r : Fin 49152) (offd : Fin 3 → ℕ) (inbd : ∀ a, offd a + S1x1x2048.size a ≤ S4x128x2048.size a)
    (hd : offd = ![q.val, k.val, 0]) (offs : Fin 2 → ℕ) (inbs : ∀ a, offs a + S1x2048.size a ≤ S49152x2048.size a)
    (hs : offs = ![r.val, 0]) (Y : Vec F S49152x2048 .f32) (fd : Vec F S4x128x2048 .f32) (R : Vec F S4x128x2048 .f32)
    (hR : ∀ j, R (ix3 q k j) = Y (ix2 r j)) (y : S4x128x2048.Idx) (hy : y ∈ slotSet q.val k.val) :
    (dstM offd inbd).view.write (Elt F) fd ((ReadAs.same (Val := Elt F)).apply ((srcM offs inbs).view.read (Elt F) Y)) Finset.univ y = R y := by
  simp only [slotSet, Finset.mem_filter, Finset.mem_univ, _root_.true_and] at hy
  have ey : y = ix3 q k (y 2) := by
    funext a
    refine Fin.ext ?_
    match a with
    | ⟨0, _⟩ => exact hy.1
    | ⟨1, _⟩ => exact hy.2
    | ⟨2, _⟩ => rfl
  obtain ⟨j, hj⟩ : ∃ j : Fin 2048, y = ix3 q k j := ⟨y 2, ey⟩
  have h1 := View.write_emb_of_mem (v := (dstM offd inbd).view) (Val := Elt F) fd ((ReadAs.same (Val := Elt F)).apply ((srcM offs inbs).view.read (Elt F) Y))
    (Finset.mem_univ (ix2 (0 : Fin 1) j))
  have ee : y = ((dstM offd inbd).view.emb (ix2 (0 : Fin 1) j) : S4x128x2048.Idx) := hj.trans (dst_emb q k j offd inbd hd).symm
  refine (congrArg (View.write (Elt F) (dstM offd inbd).view fd ((ReadAs.same (Val := Elt F)).apply ((srcM offs inbs).view.read (Elt F) Y)) Finset.univ) ee).trans ?_
  refine h1.trans ?_
  refine Eq.trans ?_ ((congrArg R hj).trans (hR j)).symm
  exact congrArg Y (src_emb r j offs inbs hs)

end Cert.CombineIdeal.Own

end
-- ==== Proof.CombineIssueI.lean ====
/-
  The loop that starts the combination's 512 row copies. Copy number `t` fetches the row that position
  `t` of the block names into row `t / 4` of the scratch's block `t % 4`.
-/
module

public import proofs.«01_k».proof.Proof.CombineRunI

@[expose] public section

set_option maxRecDepth 16384

noncomputable section

namespace Cert.CombineIdeal.Own

open Cert.CombineIdeal.Gen
open Idealize.ShloMosaic Idealize.ShloMosaic.TcCoe Idealize.ShloMosaic.Tactic Idealize.ShloMosaic.VecWindow Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A table held at half the full share: the pipeline keeps the other half. -/
abbrev tabHeld (c : Dev nD) (T : Vec F S32768 .i32) : sProp 𝕄 :=
  tab.view.loc (c : Thread nD τ) ↦{fullShare.right} T

/-- The credit of one copy. -/
abbrev rowCredit : ℕ := 256

/-- Position `t` of block `i`. -/
def posIdx (i : grid0.Coords) (t : ℕ) : S32768.Idx := ix1 (⟨((i 0).val * 512 + t) % 32768, Nat.mod_lt _ (by decide)⟩ : Fin 32768)
def posAt (i : grid0.Coords) (T : Vec F S32768 .i32) (t : ℕ) : ℕ := BitVec.toNat (T (posIdx i t))

/-- The rows the positions name, as the copies lay them out. -/
def fetched (i : grid0.Coords) (T : Vec F S32768 .i32) (Y : Vec F S49152x2048 .f32) : Vec F S4x128x2048 .f32 :=
  fun y => Y (ix2 (⟨posAt i T (4 * (y 1).val + (y 0).val) % 49152, Nat.mod_lt _ (by decide)⟩ : Fin 49152) (⟨(y 2).val, (y 2).isLt⟩ : Fin 2048))

section Copies

variable (c : Dev nD) (i : grid0.Coords) (T : Vec F S32768 .i32) (Y : Vec F S49152x2048 .f32)

/-- The row of the scratch copy `t` fills: before it, and after it. -/
abbrev slotOwn (t : ℕ) : sProp 𝕄 := iprop(∃ g : Vec F S4x128x2048 .f32, scM.view.loc (c : Thread nD τ) ↦[slotSet (t % 4) (t / 4)]{fullShare} g)
abbrev slotAt (t : ℕ) : sProp 𝕄 := scM.view.loc (c : Thread nD τ) ↦[slotSet (t % 4) (t / 4)]{fullShare} fetched i T Y
/-- The row copy `t` reads, at a share of its own: several copies may read one row. -/
abbrev tokAt (t : ℕ) : sProp 𝕄 :=
  rowsM.view.loc (c : Thread nD τ) ↦[rowSet (posAt i T t)]{Transfers.shareTokN fullShare t} Y

/-- What copy `t` delivers. -/
def dlv (t : Fin 512) : sProp 𝕄 := iprop(slotAt c i T Y t.val ∗ tokAt c i T Y t.val)
instance dlv_storable (t : Fin 512) : BI.Storable (upEmb : UEmb _ 𝕄) (dlv c i T Y t) := by
  unfold dlv; infer_instance

/-- The batch: `j` copies started, `u` units waited for. -/
def batch (j u : ℕ) : sProp 𝕄 :=
  Transfers.Batch (countersEmb (U := Pipeline.UD sig nD τ)) (c : Thread nD τ) (.dma cc0_scratch1.sem) () rowCredit (dlv c i T Y) j u

/-- What copy `j` writes is what the fetched rows hold there. -/
theorem delivered (i : grid0.Coords) (T : Vec F S32768 .i32) (Y : Vec F S49152x2048 .f32) (hT : ∀ n, BitVec.toNat (T n) < 49152) (j : ℕ) (hj : j < 512)
    (offd : Fin 3 → ℕ) (inbd : ∀ a, offd a + S1x1x2048.size a ≤ S4x128x2048.size a) (hd : offd = ![j % 4, j / 4, 0])
    (offs : Fin 2 → ℕ) (inbs : ∀ a, offs a + S1x2048.size a ≤ S49152x2048.size a) (hs : offs = ![posAt i T j, 0])
    (g : Vec F S4x128x2048 .f32) (y : S4x128x2048.Idx) (hy : y ∈ slotSet (j % 4) (j / 4)) :
    (dstM offd inbd).view.write (Elt F) g ((ReadAs.same (Val := Elt F)).apply ((srcM offs inbs).view.read (Elt F) Y)) Finset.univ y = fetched i T Y y := by
  have hp : posAt i T j < 49152 := hT _
  refine landed (⟨j % 4, Nat.mod_lt _ (by decide)⟩ : Fin 4) (⟨j / 4, by omega⟩ : Fin 128) (⟨posAt i T j, hp⟩ : Fin 49152) offd inbd hd offs inbs hs Y g
    (fetched i T Y) (fun n => ?_) y hy
  unfold fetched
  refine congrArg Y (congrArg (fun r : Fin 49152 => (ix2 r n : S49152x2048.Idx)) (Fin.ext ?_))
  show posAt i T (4 * (j / 4) + j % 4) % 49152 = posAt i T j
  rw [Nat.div_add_mod, Nat.mod_eq_of_lt hp]

theorem copy (hT : ∀ n, BitVec.toNat (T n) < 49152) (j : ℕ) (hj : j < 512)
    (offd : Fin 3 → ℕ) (inbd : ∀ a, offd a + S1x1x2048.size a ≤ S4x128x2048.size a) (hd : offd = ![j % 4, j / 4, 0])
    (offs : Fin 2 → ℕ) (inbs : ∀ a, offs a + S1x2048.size a ≤ S49152x2048.size a) (hs : offs = ![posAt i T j, 0])
    (hw1 : (srcM offs inbs).view.WordExact) (hw2 : (dstM offd inbd).view.WordExact)
    (ht : DmaTarget.Typed (nD := nD) (τ := τ) (p := .tc) .hbm (.dma cc0_scratch1.sem) (.here (dstM offd inbd)))
    (k : PUnit → Prog (TpuEff nD τ sig (Elt F) Λ₀ .tc) Unit) (Q : Unit → sProp 𝕄) :
    iprop(tokAt c i T Y j ∗ slotOwn c j ∗ batch c i T Y j 0)
      ⊢ iprop((batch c i T Y (j + 1) 0 -∗ wp frame (wpE (defs₀ (F := F)) Variants.none c none) Set.univ (k ⟨⟩) Q)
          -∗ wp frame (wpE (defs₀ (F := F)) Variants.none c none) Set.univ
              (.op (.enqueueDma (srcM offs inbs) (.here (dstM offd inbd)) (.dma cc0_scratch1.sem) hw1 hw2 ht) k) Q) := by
  iintro ⟨Hs, ⟨%g, Hd⟩, HB⟩ Hk
  have hS : (dstM offd inbd).view.set ⊆ (slotSet (j % 4) (j / 4) : Finset (Idx ((dstM offd inbd).view.loc (c : Thread nD τ)))) :=
    (dst_set _ _ offd inbd hd).subset
  have hE := src_set _ offs inbs hs
  have hD : iprop(((dstM offd inbd).view.loc (c : Thread nD τ) ↦[(slotSet (j % 4) (j / 4) : Finset (Idx ((dstM offd inbd).view.loc (c : Thread nD τ))))]{fullShare}
        ((dstM offd inbd).view.write (Elt F) g ((ReadAs.same (Val := Elt F)).apply ((srcM offs inbs).view.read (Elt F) Y)) Finset.univ))
      ∗ ((srcM offs inbs).view.loc (c : Thread nD τ) ↦[(srcM offs inbs).view.set]{Transfers.shareTokN fullShare j} Y)) ⊢ dlv c i T Y ⟨j, hj⟩ := by
    unfold dlv
    exact BI.sep_mono (Entails.of_eq (pointsTo_congr (delivered i T Y hT j hj offd inbd hd offs inbs hs g)))
      (Entails.of_eq (congrArg (fun S => (rowsM.view.loc (c : Thread nD τ) ↦[S]{Transfers.shareTokN fullShare j} Y : sProp 𝕄)) hE))
  ihave Hs' := (Entails.of_eq (congrArg (fun S => (rowsM.view.loc (c : Thread nD τ) ↦[S]{Transfers.shareTokN fullShare j} Y : sProp 𝕄)) hE).symm) $$ Hs
  iapply (Transfers.wp_dmaBatch (countersEmb (U := Pipeline.UD sig nD τ)) Variants.none (c : Thread nD τ) none () rowCredit rfl hS hj (Nat.zero_le _) hD) $$ [Hs' Hd HB] [Hk]
  · isplitl [Hs']; · iexact Hs'
    isplitl [Hd]; · iexact Hd
    unfold batch
    iexact HB
  · unfold batch
    iexact Hk

/-! ## The offsets the body computes -/

theorem iv_toNat (k : ℕ) (hk : k < 128) : (Scf.iv 0#32 1#32 k).toNat = k := by
  simp only [Scf.iv, BitVec.toNat_add, BitVec.toNat_mul, BitVec.toNat_ofNat]
  omega

theorem dst_off (q k j : ℕ) (hk : k < 128) (hj : j = 4 * k + q) (hq : q < 4) : (![q, (Scf.iv 0#32 1#32 k).toNat, 0] : Fin 3 → ℕ) = ![j % 4, j / 4, 0] := by
  rw [iv_toNat k hk, show j % 4 = q by omega, show j / 4 = k by omega]

theorem pos_off (i : grid0.Coords) (k q : ℕ) (hk : k < 128) (hq : q < 4) :
    (Scalar.indexCast (Scalar.addi (Scalar.muli (Scalar.addi (Scalar.muli (BitVec.ofNat 32 (i 0).val) 128#32) (Scf.iv 0#32 1#32 k)) 4#32) (BitVec.ofNat 32 q))).toNat
      = (i 0).val * 512 + (4 * k + q) := by
  have h0 : (i 0).val < 64 := (i 0).isLt
  have hi := iv_toNat k hk
  simp only [Scalar.indexCast, Scalar.addi, Scalar.muli, IntOp.addi, IntOp.muli, BitVec.toNat_add, BitVec.toNat_mul, BitVec.toNat_ofNat, hi]
  omega

/-- A word read off the table. -/
theorem word_at (i : grid0.Coords) (T : Vec F S32768 .i32) (j : ℕ) (hj : j < 512) (off : Fin 1 → ℕ) (inb : ∀ a, off a + S1.size a ≤ S32768.size a)
    (ho : off = ![(i 0).val * 512 + j]) :
    tab.view.readAt (Elt F) (Rect.unit (s := S32768) off S1.size inb).toLoadRect T (Shape.Idx.first (numel1_S1.symm ▸ Nat.one_pos)) = T (posIdx i j) := by
  subst ho
  have h0 : (i 0).val < 64 := (i 0).isLt
  refine congrArg T ?_
  funext a
  refine Fin.ext ?_
  match a with
  | ⟨0, _⟩ =>
    show (i 0).val * 512 + j + 1 * 0 = ((i 0).val * 512 + j) % 32768
    omega

/-- A word in range passes the body's check. -/
theorem chk_ok (n : ℕ) (h : n < 49152) : ∀ a, (![n, 0] : Fin 2 → ℕ) a + S1x2048.size a ≤ S49152x2048.size a := fun a =>
  match a with
  | ⟨0, _⟩ => by show n + 1 ≤ 49152; omega
  | ⟨1, _⟩ => by show 0 + 2048 ≤ 2048; omega

/-- Before trip `k` of the loop. -/
def issueAt (k : ℕ) (_ : Unit) : sProp 𝕄 :=
  iprop(batch c i T Y (4 * k) 0 ∗ bigSep (Ring.rangeSet 512 (4 * k) 512) (fun t => iprop(tokAt c i T Y t.val ∗ slotOwn c t.val)) ∗ tabHeld c T)

variable (a3 : Memref sig .tc .vmem S128x128 .f32) (h3 : a3.IsWhole) (a4 : Memref sig .tc .vmem S128x2048 .f32) (h4 : a4.IsWhole)
  (a5 : Memref sig .tc .vmem S1x1x1x2048 .f32) (h5 : a5.IsWhole) (a6 : Memref sig .tc .vmem S1x2048 .f32) (h6 : a6.IsWhole)
  (a7 : Memref sig .tc .vmem S1x2048 .f32) (h7 : a7.IsWhole) (a8 : Memref sig .tc .vmem S128x2048 .f32) (h8 : a8.IsWhole)

theorem issue_step (hT : ∀ n, BitVec.toNat (T n) < 49152) (v0 : BitVec 32) (k : Fin k0_t1_loop.trips) (acc : Unit) :
    issueAt c i T Y k acc ⊢ wp frame (wpE (defs₀ (F := F)) Variants.none c none) Set.univ
      (k0_t1_body (F := F) i tab (Memref.isWhole_whole _) rowsM (Memref.isWhole_whole _) a3 h3 a4 h4 a5 h5 a6 h6 a7 h7 a8 h8 scM (Memref.isWhole_whole _) cc0_scratch1 v0 k acc)
      (issueAt c i T Y (k.val + 1)) := by
  have hk : k.val < 128 := k.isLt
  unfold issueAt
  rw [Ring.bigSep_rangeSet_head (Φ := fun t : Fin 512 => iprop(tokAt c i T Y t.val ∗ slotOwn c t.val)) (lo := 4 * k.val) (by omega) (by omega),
    Ring.bigSep_rangeSet_head (Φ := fun t : Fin 512 => iprop(tokAt c i T Y t.val ∗ slotOwn c t.val)) (lo := 4 * k.val + 1) (by omega) (by omega),
    Ring.bigSep_rangeSet_head (Φ := fun t : Fin 512 => iprop(tokAt c i T Y t.val ∗ slotOwn c t.val)) (lo := 4 * k.val + 1 + 1) (by omega) (by omega),
    Ring.bigSep_rangeSet_head (Φ := fun t : Fin 512 => iprop(tokAt c i T Y t.val ∗ slotOwn c t.val)) (lo := 4 * k.val + 1 + 1 + 1) (by omega) (by omega),
    show 4 * (k.val + 1) = 4 * k.val + 1 + 1 + 1 + 1 by omega]
  iintro ⟨HB, ⟨⟨Hs0, Hd0⟩, ⟨Hs1, Hd1⟩, ⟨Hs2, Hd2⟩, ⟨Hs3, Hd3⟩, HR⟩, HT⟩
  sl_unfold [k0_t1_body]
  simp only [k0_part1_eq_skeleton]
  sl_unfold [k0_part1_skel]
  have w0 := word_at i T (4 * k.val) (by omega) (k0_off1 i k) (k0_off1_inb i k) (congrArg (fun n => ![n]) (pos_off i k.val 0 hk (by decide)))
  have w1 := word_at i T (4 * k.val + 1) (by omega) (k0_off4 i k) (k0_off4_inb i k) (congrArg (fun n => ![n]) (pos_off i k.val 1 hk (by decide)))
  have w2 := word_at i T (4 * k.val + 1 + 1) (by omega) (k0_off7 i k) (k0_off7_inb i k) (congrArg (fun n => ![n]) (pos_off i k.val 2 hk (by decide)))
  have w3 := word_at i T (4 * k.val + 1 + 1 + 1) (by omega) (k0_off10 i k) (k0_off10_inb i k) (congrArg (fun n => ![n]) (pos_off i k.val 3 hk (by decide)))
  have c0 : k0_chk1 (tab.view.readAt (Elt F) (Rect.unit (s := S32768) (k0_off1 i k) S1.size (k0_off1_inb i k)).toLoadRect T (Shape.Idx.first (numel1_S1.symm ▸ Nat.one_pos))) := by
    rw [w0]; exact chk_ok _ (hT _)
  have c1 : k0_chk2 (tab.view.readAt (Elt F) (Rect.unit (s := S32768) (k0_off4 i k) S1.size (k0_off4_inb i k)).toLoadRect T (Shape.Idx.first (numel1_S1.symm ▸ Nat.one_pos))) := by
    rw [w1]; exact chk_ok _ (hT _)
  have c2 : k0_chk3 (tab.view.readAt (Elt F) (Rect.unit (s := S32768) (k0_off7 i k) S1.size (k0_off7_inb i k)).toLoadRect T (Shape.Idx.first (numel1_S1.symm ▸ Nat.one_pos))) := by
    rw [w2]; exact chk_ok _ (hT _)
  have c3 : k0_chk4 (tab.view.readAt (Elt F) (Rect.unit (s := S32768) (k0_off10 i k) S1.size (k0_off10_inb i k)).toLoadRect T (Shape.Idx.first (numel1_S1.symm ▸ Nat.one_pos))) := by
    rw [w3]; exact chk_ok _ (hT _)
  sl_exec (disch := sl_exact c0)
  iapply (copy c i T Y hT (4 * k.val) (by omega) (k0_off2 k) _ (dst_off 0 k.val _ hk rfl (by decide)) _ _
    (congrArg (fun n : BitVec 32 => (![n.toNat, 0] : Fin 2 → ℕ)) w0)) $$ [Hs0 Hd0 HB]
  · isplitl [Hs0]; · iexact Hs0
    isplitl [Hd0]; · iexact Hd0
    iexact HB
  iintro HB
  sl_exec (disch := sl_exact c1)
  iapply (copy c i T Y hT (4 * k.val + 1) (by omega) (k0_off5 k) _ (dst_off 1 k.val _ hk rfl (by decide)) _ _
    (congrArg (fun n : BitVec 32 => (![n.toNat, 0] : Fin 2 → ℕ)) w1)) $$ [Hs1 Hd1 HB]
  · isplitl [Hs1]; · iexact Hs1
    isplitl [Hd1]; · iexact Hd1
    iexact HB
  iintro HB
  sl_exec (disch := sl_exact c2)
  iapply (copy c i T Y hT (4 * k.val + 1 + 1) (by omega) (k0_off8 k) _ (dst_off 2 k.val _ hk rfl (by decide)) _ _
    (congrArg (fun n : BitVec 32 => (![n.toNat, 0] : Fin 2 → ℕ)) w2)) $$ [Hs2 Hd2 HB]
  · isplitl [Hs2]; · iexact Hs2
    isplitl [Hd2]; · iexact Hd2
    iexact HB
  iintro HB
  sl_exec (disch := sl_exact c3)
  iapply (copy c i T Y hT (4 * k.val + 1 + 1 + 1) (by omega) (k0_off11 k) _ (dst_off 3 k.val _ hk rfl (by decide)) _ _
    (congrArg (fun n : BitVec 32 => (![n.toNat, 0] : Fin 2 → ℕ)) w3)) $$ [Hs3 Hd3 HB]
  · isplitl [Hs3]; · iexact Hs3
    isplitl [Hd3]; · iexact Hd3
    iexact HB
  iintro HB
  sl_exec
  sl_step
  isplitl [HB]; · iexact HB
  isplitl [HR]; · iexact HR
  iexact HT

end Copies

end Cert.CombineIdeal.Own

end
-- ==== Proof.CombineBodyI.lean ====
/-
  One whole call of the combination's kernel body: the copies started, all of them waited for, and the
  block of the output computed from the fetched rows.
-/
module

public import proofs.«01_k».proof.Proof.CombineIssueI

@[expose] public section

set_option maxRecDepth 16384

noncomputable section

namespace Cert.CombineIdeal.Own

open Cert.CombineIdeal.Gen
open Idealize.ShloMosaic Idealize.ShloMosaic.TcCoe Idealize.ShloMosaic.Tactic Idealize.ShloMosaic.VecWindow Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The buffers row by row -/

theorem slots_disjoint : ∀ t t' : Fin 512, t ≠ t' → Disjoint (slotSet (t.val % 4) (t.val / 4)) (slotSet (t'.val % 4) (t'.val / 4)) := fun t t' hne => by
  rw [Finset.disjoint_left]
  intro y hy hy'
  simp only [slotSet, Finset.mem_filter, Finset.mem_univ, _root_.true_and] at hy hy'
  exact hne (Fin.ext (by omega))

theorem slots_cover : Finset.univ.biUnion (fun t : Fin 512 => slotSet (t.val % 4) (t.val / 4)) = Finset.univ := by
  ext y
  simp only [Finset.mem_biUnion, Finset.mem_univ, _root_.true_and, iff_true]
  have h0 : (y 0).val < 4 := (y 0).isLt
  have h1 : (y 1).val < 128 := (y 1).isLt
  refine ⟨⟨4 * (y 1).val + (y 0).val, by omega⟩, ?_⟩
  simp only [slotSet, Finset.mem_filter, Finset.mem_univ, _root_.true_and]
  omega

section Body

variable (c : Dev nD) (i : grid0.Coords) (T : Vec F S32768 .i32) (Y : Vec F S49152x2048 .f32)

/-- The scratch is its rows. -/
theorem slots_of (f : Vec F S4x128x2048 .f32) :
    (scM.view.loc (c : Thread nD τ) ↦{fullShare} f : sProp 𝕄)
      = bigSep Finset.univ fun t : Fin 512 => scM.view.loc (c : Thread nD τ) ↦[slotSet (t.val % 4) (t.val / 4)]{fullShare} f :=
  Ring.pointsTo_blocks (ℓ := scM.view.loc (c : Thread nD τ)) (fun t : Fin 512 => slotSet (t.val % 4) (t.val / 4)) slots_disjoint slots_cover f

/-- What is left of the experts' rows once each copy has its share of the row it reads. -/
abbrev leftOver : sProp 𝕄 :=
  iprop((rowsM.view.loc (c : Thread nD τ) ↦[Finset.univ]{Transfers.shareDrop fullShare 512} Y)
    ∗ bigSep Finset.univ fun t : Fin 512 => rowsM.view.loc (c : Thread nD τ) ↦[Finset.univ \ rowSet (posAt i T t.val)]{Transfers.shareTokN fullShare t.val} Y)

theorem tok_split (t : Fin 512) :
    (rowsM.view.loc (c : Thread nD τ) ↦[Finset.univ]{Transfers.shareTok fullShare 512 t} Y : sProp 𝕄)
      ⊣⊢ iprop(tokAt c i T Y t.val ∗ rowsM.view.loc (c : Thread nD τ) ↦[Finset.univ \ rowSet (posAt i T t.val)]{Transfers.shareTokN fullShare t.val} Y) :=
  pointsTo_split_subset (Finset.subset_univ _)

theorem tok_split_all :
    (bigSep Finset.univ fun t : Fin 512 => (rowsM.view.loc (c : Thread nD τ) ↦[Finset.univ]{Transfers.shareTok fullShare 512 t} Y : sProp 𝕄))
      ⊣⊢ iprop((bigSep Finset.univ fun t : Fin 512 => tokAt c i T Y t.val)
        ∗ bigSep Finset.univ fun t : Fin 512 => (rowsM.view.loc (c : Thread nD τ) ↦[Finset.univ \ rowSet (posAt i T t.val)]{Transfers.shareTokN fullShare t.val} Y : sProp 𝕄)) := by
  have e : (bigSep Finset.univ fun t : Fin 512 => (iprop(tokAt c i T Y t.val ∗ (rowsM.view.loc (c : Thread nD τ) ↦[Finset.univ \ rowSet (posAt i T t.val)]{Transfers.shareTokN fullShare t.val} Y)) : sProp 𝕄))
      = iprop((bigSep Finset.univ fun t : Fin 512 => tokAt c i T Y t.val)
        ∗ bigSep Finset.univ fun t : Fin 512 => (rowsM.view.loc (c : Thread nD τ) ↦[Finset.univ \ rowSet (posAt i T t.val)]{Transfers.shareTokN fullShare t.val} Y : sProp 𝕄)) := BI.bigSep_sep _ _ _
  rw [← e]
  exact ⟨BI.bigSep_mono fun t _ => (tok_split c i T Y t).1, BI.bigSep_mono fun t _ => (tok_split c i T Y t).2⟩

theorem rows_take : (rowsM.view.loc (c : Thread nD τ) ↦{fullShare} Y : sProp 𝕄)
    ⊢ iprop(leftOver c i T Y ∗ bigSep Finset.univ fun t : Fin 512 => tokAt c i T Y t.val) := by
  iintro H
  ihave H' := (Transfers.pointsTo_toks_split fullShare 512) $$ H
  icases H' with ⟨HA, H'⟩
  ihave H'' := (tok_split_all c i T Y).1 $$ H'
  icases H'' with ⟨HB, HC⟩
  isplitl [HA HC]
  · isplitl [HA]; · iexact HA
    iexact HC
  iexact HB

theorem rows_put : iprop(leftOver c i T Y ∗ bigSep Finset.univ fun t : Fin 512 => tokAt c i T Y t.val)
    ⊢ (rowsM.view.loc (c : Thread nD τ) ↦{fullShare} Y : sProp 𝕄) := by
  iintro ⟨⟨HA, HC⟩, HB⟩
  iapply (Transfers.pointsTo_toks_join fullShare 512)
  isplitl [HA]; · iexact HA
  iapply (tok_split_all c i T Y).2
  isplitl [HB]; · iexact HB
  iexact HC

/-! ## The waits -/

/-- Before trip `k` of the waiting loop: the batch with four times `k` copies waited for, and after the last trip every
    copy delivered and the semaphore back at zero. -/
def drainAt (k : ℕ) (_ : Unit) : sProp 𝕄 :=
  iprop(⌜k ≤ 128⌝ ∗ (∃ W, owes (c : Thread nD τ) 0 W)
    ∗ (if k < 128 then batch c i T Y 512 (1024 * k)
       else iprop(semVal ((c : Thread nD τ), SemLoc.dma cc0_scratch1.sem) 0 ∗ bigSep Finset.univ (dlv c i T Y))))

variable (a3 : Memref sig .tc .vmem S128x128 .f32) (h3 : a3.IsWhole) (a4 : Memref sig .tc .vmem S128x2048 .f32) (h4 : a4.IsWhole)
  (a5 : Memref sig .tc .vmem S1x1x1x2048 .f32) (h5 : a5.IsWhole) (a6 : Memref sig .tc .vmem S1x2048 .f32) (h6 : a6.IsWhole)
  (a7 : Memref sig .tc .vmem S1x2048 .f32) (h7 : a7.IsWhole) (a8 : Memref sig .tc .vmem S128x2048 .f32) (h8 : a8.IsWhole)

theorem drain_step (k : Fin k0_t2_loop.trips) (acc : Unit) :
    drainAt c i T Y k acc ⊢ wp frame (wpE (defs₀ (F := F)) Variants.none c none) Set.univ
      (k0_t2_body (F := F) i tab (Memref.isWhole_whole _) rowsM (Memref.isWhole_whole _) a3 h3 a4 h4 a5 h5 a6 h6 a7 h7 a8 h8 scM (Memref.isWhole_whole _) cc0_scratch1 k acc)
      (drainAt c i T Y (k.val + 1)) := by
  have hk : k.val < 128 := k.isLt
  unfold drainAt
  simp only [if_pos hk]
  unfold batch
  rcases Nat.lt_or_ge (k.val + 1) 128 with h1 | h1
  · simp only [if_pos h1]
    iintro ⟨-, ⟨%W, HO⟩, HB⟩
    sl_unfold [k0_t2_body]
    sl_exec
    sl_step
    isplitr; · ipureintro; omega
    isplitl [HO]; · iexists _; iexact HO
    rw [show 1024 * (k.val + 1) = 1024 * k.val + 256 + 256 + 256 + 256 by omega]
    iexact HB
  · simp only [if_neg (Nat.not_lt.mpr h1)]
    iintro ⟨-, ⟨%W, HO⟩, HB⟩
    sl_unfold [k0_t2_body]
    sl_exec
    sl_step
    isplitr; · ipureintro; omega
    isplitl [HO]; · iexists _; iexact HO
    isplitl [HB]; · iexact HB
    iexact HB_all

/-! ## The body -/

/-- Block `q` of the fetched rows, as the body loads it. -/
def slab (q : ℕ) (inb : ∀ a, (![q, 0, 0] : Fin 3 → ℕ) a + S1x128x2048.size a ≤ S4x128x2048.size a) : Vec F S1x128x2048 .f32 :=
  scM.view.readAt (Elt F) (Rect.unit (s := S4x128x2048) ![q, 0, 0] S1x128x2048.size inb).toLoadRect (fetched i T Y)

/-- The output block after the body. -/
def outAfter (x3 : Vec F S128x128 .f32) (x4 : Vec F S128x2048 .f32) (x5 : Vec F S1x1x1x2048 .f32) (x6 x7 : Vec F S1x2048 .f32) :
    Vec F S128x2048 .f32 :=
  k0_pay1 (k0_pay2 x3 (slab i T Y 0 inb_S4x128x2048_S1x128x2048_0_0_0) (slab i T Y 1 inb_S4x128x2048_S1x128x2048_1_0_0)
    (slab i T Y 2 inb_S4x128x2048_S1x128x2048_2_0_0) (slab i T Y 3 inb_S4x128x2048_S1x128x2048_3_0_0)) (k0_pay3 x4) x5 x6 x7

variable (x3 : Vec F S128x128 .f32) (x4 : Vec F S128x2048 .f32) (x5 : Vec F S1x1x1x2048 .f32) (x6 x7 : Vec F S1x2048 .f32) (o : Vec F S128x2048 .f32)

/-- What the body works on: the five input blocks, the output, the scratch, the semaphore at zero, the experts' rows, the
    table of positions, and nothing owed. -/
def held (o : Vec F S128x2048 .f32) : sProp 𝕄 :=
  iprop(owns (c : Thread nD τ) a3 fullShare x3 ∗ owns (c : Thread nD τ) a4 fullShare x4
    ∗ owns (c : Thread nD τ) a5 fullShare x5 ∗ owns (c : Thread nD τ) a6 fullShare x6
    ∗ owns (c : Thread nD τ) a7 fullShare x7 ∗ owns (c : Thread nD τ) a8 fullShare o
    ∗ (∃ f : Vec F S4x128x2048 .f32, scM.view.loc (c : Thread nD τ) ↦{fullShare} f)
    ∗ semVal ((c : Thread nD τ), SemLoc.dma cc0_scratch1.sem) 0
    ∗ (rowsM.view.loc (c : Thread nD τ) ↦{fullShare} Y) ∗ tabHeld c T
    ∗ (∃ W, owes (c : Thread nD τ) 0 W))

/-- Before the first trip of the issuing loop. -/
theorem issue_start (f : Vec F S4x128x2048 .f32) :
    iprop(batch c i T Y 0 0 ∗ (scM.view.loc (c : Thread nD τ) ↦{fullShare} f) ∗ (bigSep Finset.univ fun t : Fin 512 => tokAt c i T Y t.val) ∗ tabHeld c T)
      ⊢ issueAt c i T Y 0 () := by
  unfold issueAt
  rw [slots_of c f]
  have hr : (Ring.rangeSet 512 (4 * 0) 512) = (Finset.univ : Finset (Fin 512)) := Ring.rangeSet_univ
  have e : (bigSep Finset.univ fun t : Fin 512 => (iprop(tokAt c i T Y t.val ∗ slotOwn c t.val) : sProp 𝕄))
      = iprop((bigSep Finset.univ fun t : Fin 512 => tokAt c i T Y t.val) ∗ bigSep Finset.univ fun t : Fin 512 => slotOwn c t.val) := BI.bigSep_sep _ _ _
  rw [hr, e]
  iintro ⟨HB, HS, HT, HTab⟩
  isplitl [HB]; · iexact HB
  isplitl [HS HT]
  · isplitl [HT]; · iexact HT
    have h : (bigSep Finset.univ fun t : Fin 512 => (scM.view.loc (c : Thread nD τ) ↦[slotSet (t.val % 4) (t.val / 4)]{fullShare} f : sProp 𝕄))
        ⊢ bigSep Finset.univ fun t : Fin 512 => slotOwn c t.val := by
      have h1 : ∀ t : Fin 512, (scM.view.loc (c : Thread nD τ) ↦[slotSet (t.val % 4) (t.val / 4)]{fullShare} f : sProp 𝕄) ⊢ slotOwn c t.val := fun t => by
        iintro H; iexists f; iexact H
      exact BI.bigSep_mono fun t _ => h1 t
    iapply h
    iexact HS
  iexact HTab

/-- After the last trip of the waiting loop: the fetched rows in the scratch, the shares of the rows given back. -/
theorem delivered_all : bigSep Finset.univ (dlv c i T Y)
    ⊢ iprop((scM.view.loc (c : Thread nD τ) ↦{fullShare} fetched i T Y : sProp 𝕄) ∗ bigSep Finset.univ fun t : Fin 512 => tokAt c i T Y t.val) := by
  rw [slots_of c (fetched i T Y)]
  exact Entails.of_eq (BI.bigSep_sep _ _ _)

/-! A load or a store of a whole buffer, at the shapes the body uses. -/

theorem put_all (v : View sig .tc .vmem S128x2048 .f32) (f : v.ty.Contents (Elt F))
    (inb : ∀ a, (![0, 0] : Fin 2 → ℕ) a + (![128, 2048] : Fin 2 → ℕ) a ≤ S128x2048.size a) (w : Vec F S128x2048 .f32)
    (L : List (View.Piece (Elt F) S128x2048 .f32)) :
    v.read (Elt F) (v.writes (Elt F) f (⟨Rect.unit (s := S128x2048) ![0, 0] ![128, 2048] inb, w⟩ :: L)) = w :=
  View.read_writes_full (s := S128x2048) v f inb w L
theorem get_g (v : View sig .tc .vmem S128x128 .f32) (f : v.ty.Contents (Elt F))
    (inb : ∀ a, (![0, 0] : Fin 2 → ℕ) a + (![128, 128] : Fin 2 → ℕ) a ≤ S128x128.size a) :
    v.readAt (Elt F) (Rect.unit (s := S128x128) ![0, 0] ![128, 128] inb).toLoadRect f = v.read (Elt F) f :=
  View.readAt_full (s := S128x128) v f inb
theorem get_x (v : View sig .tc .vmem S128x2048 .f32) (f : v.ty.Contents (Elt F))
    (inb : ∀ a, (![0, 0] : Fin 2 → ℕ) a + (![128, 2048] : Fin 2 → ℕ) a ≤ S128x2048.size a) :
    v.readAt (Elt F) (Rect.unit (s := S128x2048) ![0, 0] ![128, 2048] inb).toLoadRect f = v.read (Elt F) f :=
  View.readAt_full (s := S128x2048) v f inb
theorem get_m (v : View sig .tc .vmem S1x1x1x2048 .f32) (f : v.ty.Contents (Elt F))
    (inb : ∀ a, (![0, 0, 0, 0] : Fin 4 → ℕ) a + (![1, 1, 1, 2048] : Fin 4 → ℕ) a ≤ S1x1x1x2048.size a) :
    v.readAt (Elt F) (Rect.unit (s := S1x1x1x2048) ![0, 0, 0, 0] ![1, 1, 1, 2048] inb).toLoadRect f = v.read (Elt F) f :=
  View.readAt_full (s := S1x1x1x2048) v f inb
theorem get_l (v : View sig .tc .vmem S1x2048 .f32) (f : v.ty.Contents (Elt F))
    (inb : ∀ a, (![0, 0] : Fin 2 → ℕ) a + (![1, 2048] : Fin 2 → ℕ) a ≤ S1x2048.size a) :
    v.readAt (Elt F) (Rect.unit (s := S1x2048) ![0, 0] ![1, 2048] inb).toLoadRect f = v.read (Elt F) f :=
  View.readAt_full (s := S1x2048) v f inb

set_option maxHeartbeats 2000000 in
theorem body_run (hT : ∀ n, BitVec.toNat (T n) < 49152) (K : PUnit → sProp 𝕄) :
    iprop(held c T Y a3 a4 a5 a6 a7 a8 x3 x4 x5 x6 x7 o
        ∗ (held c T Y a3 a4 a5 a6 a7 a8 x3 x4 x5 x6 x7 (outAfter i T Y x3 x4 x5 x6 x7) -∗ K ⟨⟩))
      ⊢ wp frame (wpE (defs₀ (F := F)) Variants.none c none) Set.univ
          (cc0_moe_combine_ln2 i tab (Memref.isWhole_whole _) rowsM (Memref.isWhole_whole _) a3 h3 a4 h4 a5 h5 a6 h6 a7 h7 a8 h8
            scM (Memref.isWhole_whole _) cc0_scratch1) K := by
  simp only [cc0_moe_combine_ln2_eq_skeleton]
  sl_unfold [cc0_moe_combine_ln2_skel]
  simp only [k0_part2_eq_skeleton]
  sl_unfold [k0_part2_skel]
  dsimp only
  simp only [bind_assoc, pure_bind]
  unfold held owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fs, HS⟩, HV, HY, HT, ⟨%W, HO⟩⟩, Hk⟩
  obtain rfl := h3.eq_unread hf0; obtain rfl := h4.eq_unread hf1; obtain rfl := h5.eq_unread hf2
  obtain rfl := h6.eq_unread hf3; obtain rfl := h7.eq_unread hf4; obtain rfl := h8.eq_unread hf5
  imod (Transfers.batch_alloc' (Lvl := ℕ) (countersEmb (U := Pipeline.UD sig nD τ)) (c : Thread nD τ) () rowCredit (dlv c i T Y) (sm := .dma cc0_scratch1.sem) (E := Set.univ)) $$ HV with HB
  ihave HY' := rows_take c i T Y $$ HY
  icases HY' with ⟨HL, HY⟩
  ihave HI := issue_start c i T Y fs $$ [HB HS HY HT]
  · isplitl [HB]; · unfold batch; iexact HB
    isplitl [HS]; · iexact HS
    isplitl [HY]; · iexact HY
    iexact HT
  sl_for (issueAt c i T Y) $$ [HI]
  · intro k acc
    exact issue_step c i T Y a3 h3 a4 h4 a5 h5 a6 h6 a7 h7 a8 h8 hT _ k acc
  · iexact HI
  iintro %acc1 HI
  unfold issueAt
  icases HI with ⟨HB, -, HT⟩
  sl_for (drainAt c i T Y) $$ [HB HO]
  · intro k acc
    exact drain_step c i T Y a3 h3 a4 h4 a5 h5 a6 h6 a7 h7 a8 h8 k acc
  · unfold drainAt
    rw [if_pos (by decide : 0 < 128)]
    isplitr; · ipureintro; omega
    isplitl [HO]; · iexists _; iexact HO
    iexact HB
  iintro %acc2 HD
  unfold drainAt
  rw [if_neg (show ¬ k0_t2_loop.trips < 128 by decide)]
  icases HD with ⟨-, ⟨%W', HO⟩, HV, HD⟩
  ihave HD' := delivered_all c i T Y $$ HD
  icases HD' with ⟨HS, HY⟩
  ihave HY' := rows_put c i T Y $$ [HL HY]
  · isplitl [HL]; · iexact HL
    iexact HY
  sl_exec
  sl_step
  iapply Hk
  isplitl [H0]
  · iexists _; isplitr; · ipureintro; exact h3.read_unread _
    iexact H0
  isplitl [H1]
  · iexists _; isplitr; · ipureintro; exact h4.read_unread _
    iexact H1
  isplitl [H2]
  · iexists _; isplitr; · ipureintro; exact h5.read_unread _
    iexact H2
  isplitl [H3]
  · iexists _; isplitr; · ipureintro; exact h6.read_unread _
    iexact H3
  isplitl [H4]
  · iexists _; isplitr; · ipureintro; exact h7.read_unread _
    iexact H4
  isplitl [H5]
  · iexists _; isplitr
    swap; · iexact H5
    ipureintro
    unfold outAfter slab
    try sl_unfold_run_names
    simp only [put_all, get_g, get_x, get_m, get_l, View.writes_nil, h3.read_unread, h4.read_unread, h5.read_unread, h6.read_unread, h7.read_unread, h8.read_unread]
    try rfl
  isplitl [HS]; · iexists _; iexact HS
  isplitl [HV]; · iexact HV
  isplitl [HY']; · iexact HY'
  isplitl [HT]; · iexact HT
  iexists _; iexact HO

end Body

end Cert.CombineIdeal.Own

end
-- ==== Proof.CombineFrameI.lean ====
/-
  The launch of the combination's call: what the host lines leave it, the windows' blocks, the pipeline's proof data, the
  body's obligation at every point, the run, and the frame.
-/
module

public import proofs.«01_k».proof.Proof.CombineBodyI

@[expose] public section

set_option maxRecDepth 16384

noncomputable section

namespace Cert.CombineIdeal.Own

open Cert.CombineIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host lines before the call -/

/-- What core `c`'s buffers hold when the call is entered. -/
abbrev V (c : Dev nD) (b : Ref sig .tc) : Buf (Elt F) ((c : Thread nD τ).loc b) :=
  StableHlo.after hostOps0 (fun b => m (c, b)) b

theorem host_fresh : (hostOps0 : List (HloOp τ sig (Elt F))).Forall fun op => op.fresh = ∅ := by
  simp only [List.Forall]; repeat' constructor

set_option maxHeartbeats 800000 in
/-- The host lines run, then the call. -/
theorem hmain (𝒱₀ : Variants) : Pipeline.HMainP (Ix := Unit) (Name := ℕ) (U := Pipeline.UD sig nD τ) (Lvl := ℕ) pcfgs 0 defs₀ 𝒱₀ m
    (main (F := F)) (V m) :=
  Pipeline.hmainP_prefix pcfgs 0 defs₀ 𝒱₀ m main hostOps0 hostOps0_sub host_fresh main_chain

/-- The seven arguments. -/
abbrev isArg (b : Ref sig .tc) : Prop :=
  b = main_arg0 ∨ b = main_arg1 ∨ b = main_arg2 ∨ b = main_arg3 ∨ b = main_arg4 ∨ b = main_arg5 ∨ b = main_arg6

/-- The host lines leave every argument as it was. -/
theorem V_arg (c : Dev nD) (b : Ref sig .tc) (hb : isArg b) : V m c b = m ((c : Thread nD τ).loc b) := by
  rcases hb with rfl | rfl | rfl | rfl | rfl | rfl | rfl <;>
  · refine StableHlo.after_of_forall_not_mem (b := Proc.devRef .tc _) _ _ (List.forall_iff_forall_mem.mp ?_)
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide)

/-! ## The table of positions -/

/-- What the table holds when the call is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

abbrev adm : (pcfg0 (F := F)).Adm := ⟨tbl m, trivial⟩
abbrev cfgM : Pipeline.Cfg sig Λ₀ := cfg0 (adm m)

/-- Every position is a row of the experts' output. -/
abbrev InRange : Prop := ∀ n, BitVec.toNat ((tbl m 0 : Vec F S32768 .i32) n) < 49152

theorem PhiT_eq (c : Dev nD) : (Pipeline.ΦT pre0 (tbl m) c : sProp 𝕄) = tabHeld c (tbl m 0) := by
  unfold Pipeline.ΦT Pipeline.prefHeld
  rw [show (Finset.univ : Finset (Fin 1)) = {(0 : Fin 1)} from by decide, bigSep_singleton]
  rfl

/-! ## The body's own semaphore and the rows it reads itself -/

abbrev osem0 : Fin 1 → SemLoc sig := fun _ => SemLoc.dma cc0_scratch1.sem
theorem ownSemFacts0 : Pipeline.OwnSemFacts spec0 osem0 := by decide
abbrev H0 : Finset (Ref sig .tc) := {main_arg1}
theorem H0_sub : H0 ⊆ Pipeline.restRefsP sig pre0 spec0 := by decide

theorem PhiD_eq (c : Dev nD) :
    (Pipeline.ΦD osem0 spec0 H0 (V m) c : sProp 𝕄)
      = iprop((∃ f : Vec F S4x128x2048 .f32, scM.view.loc (c : Thread nD τ) ↦{fullShare} f) ∗ (∃ r, prngReg c r)
          ∗ semVal ((c : Thread nD τ), SemLoc.dma cc0_scratch1.sem) 0 ∗ (rowsM.view.loc (c : Thread nD τ) ↦{fullShare} V m c main_arg1)) := by
  rw [Pipeline.ΦD_eq, scopedRest0_eq, Pipeline.ownSems0_eq_of_list c osem0 [0] (by decide) (by decide), bigSep_singleton]
  rfl

/-! ## The windows' blocks -/

/-- Window `w`'s block at point `t`. -/
def iblk (c : Dev nD) (w : Fin (cfgM m).W) (t : Fin (cfgM m).N) :
    (((cfgM m).win w).xblock ((cfgM m).grid.coords t)).Idx → Elt F ((cfgM m).win w).elt :=
  (((cfgM m).win w).blk t).view.read (Elt F) (V m c (Pipeline.arrRef spec0 w))

/-! ## The current staging buffers -/

abbrev st_0 (t : Fin (cfgM m).N) : Memref sig .tc .vmem S128x128 .f32 := spec0_0.stage ((cfgM m).slots t 0)
abbrev st_1 (t : Fin (cfgM m).N) : Memref sig .tc .vmem S128x2048 .f32 := spec0_1.stage ((cfgM m).slots t 1)
abbrev st_2 (t : Fin (cfgM m).N) : Memref sig .tc .vmem S1x1x1x2048 .f32 := spec0_2.stage ((cfgM m).slots t 2)
abbrev st_3 (t : Fin (cfgM m).N) : Memref sig .tc .vmem S1x2048 .f32 := spec0_3.stage ((cfgM m).slots t 3)
abbrev st_4 (t : Fin (cfgM m).N) : Memref sig .tc .vmem S1x2048 .f32 := spec0_4.stage ((cfgM m).slots t 4)
abbrev st_5 (t : Fin (cfgM m).N) : Memref sig .tc .vmem S128x2048 .f32 := spec0_5.stage ((cfgM m).slots t 5)

/-- The body at point `t`, on what the pipeline calls it with. -/
abbrev bodyAt (t : Fin (cfgM m).N) : Prog (TpuEff nD τ sig (Elt F) Λ₀ .tc) PUnit :=
  cc0_moe_combine_ln2 (grid0.coords t) tab (Memref.isWhole_whole _) rowsM (Memref.isWhole_whole _)
    (st_0 m t) (hstage0_0 (((cfgM m).slots t 0).cast nbuf0_0))
    (st_1 m t) (hstage0_1 (((cfgM m).slots t 1).cast nbuf0_1))
    (st_2 m t) (hstage0_2 (((cfgM m).slots t 2).cast nbuf0_2))
    (st_3 m t) (hstage0_3 (((cfgM m).slots t 3).cast nbuf0_3))
    (st_4 m t) (hstage0_4 (((cfgM m).slots t 4).cast nbuf0_4))
    (st_5 m t) (hstage0_5 (((cfgM m).slots t 5).cast nbuf0_5))
    scM (Memref.isWhole_whole _) cc0_scratch1

theorem body_row (t : Fin (cfgM m).N) :
    defs₀ (F := F) .tc (cfgM m).body ((cfgM m).bodyArgs t ((cfgM m).slots t)) = bodyAt m t := by
  unfold defs₀; rw [Defs.onTc_tc]

/-! ## The pipeline's proof data -/

/-- What the body leaves in the output's buffer at point `t`. -/
def outBlk (c : Dev nD) (t : Fin (cfgM m).N) : Vec F S128x2048 .f32 :=
  outAfter (grid0.coords t) (tbl m 0) (V m c main_arg1) (iblk m c 0 t) (iblk m c 1 t) (iblk m c 2 t) (iblk m c 3 t) (iblk m c 4 t)

def dats (_ : Fin 1) (c : Dev nD) : Dat τ (Elt F) Unit ℕ (Pipeline.UD sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk m c t
  Φ _ := iprop(Pipeline.ΦD osem0 spec0 H0 (V m) c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = outBlk m c t := by dsimp only [dats]; try rfl

/-- Input 0's buffer holds its block at every point. -/
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- Input 1's buffer holds its block at every point. -/
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- Input 2's buffer holds its block at every point. -/
theorem before_2 (c : Dev nD) (t : Fin (cfgM m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
/-- Input 3's buffer holds its block at every point. -/
theorem before_3 (c : Dev nD) (t : Fin (cfgM m).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
/-- Input 4's buffer holds its block at every point. -/
theorem before_4 (c : Dev nD) (t : Fin (cfgM m).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (st_0 m t) fullShare ((dats m 0 c).before 0 t d))
    ∗ (∃ d, owns (c : Thread nD τ) (st_1 m t) fullShare ((dats m 0 c).before 1 t d))
    ∗ (∃ d, owns (c : Thread nD τ) (st_2 m t) fullShare ((dats m 0 c).before 2 t d))
    ∗ (∃ d, owns (c : Thread nD τ) (st_3 m t) fullShare ((dats m 0 c).before 3 t d))
    ∗ (∃ d, owns (c : Thread nD τ) (st_4 m t) fullShare ((dats m 0 c).before 4 t d))
    ∗ (∃ d, owns (c : Thread nD τ) (st_5 m t) fullShare ((dats m 0 c).before 5 t d)))

def bodyPost (c : Dev nD) (t : Fin (cfgM m).N) : sProp 𝕄 :=
  iprop((dats m 0 c).Φ t.succ ∗ (dats m 0 c).owesAt () t.succ
    ∗ owns (c : Thread nD τ) (st_0 m t) fullShare ((dats m 0 c).after 0 t)
    ∗ owns (c : Thread nD τ) (st_1 m t) fullShare ((dats m 0 c).after 1 t)
    ∗ owns (c : Thread nD τ) (st_2 m t) fullShare ((dats m 0 c).after 2 t)
    ∗ owns (c : Thread nD τ) (st_3 m t) fullShare ((dats m 0 c).after 3 t)
    ∗ owns (c : Thread nD τ) (st_4 m t) fullShare ((dats m 0 c).after 4 t)
    ∗ owns (c : Thread nD τ) (st_5 m t) fullShare ((dats m 0 c).after 5 t))

set_option maxHeartbeats 1600000 in
theorem sound_body (hT : InRange m) (c : Dev nD) (t : Fin (cfgM m).N) :
    bodyPre m c t ⊢ wp frame (wpE (defs₀ (F := F)) Variants.none c none) Set.univ (bodyAt m t) (fun _ => bodyPost m c t) := by
  unfold bodyPre bodyPost
  simp only [before_0, before_1, before_2, before_3, before_4]
  rw [show (dats m 0 c).Φ t.succ = (dats m 0 c).Φ t.castSucc from rfl, after_0, after_1, after_2, after_3, after_4, after_5]
  rw [show (dats m 0 c).Φ t.castSucc = iprop(Pipeline.ΦD osem0 spec0 H0 (V m) c ∗ Pipeline.ΦT pre0 (tbl m) c) from rfl, PhiD_eq, PhiT_eq]
  unfold Dat.owesAt Pipeline.owesWithin
  rw [show (dats m 0 c).owed t.castSucc = 0 from rfl, show (dats m 0 c).owed t.succ = 0 from rfl]
  iintro ⟨⟨⟨HS, Hg, HV, HY⟩, HT⟩, ⟨%W, -, HW⟩, ⟨%d0, H0⟩, ⟨%d1, H1⟩, ⟨%d2, H2⟩, ⟨%d3, H3⟩, ⟨%d4, H4⟩, ⟨%d5, H5⟩⟩
  unfold bodyAt outBlk
  iapply (body_run c (grid0.coords t) (tbl m 0) (V m c main_arg1) (st_0 m t) _ (st_1 m t) _ (st_2 m t) _ (st_3 m t) _ (st_4 m t) _ (st_5 m t) _
    (iblk m c 0 t) (iblk m c 1 t) (iblk m c 2 t) (iblk m c 3 t) (iblk m c 4 t) ((dats m 0 c).before 5 t d5) hT _)
  unfold held
  isplitl [H0 H1 H2 H3 H4 H5 HS HV HY HT HW]
  · isplitl [H0]; · iexact H0
    isplitl [H1]; · iexact H1
    isplitl [H2]; · iexact H2
    isplitl [H3]; · iexact H3
    isplitl [H4]; · iexact H4
    isplitl [H5]; · iexact H5
    isplitl [HS]; · iexact HS
    isplitl [HV]; · iexact HV
    isplitl [HY]; · iexact HY
    isplitl [HT]; · iexact HT
    iexists W; iexact HW
  iintro ⟨H0, H1, H2, H3, H4, H5, HS, HV, HY, HT, ⟨%W', HW'⟩⟩
  isplitl [HS Hg HV HY HT]
  · isplitl [HS Hg HV HY]
    · isplitl [HS]; · iexact HS
      isplitl [Hg]; · iexact Hg
      isplitl [HV]; · iexact HV
      iexact HY
    iexact HT
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

theorem body_obligation (hT : InRange m) (c : Dev nD) :
    BodyObligation (dats (F := F) m 0 c) (defs₀ (F := F)) Variants.none () Set.univ := fun t => by
  rw [bigSep_W0, bigSep_W0, body_row m]
  exact triple_restated (sound_body m hT c t) rfl .rfl fun _ => .rfl

/-! ## The run and the frame -/

set_option backward.isDefEq.respectTransparency.types false in
theorem run_quiescent (hT : InRange m) : θ_run defs (onTc (τ := τ) (main (F := F))) (s₀ m ρ)
    (fun r => (Pipeline.FramePost (Pipeline.pin pcfgs fun _ => adm m) (dats m) 0 (V m)) r ∧ r.2.sem = fun _ => 0) :=
  Pipeline.θ_run_frameP_dma (Q' := _) pcfgs (fun _ => adm m) (dats m) (0 : Fin 1) launch0 osem0 defs₀ Variants.none ownSemFacts0 H0 H0_sub m ρ main
    (hbody := fun c => (body_obligation m hT c).loose) (hshare := fun c => (dats m 0 c).share_full fun _ => rfl)
    (howed := fun _ _ => rfl) (V := V m) (hmain := hmain m Variants.none) (hA := A_eq m) (hpf := V_pre m)
    (hin := fun _ => .rfl) (hout := fun c => (show iprop(Pipeline.ΦD osem0 spec0 H0 (V m) c ∗ Pipeline.ΦT pre0 (tbl m) c) ⊢ (Pipeline.ΦD osem0 spec0 H0 (V m) c : sProp 𝕄) by
      iintro ⟨HD, -⟩; iexact HD))

/-- The frame: the arguments end unchanged and every semaphore at zero. -/
theorem frame (hT : InRange m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
      ((h.1 c).2 main_arg0 (by decide : main_arg0 ∈ Pipeline.restRefs sig spec0)).trans (V_arg m c _ (by simp [isArg])),
      ((h.1 c).2 main_arg1 (by decide : main_arg1 ∈ Pipeline.restRefs sig spec0)).trans (V_arg m c _ (by simp [isArg])),
      ((h.1 c).1 0).trans (((dats m 0 c).arrAt_in 0 rfl _).trans ((A_eq m c 0).trans (V_arg m c main_arg2 (by simp [isArg])))),
      ((h.1 c).1 1).trans (((dats m 0 c).arrAt_in 1 rfl _).trans ((A_eq m c 1).trans (V_arg m c main_arg3 (by simp [isArg])))),
      ((h.1 c).2 main_arg4 (by decide : main_arg4 ∈ Pipeline.restRefs sig spec0)).trans (V_arg m c _ (by simp [isArg])),
      ((h.1 c).2 main_arg5 (by decide : main_arg5 ∈ Pipeline.restRefs sig spec0)).trans (V_arg m c _ (by simp [isArg])),
      ((h.1 c).2 main_arg6 (by decide : main_arg6 ∈ Pipeline.restRefs sig spec0)).trans (V_arg m c _ (by simp [isArg]))⟩, h.2⟩)
    (run_quiescent m ρ hT)

end Cert.CombineIdeal.Own

end
-- ==== Proof.CombinePreI.lean ====
/-
  What the precondition says of the table of positions: every position is a row of the experts' output.
-/
module

public import proofs.«01_k».proof.Proof.CombineFrameI
public import proofs.«01_k».proof.Proof.Gen.Pre_positions
public import Idealize.ShloMosaic.Lib.ReduceAll
public import Idealize.ShloMosaic.Lib.StableHlo.Predicate
public import Idealize.ShloMosaic.Lib.Pointwise

@[expose] public section

set_option maxRecDepth 16384

noncomputable section

namespace Cert.CombineIdeal.Own

open Cert.CombineIdeal.Gen
open Idealize.ShloMosaic Idealize.ShloMosaic.TcCoe Idealize.SL.Sem

variable {F : FTy → Type} [FloatOps F]

/-- A word between 0 and 49152, read with its sign, is below 49152 read without. -/
theorem pos_word {x : BitVec 32} (h1 : IntOp.cmpi .sge x 0#32 = 1#1) (h2 : IntOp.cmpi .slt x 49152#32 = 1#1) : x.toNat < 49152 := by
  simp only [IntOp.cmpi, StableHlo.Predicate.ofBool_eq_one_iff, BitVec.sle, BitVec.slt, decide_eq_true_eq] at h1 h2
  rw [show (0#32 : BitVec 32).toInt = 0 from by decide] at h1
  rw [show (49152#32 : BitVec 32).toInt = 49152 from by decide] at h2
  rw [BitVec.toInt_eq_toNat_cond] at h1 h2
  have := x.isLt
  split at h1 <;> omega

theorem range_of (pos : IVec S32768 32) (ys : FVec F S49152x2048 .f32) (gates : FVec F S8192x128 .f32) (x1 : FVec F S8192x2048 .f32)
    (md : FVec F S2x12288 .f32) (g b : FVec F S2048 .f32)
    (h : Cert.Pre_positions.fn (F := F) pos ys gates x1 md g b = fun _ => 1#1) : ∀ n, BitVec.toNat (pos n) < 49152 := by
  have h0 := congrFun h (Shape.Idx.first Cert.Pre_positions.Gen.h_S_)
  have h2 := IntOp.andi_eq_one.mp h0
  haveI : Subsingleton S_.Idx := ⟨fun a b => funext fun x => x.elim0⟩
  exact fun n => pos_word (Host.reduce_andi_all _ _ _ _ _ h2.1 n) (Host.reduce_andi_all _ _ _ _ _ h2.2 n)

variable (m : (ℓ : Loc nD τ sig) → Buf (Elt F) ℓ)

theorem in_range (h : ∀ n, BitVec.toNat ((m (((0 : Dev nD) : Thread nD τ).loc main_arg0) : Vec F S32768 .i32) n) < 49152) : InRange m := by
  intro n
  have e : (tbl m 0 : Vec F S32768 .i32) n = (m (((0 : Dev nD) : Thread nD τ).loc main_arg0) : Vec F S32768 .i32) n :=
    congrFun (V_arg m 0 main_arg0 (by simp [isArg])) n
  rw [e]
  exact h n

end Cert.CombineIdeal.Own

end
-- ==== Proof.CombineSpec.lean ====
/-
  What the combination computes, element by element, and the reference's side: a token's four experts' rows under its
  gates, added to the residual, and the layer norm of the sum.
-/
module

public import proofs.«01_k».proof.Defs
public import proofs.«01_k».proof.Proof.Gen.CombineRefIdeal.Run
public import proofs.«01_k».proof.Proof.CombinePreI
public import Idealize.ShloMosaic.Lib.Routing.Ops

@[expose] public section

set_option maxRecDepth 16384

noncomputable section

namespace Cert.CombineSpec

open Idealize.ShloMosaic Idealize.ShloMosaic.TcCoe Idealize.SL.Sem
open Cert.CombineRefIdeal Cert.CombineRefIdeal.Gen

/-- The row of the experts' output at position `p`. -/
def rowAt (pos : IVec S32768 32) (p : Fin 32768) : Fin 49152 := ⟨(pos (ix1 p)).toNat % 49152, Nat.mod_lt _ (by decide)⟩

/-- The start indices the reference gathers at. -/
def start (pos : IVec S32768 32) : IVec S32768x1 32 :=
  broadcastInDim S32768x1 ![0] bcast_S32768_S32768x1_0 (select (cmpi .slt pos (broadcastInDim S32768 ![] bcast_S_S32768 (constantI S_ 32 0#32)))
    (addi pos (broadcastInDim S32768 ![] bcast_S_S32768 (constantI S_ 32 49152#32))) pos)

/-- A position is not negative. -/
theorem not_neg {n : ℕ} (hn : n < 49152) : IntOp.cmpi .slt (BitVec.ofNat 32 n) 0#32 = 0#1 := by
  simp only [IntOp.cmpi, BitVec.slt, StableHlo.Predicate.toInt_ofNat_small n (by omega)]
  rw [show (0#32 : BitVec 32).toInt = 0 from by decide, decide_eq_false (by omega)]
  rfl

theorem start_at (pos : IVec S32768 32) (hr : ∀ b, (pos b).toNat < 49152) (p : Fin 32768) :
    start pos (ix2 p (0 : Fin 1)) = BitVec.ofNat 32 (rowAt pos p).val := by
  have e : pos (ix1 p) = BitVec.ofNat 32 (rowAt pos p).val := by
    refine BitVec.eq_of_toNat_eq ?_
    have := hr (ix1 p)
    show _ = (BitVec.ofNat 32 ((pos (ix1 p)).toNat % 49152)).toNat
    rw [BitVec.toNat_ofNat, Nat.mod_eq_of_lt this, Nat.mod_eq_of_lt (by omega)]
  unfold start
  pointwise
  rw [e, not_neg (by have := (rowAt pos p).isLt; omega)]
  rfl

theorem gather_at (pos : IVec S32768 32) (hr : ∀ b, (pos b).toNat < 49152) (ys : Vec Ideal S49152x2048 .f32) :
    Host.gather gather_S49152x2048_S32768x1_S32768x2048_1_0_n_n_0_1_12048 ys (start pos) = fun j => ys (ix2 (rowAt pos (j 0)) (j 1)) := by
  funext j
  idx_vars j
  exact Routing.gather_row _ rfl rfl rfl rfl rfl ys (start pos) _ _ _ (start_at pos hr _) (by decide)

/-! ## The layer's mathematics -/

/-- Token `j`'s four experts' rows under its gates, at column `n`. -/
def ffn (pos : IVec S32768 32) (ys : Vec Ideal S49152x2048 .f32) (gates : Vec Ideal S8192x128 .f32) (j : Fin 8192) (n : Fin 2048) : EReal :=
  ∑ q : Fin 4, ys (ix2 (rowAt pos ⟨4 * j.val + q.val, by omega⟩) n) * gates (ix2 j ⟨q.val, by omega⟩)

/-- The residual and the gated rows. -/
def resid (pos : IVec S32768 32) (ys : Vec Ideal S49152x2048 .f32) (gates : Vec Ideal S8192x128 .f32) (x1 : Vec Ideal S8192x2048 .f32)
    (md : Vec Ideal S2x12288 .f32) (j : Fin 8192) (n : Fin 2048) : EReal :=
  Ideal.ofBits .f32 0x3F9837F0#32 * x1 (ix2 j n) + md (ix2 ⟨j.val / 4096, by omega⟩ ⟨10240 + n.val, by omega⟩) * ffn pos ys gates j n

/-- The mean of a row. -/
def mean (z : Fin 2048 → EReal) : EReal := Ideal.div (∑ k, z k) (Ideal.ofBits .f32 0x45000000#32)

/-- The layer norm of a row, at column `n`. -/
def norm (z : Fin 2048 → EReal) (g b : Vec Ideal S2048 .f32) (n : Fin 2048) : EReal :=
  (z n - mean z) * Ideal.rsqrt (mean (fun k => (z k - mean z) * (z k - mean z)) + Ideal.ofBits .f32 0x3727C5AC#32) * g (ix1 n) + b (ix1 n)

/-- The combination's result. -/
def spec (pos : IVec S32768 32) (ys : Vec Ideal S49152x2048 .f32) (gates : Vec Ideal S8192x128 .f32) (x1 : Vec Ideal S8192x2048 .f32)
    (md : Vec Ideal S2x12288 .f32) (g b : Vec Ideal S2048 .f32) : Vec Ideal S8192x2048 .f32 :=
  fun j => norm (resid pos ys gates x1 md (j 0)) g b (j 1)

/-! ## The reference's terms -/

/-- The reference's gated rows. -/
def refFfn (pos : IVec S32768 32) (ys : Vec Ideal S49152x2048 .f32) (gates : Vec Ideal S8192x128 .f32) : Vec Ideal S8192x2048 .f32 :=
  Host.reduceAdd (F := Ideal) (φ := .f32) (mulf (shapeCast _ (Host.gather gather_S49152x2048_S32768x1_S32768x2048_1_0_n_n_0_1_12048 ys (start pos))
      shapeCasts_S32768x2048_S8192x4x2048)
    (broadcastInDim S8192x4x2048 ![0, 1, 2] bcast_S8192x4x1_S8192x4x2048_0_1_2 (broadcastInDim S8192x4x1 ![0, 1] bcast_S8192x4_S8192x4x1_0_1
      (extractStridedSlice S8192x4 ![0, 0] gates slices_S8192x128_S8192x4_0_0)))) (constant S_ .f32 0x00000000#32)
    reducesTo_S8192x4x2048_S8192x2048_d1 h_S_

/-- The reference's sum of the residual and the gated rows. -/
def refSum (f : Vec Ideal S8192x2048 .f32) (x1 : Vec Ideal S8192x2048 .f32) (md : Vec Ideal S2x12288 .f32) : Vec Ideal S2x4096x2048 .f32 :=
  addf (F := Ideal) (φ := .f32) (mulf (broadcastInDim S2x4096x2048 ![] bcast_S_S2x4096x2048 (constant S_ .f32 0x3F9837F0#32))
      (shapeCast _ x1 shapeCasts_S8192x2048_S2x4096x2048))
    (mulf (broadcastInDim S2x4096x2048 ![0, 1, 2] bcast_S2x1x2048_S2x4096x2048_0_1_2 (extractStridedSlice S2x1x2048 ![0, 5, 0]
      (shapeCast _ md shapeCasts_S2x12288_S2x6x2048) slices_S2x6x2048_S2x1x2048_0_5_0)) (shapeCast _ f shapeCasts_S8192x2048_S2x4096x2048))

/-- The reference's mean over the columns. -/
def refMean (z : Vec Ideal S2x4096x2048 .f32) : Vec Ideal S2x4096x1 .f32 :=
  Host.divf (F := Ideal) (φ := .f32) (broadcastInDim S2x4096x1 ![0, 1] bcast_S2x4096_S2x4096x1_0_1
      (Host.reduceAdd z (constant S_ .f32 0x00000000#32) reducesTo_S2x4096x2048_S2x4096_d2 h_S_))
    (broadcastInDim S2x4096x1 ![] bcast_S_S2x4096x1 (constant S_ .f32 0x45000000#32))

/-- The reference's deviation from the mean. -/
def refDev (z : Vec Ideal S2x4096x2048 .f32) : Vec Ideal S2x4096x2048 .f32 :=
  subf (F := Ideal) (φ := .f32) z (broadcastInDim S2x4096x2048 ![0, 1, 2] bcast_S2x4096x1_S2x4096x2048_0_1_2 (refMean z))

/-- The reference's result from a deviation. -/
def refOut (d : Vec Ideal S2x4096x2048 .f32) (g b : Vec Ideal S2048 .f32) : Vec Ideal S8192x2048 .f32 :=
  shapeCast _ (addf (F := Ideal) (φ := .f32) (mulf (mulf d (broadcastInDim S2x4096x2048 ![0, 1, 2] bcast_S2x4096x1_S2x4096x2048_0_1_2
      (Host.rsqrt (addf (refMean (mulf (F := Ideal) (φ := .f32) d d)) (broadcastInDim S2x4096x1 ![] bcast_S_S2x4096x1 (constant S_ .f32 0x3727C5AC#32))))))
      (broadcastInDim S2x4096x2048 ![0, 1, 2] bcast_S1x1x2048_S2x4096x2048_0_1_2 (broadcastInDim S1x1x2048 ![2] bcast_S2048_S1x1x2048_2 g)))
    (broadcastInDim S2x4096x2048 ![0, 1, 2] bcast_S1x1x2048_S2x4096x2048_0_1_2 (broadcastInDim S1x1x2048 ![2] bcast_S2048_S1x1x2048_2 b)))
    shapeCasts_S2x4096x2048_S8192x2048

theorem res_eq (m : (ℓ : Loc nD τ sig) → Buf (Elt Ideal) ℓ) (c : Dev nD) : Value.res_main_v44 m c
    = refOut (refDev (refSum (refFfn (m ((c : Thread nD τ).loc main_arg0)) (m ((c : Thread nD τ).loc main_arg1)) (m ((c : Thread nD τ).loc main_arg2)))
        (m ((c : Thread nD τ).loc main_arg3)) (m ((c : Thread nD τ).loc main_arg4))))
        (m ((c : Thread nD τ).loc main_arg5)) (m ((c : Thread nD τ).loc main_arg6)) := rfl

/-- The sequence and the place in it of a token. -/
abbrev seqOf (j : Fin 8192) : Fin 2 := ⟨j.val / 4096, by omega⟩
abbrev placeOf (j : Fin 8192) : Fin 4096 := ⟨j.val % 4096, by omega⟩

theorem ffn_at (pos : IVec S32768 32) (hr : ∀ b, (pos b).toNat < 49152) (ys : Vec Ideal S49152x2048 .f32)
    (gates : Vec Ideal S8192x128 .f32) (j : Fin 8192) (n : Fin 2048) : refFfn pos ys gates (ix2 j n) = ffn pos ys gates j n := by
  unfold refFfn
  rw [gather_at _ hr]
  pointwise [ffn]
  exact Finset.sum_congr rfl fun q _ => congrArg (fun p : Fin 32768 => (ys (ix2 (rowAt pos p) n) * gates (ix2 j ⟨q.val, by omega⟩) : EReal))
    (Fin.ext (by dsimp only; omega))

theorem sum_at (f : Vec Ideal S8192x2048 .f32) (x1 : Vec Ideal S8192x2048 .f32) (md : Vec Ideal S2x12288 .f32) (j : Fin 8192) (n : Fin 2048) :
    refSum f x1 md (ix3 (seqOf j) (placeOf j) n) = (Ideal.ofBits .f32 0x3F9837F0#32 * x1 (ix2 j n)
      + md (ix2 (seqOf j) ⟨10240 + n.val, by omega⟩) * f (ix2 j n) : EReal) := by
  pointwise [refSum]
  exact congrArg (fun i : Fin 8192 => (Ideal.ofBits .f32 0x3F9837F0#32 * x1 (ix2 i n) + md (ix2 (seqOf j) ⟨10240 + n.val, by omega⟩) * f (ix2 i n) : EReal))
    (Fin.ext (by dsimp only; omega))

theorem mean_at (z : Vec Ideal S2x4096x2048 .f32) (p : Fin 2) (r : Fin 4096) : refMean z (ix3 p r 0) = mean (fun k => z (ix3 p r k)) := by
  pointwise [refMean, mean]

theorem dev_at (z : Vec Ideal S2x4096x2048 .f32) (p : Fin 2) (r : Fin 4096) (n : Fin 2048) :
    refDev z (ix3 p r n) = (z (ix3 p r n) - mean (fun k => z (ix3 p r k)) : EReal) := by
  pointwise [refDev]
  rw [mean_at]

theorem out_at (d : Vec Ideal S2x4096x2048 .f32) (g b : Vec Ideal S2048 .f32) (j : Fin 8192) (n : Fin 2048) :
    refOut d g b (ix2 j n) = (d (ix3 (seqOf j) (placeOf j) n) * Ideal.rsqrt (refMean (mulf (F := Ideal) (φ := .f32) d d) (ix3 (seqOf j) (placeOf j) 0)
      + Ideal.ofBits .f32 0x3727C5AC#32) * g (ix1 n) + b (ix1 n) : EReal) := by
  pointwise [refOut]

/-- The reference's result is the layer's mathematics. -/
theorem ref_eq (pos : IVec S32768 32) (hr : ∀ b, (pos b).toNat < 49152) (ys : Vec Ideal S49152x2048 .f32) (gates : Vec Ideal S8192x128 .f32)
    (x1 : Vec Ideal S8192x2048 .f32) (md : Vec Ideal S2x12288 .f32) (g b : Vec Ideal S2048 .f32) :
    refOut (refDev (refSum (refFfn pos ys gates) x1 md)) g b = spec pos ys gates x1 md g b := by
  funext j
  idx_vars j
  refine (out_at _ g b j0 j1).trans ?_
  have hz : ∀ k, refSum (refFfn pos ys gates) x1 md (ix3 (seqOf j0) (placeOf j0) k) = resid pos ys gates x1 md j0 k := fun k => by
    rw [sum_at, ffn_at pos hr]
    rfl
  have hd : ∀ k, refDev (refSum (refFfn pos ys gates) x1 md) (ix3 (seqOf j0) (placeOf j0) k)
      = (resid pos ys gates x1 md j0 k - mean (resid pos ys gates x1 md j0) : EReal) := fun k => by
    rw [dev_at, hz, show (fun k => refSum (refFfn pos ys gates) x1 md (ix3 (seqOf j0) (placeOf j0) k)) = resid pos ys gates x1 md j0 from funext hz]
  have hm : refMean (mulf (F := Ideal) (φ := .f32) (refDev (refSum (refFfn pos ys gates) x1 md)) (refDev (refSum (refFfn pos ys gates) x1 md))) (ix3 (seqOf j0) (placeOf j0) 0)
      = mean (fun k => ((resid pos ys gates x1 md j0 k - mean (resid pos ys gates x1 md j0)) * (resid pos ys gates x1 md j0 k - mean (resid pos ys gates x1 md j0)) : EReal)) :=
    (mean_at _ _ _).trans (congrArg mean (funext fun k => congrArg (fun z : EReal => z * z) (hd k)))
  rw [hd, hm]
  rfl

end Cert.CombineSpec

end
-- ==== Proof.CombinePoint.lean ====
/-
  One grid point of the combination's call, element by element: what the body leaves in the output's block, and which
  elements of the arguments its blocks hold.
-/
module

public import proofs.«01_k».proof.Proof.CombinePreI
public import proofs.«01_k».proof.Proof.CombineSpec
public import Idealize.ShloMosaic.Lib.Pipeline.ValueKit

@[expose] public section

set_option maxRecDepth 16384

noncomputable section

namespace Cert.CombineIdeal.Own

open Cert.CombineIdeal.Gen
open Idealize.ShloMosaic Idealize.ShloMosaic.TcCoe Idealize.SL.Sem
open CombineSpec (rowAt ffn resid mean spec)

/-! ## The payloads -/

theorem sum4_at (x3 : Vec Ideal S128x128 .f32) (a b c d : Vec Ideal S1x128x2048 .f32) (r : Fin 128) (n : Fin 2048) :
    k0_pay2 x3 a b c d (ix2 r n) = (x3 (ix2 r ⟨0, by omega⟩) * a (ix3 0 r n) + x3 (ix2 r ⟨1, by omega⟩) * b (ix3 0 r n)
      + x3 (ix2 r ⟨2, by omega⟩) * c (ix3 0 r n) + x3 (ix2 r ⟨3, by omega⟩) * d (ix3 0 r n) : EReal) := by
  pointwise [k0_pay2]

theorem scale_at (x4 : Vec Ideal S128x2048 .f32) (r : Fin 128) (n : Fin 2048) :
    k0_pay3 x4 (ix2 r n) = (Ideal.ofBits .f32 0x3F9837F0#32 * x4 (ix2 r n) : EReal) := by
  pointwise [k0_pay3]

/-- The row the body normalises. -/
def rowZ (f s : FVec Ideal S128x2048 .f32) (x5 : Vec Ideal S1x1x1x2048 .f32) (r : Fin 128) (k : Fin 2048) : EReal :=
  s (ix2 r k) + x5 (ix4 0 0 0 k) * f (ix2 r k)

theorem norm_at (f s : FVec Ideal S128x2048 .f32) (x5 : Vec Ideal S1x1x1x2048 .f32) (x6 x7 : Vec Ideal S1x2048 .f32) (r : Fin 128) (n : Fin 2048) :
    k0_pay1 f s x5 x6 x7 (ix2 r n) = ((rowZ f s x5 r n - mean (rowZ f s x5 r))
      * Ideal.rsqrt (mean (fun k => (rowZ f s x5 r k - mean (rowZ f s x5 r)) * (rowZ f s x5 r k - mean (rowZ f s x5 r))) + Ideal.ofBits .f32 0x3727C5AC#32)
      * x6 (ix2 0 n) + x7 (ix2 0 n) : EReal) := by
  pointwise [k0_pay1, mean, rowZ]

/-! ## The fetched rows -/

theorem slab_at (i : grid0.Coords) (T : Vec Ideal S32768 .i32) (Y : Vec Ideal S49152x2048 .f32) (q : Fin 4)
    (inb : ∀ a, (![q.val, 0, 0] : Fin 3 → ℕ) a + S1x128x2048.size a ≤ S4x128x2048.size a) (r : Fin 128) (n : Fin 2048) :
    slab i T Y q.val inb (ix3 0 r n) = Y (ix2 (rowAt T ⟨((i 0).val * 512 + (4 * r.val + q.val)) % 32768, Nat.mod_lt _ (by decide)⟩) n) := by
  unfold slab
  have e : ((Rect.unit (s := S4x128x2048) ![q.val, 0, 0] S1x128x2048.size inb).emb (ix3 (0 : Fin 1) r n) : S4x128x2048.Idx) = ix3 q r n := by
    funext a
    refine Fin.ext ?_
    match a with
    | ⟨0, _⟩ => show q.val + 1 * 0 = q.val; omega
    | ⟨1, _⟩ => show 0 + 1 * r.val = r.val; omega
    | ⟨2, _⟩ => show 0 + 1 * n.val = n.val; omega
  exact (congrArg (fetched i T Y) e).trans rfl

/-! ## The windows' blocks -/

theorem idx_all : ∀ t : Fin grid0.N, cc0_transform_1 (grid0.coords t) = ![t.val, 0] ∧ cc0_transform_2 (grid0.coords t) = ![t.val, 0]
    ∧ cc0_transform_3 (grid0.coords t) = ![t.val / 32, 5, 0, 0] ∧ cc0_transform_4 (grid0.coords t) = ![0, 0]
    ∧ cc0_transform_5 (grid0.coords t) = ![0, 0] ∧ cc0_transform_6 (grid0.coords t) = ![t.val, 0] ∧ (grid0.coords t 0).val = t.val := by
  decide +kernel

theorem point_lt (t : Fin grid0.N) : t.val < 64 := Nat.lt_of_lt_of_eq t.isLt N_0

/-- The token of a row of a point's block. -/
def tok (t : Fin grid0.N) (r : Fin 128) : Fin 8192 := ⟨t.val * 128 + r.val, by have := point_lt t; omega⟩

section Block
variable (a : (pcfg0 (F := Ideal)).Adm) (t : Fin (cfg0 a).N)

theorem read_0 (f : Vec Ideal S8192x128 .f32) (r : Fin 128) (k : Fin 128) :
    (((((cfg0 a).win 0).blk t).view.read (Elt Ideal) f : Vec Ideal S128x128 .f32) (ix2 r k) : EReal) = f (ix2 (tok t r) k) := by
  have e : ((cfg0 a).win 0).index t = ![t.val, 0] := (idx_all t).1
  have r0 := Pipeline.Window.rect_emb_val ((cfg0 a).win 0) t (ix2 r k) (0 : Fin 2)
  have r1 := Pipeline.Window.rect_emb_val ((cfg0 a).win 0) t (ix2 r k) (1 : Fin 2)
  rw [e] at r0 r1
  refine congrArg f ?_
  funext q
  refine Fin.ext ?_
  match q with
  | ⟨0, _⟩ => exact r0
  | ⟨1, _⟩ => exact r1.trans (by show 0 * 128 + k.val = k.val; omega)

theorem read_1 (f : Vec Ideal S8192x2048 .f32) (r : Fin 128) (k : Fin 2048) :
    (((((cfg0 a).win 1).blk t).view.read (Elt Ideal) f : Vec Ideal S128x2048 .f32) (ix2 r k) : EReal) = f (ix2 (tok t r) k) := by
  have e : ((cfg0 a).win 1).index t = ![t.val, 0] := (idx_all t).2.1
  have r0 := Pipeline.Window.rect_emb_val ((cfg0 a).win 1) t (ix2 r k) (0 : Fin 2)
  have r1 := Pipeline.Window.rect_emb_val ((cfg0 a).win 1) t (ix2 r k) (1 : Fin 2)
  rw [e] at r0 r1
  refine congrArg f ?_
  funext q
  refine Fin.ext ?_
  match q with
  | ⟨0, _⟩ => exact r0
  | ⟨1, _⟩ => exact r1.trans (by show 0 * 2048 + k.val = k.val; omega)

theorem read_2 (f : Vec Ideal S2x6x1x2048 .f32) (k : Fin 2048) :
    (((((cfg0 a).win 2).blk t).view.read (Elt Ideal) f : Vec Ideal S1x1x1x2048 .f32) (ix4 0 0 0 k) : EReal)
      = f (ix4 ⟨t.val / 32, by have := point_lt t; omega⟩ 5 0 k) := by
  have e : ((cfg0 a).win 2).index t = ![t.val / 32, 5, 0, 0] := (idx_all t).2.2.1
  have r0 := Pipeline.Window.rect_emb_val ((cfg0 a).win 2) t (ix4 0 0 0 k) (0 : Fin 4)
  have r1 := Pipeline.Window.rect_emb_val ((cfg0 a).win 2) t (ix4 0 0 0 k) (1 : Fin 4)
  have r2 := Pipeline.Window.rect_emb_val ((cfg0 a).win 2) t (ix4 0 0 0 k) (2 : Fin 4)
  have r3 := Pipeline.Window.rect_emb_val ((cfg0 a).win 2) t (ix4 0 0 0 k) (3 : Fin 4)
  rw [e] at r0 r1 r2 r3
  refine congrArg f ?_
  funext q
  refine Fin.ext ?_
  match q with
  | ⟨0, _⟩ => exact r0.trans (by show t.val / 32 * 1 + 0 = t.val / 32; omega)
  | ⟨1, _⟩ => exact r1.trans (by show 5 * 1 + 0 = 5; omega)
  | ⟨2, _⟩ => exact r2.trans (by show 0 * 1 + 0 = 0; omega)
  | ⟨3, _⟩ => exact r3.trans (by show 0 * 2048 + k.val = k.val; omega)

theorem read_3 (f : Vec Ideal S1x2048 .f32) (k : Fin 2048) :
    (((((cfg0 a).win 3).blk t).view.read (Elt Ideal) f : Vec Ideal S1x2048 .f32) (ix2 0 k) : EReal) = f (ix2 0 k) := by
  have e : ((cfg0 a).win 3).index t = ![0, 0] := (idx_all t).2.2.2.1
  have r0 := Pipeline.Window.rect_emb_val ((cfg0 a).win 3) t (ix2 0 k) (0 : Fin 2)
  have r1 := Pipeline.Window.rect_emb_val ((cfg0 a).win 3) t (ix2 0 k) (1 : Fin 2)
  rw [e] at r0 r1
  refine congrArg f ?_
  funext q
  refine Fin.ext ?_
  match q with
  | ⟨0, _⟩ => exact r0.trans (by show 0 * 1 + 0 = 0; omega)
  | ⟨1, _⟩ => exact r1.trans (by show 0 * 2048 + k.val = k.val; omega)

theorem read_4 (f : Vec Ideal S1x2048 .f32) (k : Fin 2048) :
    (((((cfg0 a).win 4).blk t).view.read (Elt Ideal) f : Vec Ideal S1x2048 .f32) (ix2 0 k) : EReal) = f (ix2 0 k) := by
  have e : ((cfg0 a).win 4).index t = ![0, 0] := (idx_all t).2.2.2.2.1
  have r0 := Pipeline.Window.rect_emb_val ((cfg0 a).win 4) t (ix2 0 k) (0 : Fin 2)
  have r1 := Pipeline.Window.rect_emb_val ((cfg0 a).win 4) t (ix2 0 k) (1 : Fin 2)
  rw [e] at r0 r1
  refine congrArg f ?_
  funext q
  refine Fin.ext ?_
  match q with
  | ⟨0, _⟩ => exact r0.trans (by show 0 * 1 + 0 = 0; omega)
  | ⟨1, _⟩ => exact r1.trans (by show 0 * 2048 + k.val = k.val; omega)

/-- The output's row and column under an entry of a point's block. -/
theorem emb_5 (r : Fin 128) (n : Fin 2048) : ((((cfg0 a).win 5).blk t).view.emb (ix2 r n) : S8192x2048.Idx) = ix2 (tok t r) n := by
  have e : ((cfg0 a).win 5).index t = ![t.val, 0] := (idx_all t).2.2.2.2.2.1
  have r0 := Pipeline.Window.rect_emb_val ((cfg0 a).win 5) t (ix2 r n) (0 : Fin 2)
  have r1 := Pipeline.Window.rect_emb_val ((cfg0 a).win 5) t (ix2 r n) (1 : Fin 2)
  rw [e] at r0 r1
  funext q
  refine Fin.ext ?_
  match q with
  | ⟨0, _⟩ => exact r0
  | ⟨1, _⟩ => exact r1.trans (by show 0 * 2048 + n.val = n.val; omega)

end Block

/-! ## What the host lines leave the windows -/

variable (m : (ℓ : Loc nD τ sig) → Buf (Elt Ideal) ℓ)

theorem host_mod (c : Dev nD) (p : Fin 2) (k : Fin 2048) : (V m c main_v0 : Vec Ideal S2x6x1x2048 .f32) (ix4 p 5 0 k)
    = (m ((c : Thread nD τ).loc main_arg4) : Vec Ideal S2x12288 .f32) (ix2 p ⟨10240 + k.val, by omega⟩) := by
  have h : (V m c main_v0 : Vec Ideal S2x6x1x2048 .f32) = shapeCast S2x6x1x2048 (m ((c : Thread nD τ).loc main_arg4) : Vec Ideal S2x12288 .f32)
      shapeCasts_S2x12288_S2x6x1x2048 := by
    show StableHlo.after hostOps0 (fun b => m (c, b)) main_v0 = _
    after_results <;> rfl
  rw [h]
  pointwise

theorem host_g (c : Dev nD) (k : Fin 2048) : (V m c main_v1 : Vec Ideal S1x2048 .f32) (ix2 0 k)
    = (m ((c : Thread nD τ).loc main_arg5) : Vec Ideal S2048 .f32) (ix1 k) := by
  have h : (V m c main_v1 : Vec Ideal S1x2048 .f32) = shapeCast S1x2048 (m ((c : Thread nD τ).loc main_arg5) : Vec Ideal S2048 .f32)
      shapeCasts_S2048_S1x2048 := by
    show StableHlo.after hostOps0 (fun b => m (c, b)) main_v1 = _
    after_results <;> rfl
  rw [h]
  pointwise

theorem host_b (c : Dev nD) (k : Fin 2048) : (V m c main_v2 : Vec Ideal S1x2048 .f32) (ix2 0 k)
    = (m ((c : Thread nD τ).loc main_arg6) : Vec Ideal S2048 .f32) (ix1 k) := by
  have h : (V m c main_v2 : Vec Ideal S1x2048 .f32) = shapeCast S1x2048 (m ((c : Thread nD τ).loc main_arg6) : Vec Ideal S2048 .f32)
      shapeCasts_S2048_S1x2048 := by
    show StableHlo.after hostOps0 (fun b => m (c, b)) main_v2 = _
    after_results <;> rfl
  rw [h]
  pointwise

end Cert.CombineIdeal.Own

end
-- ==== Proof.CombineValue.lean ====
/-
  The combination's call over the grid: every point writes 128 tokens' rows, each the layer norm of the residual and the
  gated rows, and the two sides agree.
-/
module

public import proofs.«01_k».proof.Proof.CombinePoint

@[expose] public section

set_option maxRecDepth 16384

noncomputable section

namespace Cert.CombineIdeal.Own

open Cert.CombineIdeal.Gen
open Idealize.ShloMosaic Idealize.ShloMosaic.TcCoe Idealize.SL.Sem
open CombineSpec (rowAt ffn resid mean spec)

/-! ## One point -/

section Row
variable (pos : IVec S32768 32) (ys : Vec Ideal S49152x2048 .f32) (gates : Vec Ideal S8192x128 .f32) (x1 : Vec Ideal S8192x2048 .f32)
  (md : Vec Ideal S2x12288 .f32) (g b : Vec Ideal S2048 .f32)
  (i : grid0.Coords) (t : Fin grid0.N) (hi : (i 0).val = t.val)
  (x3 : Vec Ideal S128x128 .f32) (x4 : Vec Ideal S128x2048 .f32) (x5 : Vec Ideal S1x1x1x2048 .f32) (x6 x7 : Vec Ideal S1x2048 .f32)
include hi

/-- A block of the fetched rows holds the rows of the point's tokens. -/
theorem slab_tok (q : Fin 4) (inb : ∀ a, (![q.val, 0, 0] : Fin 3 → ℕ) a + S1x128x2048.size a ≤ S4x128x2048.size a) (r : Fin 128) (n : Fin 2048) :
    slab i pos ys q.val inb (ix3 0 r n) = ys (ix2 (rowAt pos ⟨4 * (tok t r).val + q.val, by omega⟩) n) := by
  refine (slab_at i pos ys q inb r n).trans (congrArg (fun p : Fin 32768 => ys (ix2 (rowAt pos p) n)) (Fin.ext ?_))
  have ht := point_lt t
  show ((i 0).val * 512 + (4 * r.val + q.val)) % 32768 = 4 * (t.val * 128 + r.val) + q.val
  rw [hi]
  omega

/-- The body's sum of four is the layer's. -/
theorem sum_tok (h3 : ∀ r k, x3 (ix2 r k) = gates (ix2 (tok t r) k)) (r : Fin 128) (n : Fin 2048) :
    k0_pay2 x3 (slab i pos ys 0 inb_S4x128x2048_S1x128x2048_0_0_0) (slab i pos ys 1 inb_S4x128x2048_S1x128x2048_1_0_0)
      (slab i pos ys 2 inb_S4x128x2048_S1x128x2048_2_0_0) (slab i pos ys 3 inb_S4x128x2048_S1x128x2048_3_0_0) (ix2 r n)
      = ffn pos ys gates (tok t r) n := by
  refine (sum4_at x3 _ _ _ _ r n).trans ?_
  have e0 := slab_tok pos ys i t hi 0 inb_S4x128x2048_S1x128x2048_0_0_0 r n
  have e1 := slab_tok pos ys i t hi 1 inb_S4x128x2048_S1x128x2048_1_0_0 r n
  have e2 := slab_tok pos ys i t hi 2 inb_S4x128x2048_S1x128x2048_2_0_0 r n
  have e3 := slab_tok pos ys i t hi 3 inb_S4x128x2048_S1x128x2048_3_0_0 r n
  unfold ffn
  rw [Fin.sum_univ_four]
  have c : ∀ (p : Fin 128) (u v : EReal), u = v → (x3 (ix2 r p) * u : EReal) = v * gates (ix2 (tok t r) p) := by
    intro p u v h
    rw [h3, h]
    exact mul_comm _ _
  exact congrArg₂ (fun y z : EReal => y + z) (congrArg₂ (fun y z : EReal => y + z) (congrArg₂ (fun y z : EReal => y + z)
    (c _ _ _ e0) (c _ _ _ e1)) (c _ _ _ e2)) (c _ _ _ e3)

/-- What the body leaves at a row and a column. -/
theorem out_tok (h3 : ∀ r k, x3 (ix2 r k) = gates (ix2 (tok t r) k)) (h4 : ∀ r k, x4 (ix2 r k) = x1 (ix2 (tok t r) k))
    (h5 : ∀ k : Fin 2048, x5 (ix4 0 0 0 k) = md (ix2 ⟨t.val / 32, by have := point_lt t; omega⟩ ⟨10240 + k.val, by omega⟩))
    (h6 : ∀ k, x6 (ix2 0 k) = g (ix1 k)) (h7 : ∀ k, x7 (ix2 0 k) = b (ix1 k)) (r : Fin 128) (n : Fin 2048) :
    outAfter i pos ys x3 x4 x5 x6 x7 (ix2 r n) = spec pos ys gates x1 md g b (ix2 (tok t r) n) := by
  unfold outAfter
  refine (norm_at _ _ x5 x6 x7 r n).trans ?_
  have hz : rowZ (k0_pay2 x3 (slab i pos ys 0 inb_S4x128x2048_S1x128x2048_0_0_0) (slab i pos ys 1 inb_S4x128x2048_S1x128x2048_1_0_0)
      (slab i pos ys 2 inb_S4x128x2048_S1x128x2048_2_0_0) (slab i pos ys 3 inb_S4x128x2048_S1x128x2048_3_0_0)) (k0_pay3 x4) x5 r
      = resid pos ys gates x1 md (tok t r) := by
    funext k
    unfold rowZ resid
    rw [sum_tok pos ys gates i t hi x3 h3 r k, scale_at, h4, h5]
    refine congrArg (fun p : Fin 2 => (Ideal.ofBits .f32 0x3F9837F0#32 * x1 (ix2 (tok t r) k) + md (ix2 p ⟨10240 + k.val, by omega⟩) * ffn pos ys gates (tok t r) k : EReal))
      (Fin.ext ?_)
    show t.val / 32 = (t.val * 128 + r.val) / 4096
    omega
  rw [hz, h6, h7]
  rfl

end Row

variable (m : (ℓ : Loc nD τ sig) → Buf (Elt Ideal) ℓ)

/-- The arguments. -/
abbrev aPos : IVec S32768 32 := m (((0 : Dev nD) : Thread nD τ).loc main_arg0)
abbrev aYs : Vec Ideal S49152x2048 .f32 := m (((0 : Dev nD) : Thread nD τ).loc main_arg1)
abbrev aGates : Vec Ideal S8192x128 .f32 := m (((0 : Dev nD) : Thread nD τ).loc main_arg2)
abbrev aX : Vec Ideal S8192x2048 .f32 := m (((0 : Dev nD) : Thread nD τ).loc main_arg3)
abbrev aMod : Vec Ideal S2x12288 .f32 := m (((0 : Dev nD) : Thread nD τ).loc main_arg4)
abbrev aG : Vec Ideal S2048 .f32 := m (((0 : Dev nD) : Thread nD τ).loc main_arg5)
abbrev aB : Vec Ideal S2048 .f32 := m (((0 : Dev nD) : Thread nD τ).loc main_arg6)

/-- The result the layer's mathematics gives. -/
abbrev out : Vec Ideal S8192x2048 .f32 := spec (aPos m) (aYs m) (aGates m) (aX m) (aMod m) (aG m) (aB m)

theorem point_out (t : Fin (cfgM m).N) (r : Fin 128) (n : Fin 2048) : outBlk m 0 t (ix2 r n) = out m (ix2 (tok t r) n) := by
  have hp : (tbl m 0 : Vec Ideal S32768 .i32) = aPos m := V_arg m 0 main_arg0 (by simp [isArg])
  have hy : (V m 0 main_arg1 : Vec Ideal S49152x2048 .f32) = aYs m := V_arg m 0 main_arg1 (by simp [isArg])
  unfold outBlk
  rw [hp, hy]
  exact out_tok (aPos m) (aYs m) (aGates m) (aX m) (aMod m) (aG m) (aB m) (grid0.coords t) t (idx_all t).2.2.2.2.2.2
    (iblk m 0 0 t) (iblk m 0 1 t) (iblk m 0 2 t) (iblk m 0 3 t) (iblk m 0 4 t)
    (fun r k => (read_0 (adm m) t _ r k).trans (congrFun (V_arg m 0 main_arg2 (by simp [isArg])) _))
    (fun r k => (read_1 (adm m) t _ r k).trans (congrFun (V_arg m 0 main_arg3 (by simp [isArg])) _))
    (fun k => (read_2 (adm m) t _ k).trans (host_mod m 0 _ k))
    (fun k => (read_3 (adm m) t _ k).trans (host_g m 0 k))
    (fun k => (read_4 (adm m) t _ k).trans (host_b m 0 k)) r n

/-! ## The array -/

/-- The output is written back at every point. -/
theorem flush_5 (a : (pcfg0 (F := Ideal)).Adm) (t : Fin (cfg0 a).N) : ((cfg0 a).win 5).flush t = true :=
  ((fun t => Pipeline.Window.flushOf_reads cc0_transform_6 reads0_5 hreads0_5 0 (by decide) (by decide)
      (Pipeline.Window.sep_of_coord cc0_transform_6 0 0 (fun _ => rfl) (by decide)) (P := 1) (m := 0) (by decide) rfl t :
    ∀ t : Fin grid0.N, Pipeline.Window.flushOf grid0 true cc0_transform_6 t = true ↔ t.val % 1 = 0) t).mpr (Nat.mod_one _)

theorem mem_5 (a : (pcfg0 (F := Ideal)).Adm) (t : Fin (cfg0 a).N) (x : S8192x2048.Idx) (r : Fin 128) (n : Fin 2048) (e : x = ix2 (tok t r) n) :
    x ∈ (((cfg0 a).win 5).blk t).view.set := by
  rw [e, ← emb_5 a t r n]
  exact View.emb_mem_set _ _

theorem cover_5 (a : (pcfg0 (F := Ideal)).Adm) (x : S8192x2048.Idx) :
    ∃ t : Fin (cfg0 a).N, ((cfg0 a).win 5).flush t = true ∧ x ∈ (((cfg0 a).win 5).blk t).view.set := by
  have h0 : (x 0).val < 8192 := (x 0).isLt
  let t : Fin grid0.N := ⟨(x 0).val / 128, by rw [N_0]; omega⟩
  have e : x = ix2 (tok t ⟨(x 0).val % 128, by omega⟩) (x 1) := by
    funext q
    refine Fin.ext ?_
    match q with
    | ⟨0, _⟩ =>
      show (x 0).val = (x 0).val / 128 * 128 + (x 0).val % 128
      omega
    | ⟨1, _⟩ => rfl
  exact ⟨t, flush_5 a t, mem_5 a t x _ _ e⟩

theorem idx_pair (y : S128x2048.Idx) : ∃ (r : Fin 128) (n : Fin 2048), y = ix2 r n :=
  ⟨y 0, y 1, by funext q; match q with | ⟨0, _⟩ => rfl | ⟨1, _⟩ => rfl⟩

theorem array_out : (dats m 0 0).arrAt 5 (cfgM m).N = out m := by
  refine (dats m 0 0).arrAt_eq_of_emb 5 (out m) (fun t hf y => ?_) (cover_5 (adm m))
  obtain ⟨r, n, rfl⟩ := idx_pair y
  refine (congrFun (after_5 m 0 t) (ix2 r n)).trans ?_
  exact (point_out m t r n).trans (congrArg (out m) (emb_5 (adm m) t r n).symm)

end Cert.CombineIdeal.Own

namespace Cert.CombineValue

open Idealize.ShloMosaic Idealize.ShloMosaic.TcCoe Idealize.SL.Sem
open Cert.CombineIdeal Cert.CombineIdeal.Own

/-- The reference's result at positions in range. -/
theorem ref_out (m : (ℓ : Loc Cert.CombineRefIdeal.nD Cert.CombineRefIdeal.τ Cert.CombineRefIdeal.sig) → Buf (Elt Ideal) ℓ)
    (c : Dev Cert.CombineRefIdeal.nD) (pos : IVec S32768 32) (ys : Vec Ideal S49152x2048 .f32) (gates : Vec Ideal S8192x128 .f32)
    (x1 : Vec Ideal S8192x2048 .f32) (md : Vec Ideal S2x12288 .f32) (g b : Vec Ideal S2048 .f32)
    (hR : ∀ n, BitVec.toNat (pos n) < 49152)
    (h0 : m ((c : Thread Cert.CombineRefIdeal.nD Cert.CombineRefIdeal.τ).loc Cert.CombineRefIdeal.main_arg0) = pos)
    (h1 : m ((c : Thread Cert.CombineRefIdeal.nD Cert.CombineRefIdeal.τ).loc Cert.CombineRefIdeal.main_arg1) = ys)
    (h2 : m ((c : Thread Cert.CombineRefIdeal.nD Cert.CombineRefIdeal.τ).loc Cert.CombineRefIdeal.main_arg2) = gates)
    (h3 : m ((c : Thread Cert.CombineRefIdeal.nD Cert.CombineRefIdeal.τ).loc Cert.CombineRefIdeal.main_arg3) = x1)
    (h4 : m ((c : Thread Cert.CombineRefIdeal.nD Cert.CombineRefIdeal.τ).loc Cert.CombineRefIdeal.main_arg4) = md)
    (h5 : m ((c : Thread Cert.CombineRefIdeal.nD Cert.CombineRefIdeal.τ).loc Cert.CombineRefIdeal.main_arg5) = g)
    (h6 : m ((c : Thread Cert.CombineRefIdeal.nD Cert.CombineRefIdeal.τ).loc Cert.CombineRefIdeal.main_arg6) = b) :
    Cert.CombineRefIdeal.Value.res_main_v44 m c = CombineSpec.spec pos ys gates x1 md g b := by
  refine (CombineSpec.res_eq m c).trans ?_
  subst h0 h1 h2 h3 h4 h5 h6
  exact CombineSpec.ref_eq _ hR _ _ _ _ _ _

theorem algebraic : Cert.algebraic_CombineIdeal_CombineRefIdeal := by
  intro m g m' g' hpre hagree
  have hR := range_of _ _ _ _ _ _ _ (hpre 0)
  refine ⟨fun _ => out m, ?_, ?_⟩
  · refine (θ_run defs _ _).mono (fun r h c => ?_) (run_quiescent m g (in_range m hR))
    obtain rfl : c = 0 := Subsingleton.elim _ _
    exact ⟨((h.1 0).1 5).trans (array_out m),
      ((h.1 0).2 main_arg0 (by decide : main_arg0 ∈ Pipeline.restRefs sig spec0)).trans (V_arg m 0 _ (by simp [isArg])),
      ((h.1 0).2 main_arg1 (by decide : main_arg1 ∈ Pipeline.restRefs sig spec0)).trans (V_arg m 0 _ (by simp [isArg])),
      ((h.1 0).1 0).trans (((dats m 0 0).arrAt_in 0 rfl _).trans ((A_eq m 0 0).trans (V_arg m 0 main_arg2 (by simp [isArg])))),
      ((h.1 0).1 1).trans (((dats m 0 0).arrAt_in 1 rfl _).trans ((A_eq m 0 1).trans (V_arg m 0 main_arg3 (by simp [isArg])))),
      ((h.1 0).2 main_arg4 (by decide : main_arg4 ∈ Pipeline.restRefs sig spec0)).trans (V_arg m 0 _ (by simp [isArg])),
      ((h.1 0).2 main_arg5 (by decide : main_arg5 ∈ Pipeline.restRefs sig spec0)).trans (V_arg m 0 _ (by simp [isArg])),
      ((h.1 0).2 main_arg6 (by decide : main_arg6 ∈ Pipeline.restRefs sig spec0)).trans (V_arg m 0 _ (by simp [isArg]))⟩
  · refine (θ_run Cert.CombineRefIdeal.defs _ _).mono (fun r h c => ⟨(h c).1.trans ?_, (h c).2⟩)
      (Cert.CombineRefIdeal.Value.run m' g')
    obtain rfl : c = 0 := Subsingleton.elim _ _
    obtain ⟨e0, e1, e2, e3, e4, e5, e6⟩ := hagree 0
    exact ref_out m' 0 _ _ _ _ _ _ _ hR e0 e1 e2 e3 e4 e5 e6

end Cert.CombineValue

end
-- ==== Proof.AdaValue.lean ====
/-
  The modulation: a tiled product over padded rows on the kernel's side, one product on the reference's.
-/
module

public import proofs.«01_k».proof.Defs
public import proofs.«01_k».proof.Proof.Gen.AdaIdeal.Value
public import proofs.«01_k».proof.Proof.Gen.AdaRefIdeal.Run
public import Idealize.ShloMosaic.Lib.Pipeline.ValueKit
public import Idealize.ShloMosaic.Lib.Pointwise

@[expose] public section

set_option maxRecDepth 16384

noncomputable section

namespace Cert.AdaValue

open Idealize.ShloMosaic Idealize.ShloMosaic.TcCoe Idealize.SL.Sem
open Cert.AdaIdeal Cert.AdaIdeal.Gen

/-- The rows of `c` with rows of zeros after them. -/
def padded (c : Vec Ideal S2x2048 .f32) : Vec Ideal S8x2048 .f32 :=
  Host.scatter scatter_S8x2048_S1_S2x2048_01_n_0_0 (fun _ b => b) (broadcastInDim S8x2048 ![] bcast_S_S8x2048 (constant (F := Ideal) S_ .f32 0x00000000#32))
    (broadcastInDim S1 ![] bcast_S_S1 (constantI S_ 32 0#32)) c

/-- The modulation of rows `x`: their activation's product with the weights, and the bias. -/
def modul (x : Vec Ideal S8x2048 .f32) (w : Vec Ideal S2048x12288 .f32) (b : Vec Ideal S12288 .f32) : Vec Ideal S8x12288 .f32 :=
  fun j => (∑ k : Fin 2048, x (ix2 (j 0) k) * Ideal.logistic (x (ix2 (j 0) k)) * w (ix2 k (j 1)) + b (ix1 (j 1)) : EReal)

/-- The same with the bias as a row, as the kernel's windows read it. -/
def blocked (x : Vec Ideal S8x2048 .f32) (w : Vec Ideal S2048x12288 .f32) (b : Vec Ideal S1x12288 .f32) : Vec Ideal S8x12288 .f32 :=
  fun j => (∑ k : Fin 2048, x (ix2 (j 0) k) * Ideal.logistic (x (ix2 (j 0) k)) * w (ix2 k (j 1)) + b (ix2 0 (j 1)) : EReal)

/-- The reference's term, at any rows, is the modulation of them. -/
theorem ref_eq (x : Vec Ideal S8x2048 .f32) (w : Vec Ideal S2048x12288 .f32) (b : Vec Ideal S12288 .f32) :
    (addf (F := Ideal) (φ := .f32) (Host.dotGeneral (F := Ideal) (φ₁ := .f32) (φ₂ := .f32) Cert.AdaRefIdeal.dot_S8x2048_S2048x12288_S8x12288_1_0_0_1_n_n none
        (mulf (F := Ideal) (φ := .f32) x (Host.divf (F := Ideal) (φ := .f32) (broadcastInDim S8x2048 ![] Cert.AdaRefIdeal.Gen.bcast_S_S8x2048 (constant (F := Ideal) S_ .f32 0x3F800000#32))
          (addf (F := Ideal) (φ := .f32) (broadcastInDim S8x2048 ![] Cert.AdaRefIdeal.Gen.bcast_S_S8x2048 (constant (F := Ideal) S_ .f32 0x3F800000#32))
            (Host.exp (F := Ideal) (φ := .f32) (Host.negf (F := Ideal) (φ := .f32) x))))) w)
      (broadcastInDim S8x12288 ![0, 1] Cert.AdaRefIdeal.Gen.bcast_S1x12288_S8x12288_0_1
        (broadcastInDim S1x12288 ![1] Cert.AdaRefIdeal.Gen.bcast_S12288_S1x12288_1 b)) : Vec Ideal S8x12288 .f32) = modul x w b := by
  funext j
  idx_vars j
  pointwise [modul]
  try rfl

/-- A vector as a row. -/
theorem row_at (b : Vec Ideal S12288 .f32) (k : Fin 12288) : shapeCast S1x12288 b shapeCasts_S12288_S1x12288 (ix2 0 k) = b (ix1 k) :=
  shapeCast_addUnit_apply _ b shapeCasts_S12288_S1x12288 (ix2 0 k) |>.trans (congrArg b (funext fun a => match a with | ⟨0, _⟩ => rfl))

/-- One point's block, element by element. -/
theorem pay_at (x : Vec Ideal S8x2048 .f32) (w : Vec Ideal S2048x1024 .f32) (b : Vec Ideal S1x1024 .f32) (r : Fin 8) (n : Fin 1024) :
    k0_pay1 x w b (ix2 r n) = (∑ k : Fin 2048, x (ix2 r k) * Ideal.logistic (x (ix2 r k)) * w (ix2 k n) + b (ix2 0 n) : EReal) := by
  pointwise [k0_pay1]

/-! ## The windows' blocks -/

theorem idx_all : ∀ t : Fin grid0.N, win0_0.index t = ![0, 0] ∧ win0_1.index t = ![0, t.val]
    ∧ win0_2.index t = ![0, t.val] ∧ win0_3.index t = ![0, t.val] := by decide +kernel

theorem point_lt (t : Fin grid0.N) : t.val < 12 := Nat.lt_of_lt_of_eq t.isLt (by decide +kernel)

/-- The column of the result at a column of a point's block. -/
def col (t : Fin grid0.N) (n : Fin 1024) : Fin 12288 := ⟨t.val * 1024 + n.val, by have := point_lt t; omega⟩

section Block
variable (t : Fin cfg0.N)

theorem read_0 (f : Vec Ideal S8x2048 .f32) (r : Fin 8) (k : Fin 2048) :
    ((((cfg0.win 0).blk t).view.read (Elt Ideal) f : Vec Ideal S8x2048 .f32) (ix2 r k) : EReal) = f (ix2 r k) := by
  have e : (cfg0.win 0).index t = ![0, 0] := (idx_all t).1
  have r0 := Pipeline.Window.rect_emb_val (cfg0.win 0) t (ix2 r k) (0 : Fin 2)
  have r1 := Pipeline.Window.rect_emb_val (cfg0.win 0) t (ix2 r k) (1 : Fin 2)
  rw [e] at r0 r1
  refine congrArg f ?_
  funext q
  refine Fin.ext ?_
  match q with
  | ⟨0, _⟩ => exact r0.trans (by show 0 * 8 + r.val = r.val; omega)
  | ⟨1, _⟩ => exact r1.trans (by show 0 * 2048 + k.val = k.val; omega)

theorem read_1 (f : Vec Ideal S2048x12288 .f32) (r : Fin 2048) (k : Fin 1024) :
    ((((cfg0.win 1).blk t).view.read (Elt Ideal) f : Vec Ideal S2048x1024 .f32) (ix2 r k) : EReal) = f (ix2 r (col t k)) := by
  have e : (cfg0.win 1).index t = ![0, t.val] := (idx_all t).2.1
  have r0 := Pipeline.Window.rect_emb_val (cfg0.win 1) t (ix2 r k) (0 : Fin 2)
  have r1 := Pipeline.Window.rect_emb_val (cfg0.win 1) t (ix2 r k) (1 : Fin 2)
  rw [e] at r0 r1
  refine congrArg f ?_
  funext q
  refine Fin.ext ?_
  match q with
  | ⟨0, _⟩ => exact r0.trans (by show 0 * 2048 + r.val = r.val; omega)
  | ⟨1, _⟩ => exact r1

theorem read_2 (f : Vec Ideal S1x12288 .f32) (r : Fin 1) (k : Fin 1024) :
    ((((cfg0.win 2).blk t).view.read (Elt Ideal) f : Vec Ideal S1x1024 .f32) (ix2 r k) : EReal) = f (ix2 r (col t k)) := by
  have e : (cfg0.win 2).index t = ![0, t.val] := (idx_all t).2.2.1
  have r0 := Pipeline.Window.rect_emb_val (cfg0.win 2) t (ix2 r k) (0 : Fin 2)
  have r1 := Pipeline.Window.rect_emb_val (cfg0.win 2) t (ix2 r k) (1 : Fin 2)
  rw [e] at r0 r1
  refine congrArg f ?_
  funext q
  refine Fin.ext ?_
  match q with
  | ⟨0, _⟩ => exact r0.trans (by show 0 * 1 + r.val = r.val; omega)
  | ⟨1, _⟩ => exact r1

theorem emb_3 (r : Fin 8) (k : Fin 1024) : (((cfg0.win 3).blk t).view.emb (ix2 r k) : S8x12288.Idx) = ix2 r (col t k) := by
  have e : (cfg0.win 3).index t = ![0, t.val] := (idx_all t).2.2.2
  have r0 := Pipeline.Window.rect_emb_val (cfg0.win 3) t (ix2 r k) (0 : Fin 2)
  have r1 := Pipeline.Window.rect_emb_val (cfg0.win 3) t (ix2 r k) (1 : Fin 2)
  rw [e] at r0 r1
  funext q
  refine Fin.ext ?_
  match q with
  | ⟨0, _⟩ => exact r0.trans (by show 0 * 8 + r.val = r.val; omega)
  | ⟨1, _⟩ => exact r1

end Block

variable (m : (ℓ : Loc nD τ sig) → Buf (Elt Ideal) ℓ)

theorem host_c (c : Dev nD) : (V m c main_v2 : Vec Ideal S8x2048 .f32) = padded (m ((c : Thread nD τ).loc main_arg0)) := by
  show StableHlo.after hostOps0 (fun b => m (c, b)) main_v2 = _
  after_results <;> rfl

theorem host_b (c : Dev nD) (k : Fin 12288) : (V m c main_v3 : Vec Ideal S1x12288 .f32) (ix2 0 k)
    = (m ((c : Thread nD τ).loc main_arg2) : Vec Ideal S12288 .f32) (ix1 k) := by
  have h : (V m c main_v3 : Vec Ideal S1x12288 .f32) = shapeCast S1x12288 (m ((c : Thread nD τ).loc main_arg2) : Vec Ideal S12288 .f32)
      shapeCasts_S12288_S1x12288 := by
    show StableHlo.after hostOps0 (fun b => m (c, b)) main_v3 = _
    after_results <;> rfl
  rw [h]
  exact row_at _ k

/-- After the run the result array holds the modulation of the arrays the windows read, 1024 columns per point. -/
theorem blocks (c : Dev nD) : (dats m 0 c).arrAt 3 cfg0.N = blocked (V m c main_v2) (V m c main_arg1) (V m c main_v3) := by
  refine (dats m 0 c).arrAt_eq_of_covers 3 _ (by decide +kernel) fun t hf y => ?_
  have e : y = ix2 (y 0) (y 1) := by funext q; match q with | ⟨0, _⟩ => rfl | ⟨1, _⟩ => rfl
  rw [e]
  generalize y 0 = r
  generalize y 1 = n
  blk_simp
  rw [after0_3]
  frame_out
  refine (pay_at _ _ _ r n).trans (Eq.trans ?_ (congrArg (blocked (V m c main_v2) (V m c main_arg1) (V m c main_v3)) (emb_3 t r n)).symm)
  unfold blocked
  refine congrArg₂ (fun y z : EReal => y + z) (Finset.sum_congr rfl fun k _ => congrArg₂ (fun y z : EReal => y * Ideal.logistic y * z) ?_ ?_) ?_
  · exact read_0 t (V m c main_v2) r k
  · exact read_1 t (V m c main_arg1) k n
  · exact read_2 t (V m c main_v3) 0 n

theorem final (c : Dev nD) : (dats m 0 c).arrAt 3 cfg0.N
    = modul (padded (m ((c : Thread nD τ).loc main_arg0))) (m ((c : Thread nD τ).loc main_arg1)) (m ((c : Thread nD τ).loc main_arg2)) := by
  rw [blocks, V_main_arg1, host_c]
  funext j
  exact congrArg (fun z : EReal => _ + z) (host_b m c (j 1))

/-- The kernel's result and the reference's are the same modulation. -/
theorem algebraic : Cert.algebraic_AdaIdeal_AdaRefIdeal := by
  intro m g m' g' _ hagree
  refine ⟨fun c => modul (padded (m ((c : Thread nD τ).loc main_arg0))) (m ((c : Thread nD τ).loc main_arg1)) (m ((c : Thread nD τ).loc main_arg2)), ?_, ?_⟩
  · exact (θ_run defs _ _).mono (fun r h c => ⟨(h c).1.trans (final m c), (h c).2⟩)
      (Cert.AdaIdeal.Value.run_blocks m g)
  · refine (θ_run Cert.AdaRefIdeal.defs _ _).mono (fun r h c => ⟨(h c).1.trans ?_, (h c).2⟩)
      (Cert.AdaRefIdeal.Value.run m' g')
    rw [(hagree c).1, (hagree c).2.1, (hagree c).2.2]
    exact ref_eq _ _ _

end Cert.AdaValue

end
-- ==== Proof.LnModRef.lean ====
/-
  What the first norm's call computes, element by element, and the reference's side: a row normalised, scaled and shifted,
  and its products with the gates' columns.
-/
module

public import proofs.«01_k».proof.Defs
public import proofs.«01_k».proof.Proof.Gen.LnModRefIdeal.Run
public import Idealize.ShloMosaic.Lib.Pipeline.ValueKit
public import Idealize.ShloMosaic.Lib.Pointwise

@[expose] public section

set_option maxRecDepth 16384

noncomputable section

namespace Cert.LnModRef

open Idealize.ShloMosaic Idealize.ShloMosaic.TcCoe Idealize.SL.Sem
open Cert.LnModRefIdeal Cert.LnModRefIdeal.Gen

/-! ## The layer's mathematics -/

/-- The mean of a row. -/
def mean (z : Fin 2048 → EReal) : EReal := Ideal.div (∑ k, z k) (Ideal.ofBits .f32 0x45000000#32)

/-- A row normalised, scaled and shifted. -/
def modRow (z sc sh : Fin 2048 → EReal) (n : Fin 2048) : EReal :=
  (z n - mean z) * Ideal.rsqrt (mean (fun k => (z k - mean z) * (z k - mean z)) + Ideal.ofBits .f32 0x3727C5AC#32)
    * (Ideal.ofBits .f32 0x3F800000#32 + sc n) + sh n

/-- The modulated row of a token: the shift is the modulation's first group of columns, the scale its second. -/
def hrow (x : Vec Ideal S2x4096x2048 .f32) (md : Vec Ideal S2x12288 .f32) (p : Fin 2) (r : Fin 4096) : Fin 2048 → EReal :=
  modRow (fun k => x (ix3 p r k)) (fun k => md (ix2 p ⟨2048 + k.val, by omega⟩)) (fun k => md (ix2 p ⟨k.val, by omega⟩))

/-- A column of the gates' weights: 16 columns, 64 columns, and zeros. -/
def wcol (w : Vec Ideal S2048x22608 .f32) (k : Fin 2048) (n : Fin 128) : EReal :=
  if n.val < 16 then w (ix2 k ⟨4096 + n.val, by omega⟩) else if n.val < 80 then w (ix2 k ⟨14336 + n.val, by omega⟩) else 0

/-- The modulated rows. -/
def hOut (x : Vec Ideal S2x4096x2048 .f32) (md : Vec Ideal S2x12288 .f32) : Vec Ideal S2x4096x2048 .bf16 :=
  fun j => hrow x md (j 0) (j 1) (j 2)

/-- Their products with the gates' columns. -/
def gOut (x : Vec Ideal S2x4096x2048 .f32) (md : Vec Ideal S2x12288 .f32) (w : Vec Ideal S2048x22608 .f32) : Vec Ideal S2x4096x128 .f32 :=
  fun j => (∑ k : Fin 2048, hrow x md (j 0) (j 1) k * wcol w k (j 2) : EReal)

/-! ## The reference's terms -/

/-- The reference's mean over the columns. -/
def rMean (z : Vec Ideal S2x4096x2048 .f32) : Vec Ideal S2x4096x1 .f32 :=
  Host.divf (F := Ideal) (φ := .f32) (broadcastInDim S2x4096x1 ![0, 1] bcast_S2x4096_S2x4096x1_0_1
      (Host.reduceAdd z (constant S_ .f32 0x00000000#32) reducesTo_S2x4096x2048_S2x4096_d2 h_S_))
    (broadcastInDim S2x4096x1 ![] bcast_S_S2x4096x1 (constant (F := Ideal) S_ .f32 0x45000000#32))

/-- The reference's deviation from the mean. -/
def rDev (z : Vec Ideal S2x4096x2048 .f32) : Vec Ideal S2x4096x2048 .f32 :=
  subf (F := Ideal) (φ := .f32) z (broadcastInDim S2x4096x2048 ![0, 1, 2] bcast_S2x4096x1_S2x4096x2048_0_1_2 (rMean z))

/-- The reference's rows from a deviation. -/
def rOut (d : Vec Ideal S2x4096x2048 .f32) (md : Vec Ideal S2x12288 .f32) : Vec Ideal S2x4096x2048 .f32 :=
  addf (F := Ideal) (φ := .f32) (mulf (mulf d (broadcastInDim S2x4096x2048 ![0, 1, 2] bcast_S2x4096x1_S2x4096x2048_0_1_2
      (Host.rsqrt (addf (rMean (mulf (F := Ideal) (φ := .f32) d d)) (broadcastInDim S2x4096x1 ![] bcast_S_S2x4096x1 (constant S_ .f32 0x3727C5AC#32))))))
      (broadcastInDim S2x4096x2048 ![0, 1, 2] bcast_S2x1x2048_S2x4096x2048_0_1_2 (addf (broadcastInDim S2x1x2048 ![] bcast_S_S2x1x2048 (constant S_ .f32 0x3F800000#32))
        (broadcastInDim S2x1x2048 ![0, 2] bcast_S2x2048_S2x1x2048_0_2 (extractStridedSlice S2x2048 ![0, 2048] md slices_S2x12288_S2x2048_0_2048)))))
    (broadcastInDim S2x4096x2048 ![0, 1, 2] bcast_S2x1x2048_S2x4096x2048_0_1_2
      (broadcastInDim S2x1x2048 ![0, 2] bcast_S2x2048_S2x1x2048_0_2 (extractStridedSlice S2x2048 ![0, 0] md slices_S2x12288_S2x2048_0_0)))

/-- The gates' columns of a projection, followed by zeros. -/
def rCols (q : Vec Ideal S2x4096x22608 .f32) : Vec Ideal S2x4096x128 .f32 :=
  concatenate S2x4096x128 2 [⟨S2x4096x80, (concatenate S2x4096x80 2
      [⟨S2x4096x16, (extractStridedSlice S2x4096x16 ![0, 0, 4096] q slices_S2x4096x22608_S2x4096x16_0_0_4096 : Vec Ideal S2x4096x16 .f32)⟩,
        ⟨S2x4096x64, (extractStridedSlice S2x4096x64 ![0, 0, 14352] q slices_S2x4096x22608_S2x4096x64_0_0_14352 : Vec Ideal S2x4096x64 .f32)⟩]
      concatenates_S2x4096x16_S2x4096x64_S2x4096x80_d2 : Vec Ideal S2x4096x80 .f32)⟩,
    ⟨S2x4096x48, (broadcastInDim S2x4096x48 ![] bcast_S_S2x4096x48 (constant (F := Ideal) S_ .f32 0x00000000#32) : Vec Ideal S2x4096x48 .f32)⟩]
    concatenates_S2x4096x80_S2x4096x48_S2x4096x128_d2

/-- The reference's projection of rows. -/
def rProj (h : Vec Ideal S2x4096x2048 .f32) (w : Vec Ideal S2048x22608 .f32) : Vec Ideal S2x4096x22608 .f32 :=
  Host.dotGeneral (F := Ideal) (φ₁ := .f32) (φ₂ := .f32) dot_S2x4096x2048_S2048x22608_S2x4096x22608_2_0_01_1_n_n none h w

theorem res_eq (m : (ℓ : Loc nD τ sig) → Buf (Elt Ideal) ℓ) (c : Dev nD) : Value.res_main_v32 m c
    = rCols (rProj (rOut (rDev (m ((c : Thread nD τ).loc main_arg0))) (m ((c : Thread nD τ).loc main_arg1))) (m ((c : Thread nD τ).loc main_arg2))) := rfl

theorem mean_at (z : Vec Ideal S2x4096x2048 .f32) (p : Fin 2) (r : Fin 4096) : rMean z (ix3 p r 0) = mean (fun k => z (ix3 p r k)) := by
  pointwise [rMean, mean]

theorem dev_at (z : Vec Ideal S2x4096x2048 .f32) (p : Fin 2) (r : Fin 4096) (n : Fin 2048) :
    rDev z (ix3 p r n) = (z (ix3 p r n) - mean (fun k => z (ix3 p r k)) : EReal) := by
  pointwise [rDev]
  rw [mean_at]

theorem out_at (d : Vec Ideal S2x4096x2048 .f32) (md : Vec Ideal S2x12288 .f32) (p : Fin 2) (r : Fin 4096) (n : Fin 2048) :
    rOut d md (ix3 p r n) = (d (ix3 p r n) * Ideal.rsqrt (rMean (mulf (F := Ideal) (φ := .f32) d d) (ix3 p r 0) + Ideal.ofBits .f32 0x3727C5AC#32)
      * (Ideal.ofBits .f32 0x3F800000#32 + md (ix2 p ⟨2048 + n.val, by omega⟩)) + md (ix2 p ⟨n.val, by omega⟩) : EReal) := by
  pointwise [rOut]

/-- The reference's rows are the layer's. -/
theorem row_eq (x : Vec Ideal S2x4096x2048 .f32) (md : Vec Ideal S2x12288 .f32) (p : Fin 2) (r : Fin 4096) (n : Fin 2048) :
    rOut (rDev x) md (ix3 p r n) = hrow x md p r n := by
  refine (out_at _ md p r n).trans ?_
  have hm : rMean (mulf (F := Ideal) (φ := .f32) (rDev x) (rDev x)) (ix3 p r 0)
      = mean (fun k => ((x (ix3 p r k) - mean (fun k => x (ix3 p r k))) * (x (ix3 p r k) - mean (fun k => x (ix3 p r k))) : EReal)) :=
    (mean_at _ _ _).trans (congrArg mean (funext fun k => congrArg (fun z : EReal => z * z) (dev_at x p r k)))
  rw [dev_at, hm]
  rfl

theorem proj_at (h : Vec Ideal S2x4096x2048 .f32) (w : Vec Ideal S2048x22608 .f32) (p : Fin 2) (r : Fin 4096) (n : Fin 22608) :
    rProj h w (ix3 p r n) = (∑ k : Fin 2048, h (ix3 p r k) * w (ix2 k n) : EReal) := by
  unfold rProj
  pointwise

theorem cols_at (q : Vec Ideal S2x4096x22608 .f32) (p : Fin 2) (r : Fin 4096) (n : Fin 128) :
    rCols q (ix3 p r n) = (if n.val < 16 then q (ix3 p r ⟨4096 + n.val, by omega⟩) else if n.val < 80 then q (ix3 p r ⟨14336 + n.val, by omega⟩) else 0 : EReal) := by
  unfold rCols
  pointwise
  by_cases h1 : n.val < 16
  · rw [dif_pos (by omega : n.val < 80), dif_pos h1, if_pos h1]
  · rw [if_neg h1]
    by_cases h2 : n.val < 80
    · rw [dif_pos h2, dif_neg h1, if_pos h2]
      exact congrArg (fun i : Fin 22608 => q (ix3 p r i)) (Fin.ext (by show 14352 + (n.val - 16) = 14336 + n.val; omega))
    · rw [dif_neg h2, if_neg h2]

/-- The reference's gates' columns are its rows' products with the picked columns. -/
theorem gate_at (h : Vec Ideal S2x4096x2048 .f32) (w : Vec Ideal S2048x22608 .f32) (p : Fin 2) (r : Fin 4096) (n : Fin 128) :
    rCols (rProj h w) (ix3 p r n) = (∑ k : Fin 2048, h (ix3 p r k) * wcol w k n : EReal) := by
  rw [cols_at]
  unfold wcol
  split
  · exact proj_at h w p r _
  · split
    · exact proj_at h w p r _
    · exact (Finset.sum_eq_zero fun k _ => mul_zero (h (ix3 p r k) : EReal)).symm

end Cert.LnModRef

end
-- ==== Proof.LnModValue.lean ====
/-
  The first norm, modulated, and its product with the gates' columns.
-/
module

public import proofs.«01_k».proof.Defs
public import proofs.«01_k».proof.Proof.Gen.LnModIdeal.Value
public import proofs.«01_k».proof.Proof.LnModRef
public import Idealize.ShloMosaic.Lib.Pipeline.ValueKit
public import Idealize.ShloMosaic.Lib.Pointwise

@[expose] public section

set_option maxRecDepth 16384

noncomputable section

namespace Cert.LnModValue

open Idealize.ShloMosaic Idealize.ShloMosaic.TcCoe Idealize.SL.Sem
open Cert.LnModIdeal Cert.LnModIdeal.Gen
open LnModRef (mean modRow hrow wcol hOut gOut)

/-! ## The payloads -/

theorem row_at (x : Vec Ideal S1x512x2048 .f32) (sc sh : Vec Ideal S1x1x1x2048 .f32) (r : Fin 512) (n : Fin 2048) :
    k0_pay2 x sc sh (ix2 r n) = modRow (fun k => x (ix3 0 r k)) (fun k => sc (ix4 0 0 0 k)) (fun k => sh (ix4 0 0 0 k)) n := by
  pointwise [k0_pay2, modRow, mean]

theorem h_at (x : Vec Ideal S1x512x2048 .f32) (sc sh : Vec Ideal S1x1x1x2048 .f32) (r : Fin 512) (n : Fin 2048) :
    (k0_pay3 x sc sh (ix3 0 r n) : EReal) = k0_pay2 x sc sh (ix2 r n) := by
  unfold k0_pay3
  generalize k0_pay2 x sc sh = h
  pointwise

theorem g_at (h : FVec Ideal S512x2048 .f32) (w : FVec Ideal S2048x128 .f32) (r : Fin 512) (n : Fin 128) :
    k0_pay1 h w (constant (F := Ideal) S512x128 .f32 0x00000000#32) (ix3 0 r n) = (∑ k : Fin 2048, h (ix2 r k) * w (ix2 k n) : EReal) := by
  pointwise [k0_pay1]

theorem pay4_at (w : Vec Ideal S2048x128 .f32) (k : Fin 2048) (n : Fin 128) : k0_pay4 w (ix2 k n) = w (ix2 k n) := by
  pointwise [k0_pay4]

/-! ## The windows' blocks -/

theorem idx_all : ∀ t : Fin grid0.N, win0_0.index t = ![t.val / 8, t.val % 8, 0] ∧ win0_1.index t = ![t.val / 8, 0, 0, 0]
    ∧ win0_2.index t = ![t.val / 8, 1, 0, 0] ∧ win0_3.index t = ![0, 0]
    ∧ win0_4.index t = ![t.val / 8, t.val % 8, 0] ∧ win0_5.index t = ![t.val / 8, t.val % 8, 0] := by decide +kernel

theorem point_lt (t : Fin grid0.N) : t.val < 16 := Nat.lt_of_lt_of_eq t.isLt (by decide +kernel)

/-- The sequence of a point, and the place in it of a row of the point's block. -/
def seq (t : Fin grid0.N) : Fin 2 := ⟨t.val / 8, by have := point_lt t; omega⟩
def place (t : Fin grid0.N) (r : Fin 512) : Fin 4096 := ⟨t.val % 8 * 512 + r.val, by omega⟩

section Block
variable (t : Fin cfg0.N)

theorem read_0 (f : Vec Ideal S2x4096x2048 .f32) (r : Fin 512) (k : Fin 2048) :
    ((((cfg0.win 0).blk t).view.read (Elt Ideal) f : Vec Ideal S1x512x2048 .f32) (ix3 0 r k) : EReal) = f (ix3 (seq t) (place t r) k) := by
  have e : (cfg0.win 0).index t = ![t.val / 8, t.val % 8, 0] := (idx_all t).1
  have r0 := Pipeline.Window.rect_emb_val (cfg0.win 0) t (ix3 0 r k) (0 : Fin 3)
  have r1 := Pipeline.Window.rect_emb_val (cfg0.win 0) t (ix3 0 r k) (1 : Fin 3)
  have r2 := Pipeline.Window.rect_emb_val (cfg0.win 0) t (ix3 0 r k) (2 : Fin 3)
  rw [e] at r0 r1 r2
  refine congrArg f ?_
  funext q
  refine Fin.ext ?_
  match q with
  | ⟨0, _⟩ => exact r0.trans (by show t.val / 8 * 1 + 0 = t.val / 8; omega)
  | ⟨1, _⟩ => exact r1.trans (by show t.val % 8 * 512 + r.val = t.val % 8 * 512 + r.val; omega)
  | ⟨2, _⟩ => exact r2.trans (by show 0 * 2048 + k.val = k.val; omega)

theorem read_1 (f : Vec Ideal S2x6x1x2048 .f32) (k : Fin 2048) :
    ((((cfg0.win 1).blk t).view.read (Elt Ideal) f : Vec Ideal S1x1x1x2048 .f32) (ix4 0 0 0 k) : EReal) = f (ix4 (seq t) 0 0 k) := by
  have e : (cfg0.win 1).index t = ![t.val / 8, 0, 0, 0] := (idx_all t).2.1
  have r0 := Pipeline.Window.rect_emb_val (cfg0.win 1) t (ix4 0 0 0 k) (0 : Fin 4)
  have r1 := Pipeline.Window.rect_emb_val (cfg0.win 1) t (ix4 0 0 0 k) (1 : Fin 4)
  have r2 := Pipeline.Window.rect_emb_val (cfg0.win 1) t (ix4 0 0 0 k) (2 : Fin 4)
  have r3 := Pipeline.Window.rect_emb_val (cfg0.win 1) t (ix4 0 0 0 k) (3 : Fin 4)
  rw [e] at r0 r1 r2 r3
  refine congrArg f ?_
  funext q
  refine Fin.ext ?_
  match q with
  | ⟨0, _⟩ => exact r0.trans (by show t.val / 8 * 1 + 0 = t.val / 8; omega)
  | ⟨1, _⟩ => exact r1.trans (by show 0 * 1 + 0 = 0; omega)
  | ⟨2, _⟩ => exact r2.trans (by show 0 * 1 + 0 = 0; omega)
  | ⟨3, _⟩ => exact r3.trans (by show 0 * 2048 + k.val = k.val; omega)

theorem read_2 (f : Vec Ideal S2x6x1x2048 .f32) (k : Fin 2048) :
    ((((cfg0.win 2).blk t).view.read (Elt Ideal) f : Vec Ideal S1x1x1x2048 .f32) (ix4 0 0 0 k) : EReal) = f (ix4 (seq t) 1 0 k) := by
  have e : (cfg0.win 2).index t = ![t.val / 8, 1, 0, 0] := (idx_all t).2.2.1
  have r0 := Pipeline.Window.rect_emb_val (cfg0.win 2) t (ix4 0 0 0 k) (0 : Fin 4)
  have r1 := Pipeline.Window.rect_emb_val (cfg0.win 2) t (ix4 0 0 0 k) (1 : Fin 4)
  have r2 := Pipeline.Window.rect_emb_val (cfg0.win 2) t (ix4 0 0 0 k) (2 : Fin 4)
  have r3 := Pipeline.Window.rect_emb_val (cfg0.win 2) t (ix4 0 0 0 k) (3 : Fin 4)
  rw [e] at r0 r1 r2 r3
  refine congrArg f ?_
  funext q
  refine Fin.ext ?_
  match q with
  | ⟨0, _⟩ => exact r0.trans (by show t.val / 8 * 1 + 0 = t.val / 8; omega)
  | ⟨1, _⟩ => exact r1.trans (by show 1 * 1 + 0 = 1; omega)
  | ⟨2, _⟩ => exact r2.trans (by show 0 * 1 + 0 = 0; omega)
  | ⟨3, _⟩ => exact r3.trans (by show 0 * 2048 + k.val = k.val; omega)

theorem read_3 (f : Vec Ideal S2048x128 .f32) (k : Fin 2048) (n : Fin 128) :
    ((((cfg0.win 3).blk t).view.read (Elt Ideal) f : Vec Ideal S2048x128 .f32) (ix2 k n) : EReal) = f (ix2 k n) := by
  have e : (cfg0.win 3).index t = ![0, 0] := (idx_all t).2.2.2.1
  have r0 := Pipeline.Window.rect_emb_val (cfg0.win 3) t (ix2 k n) (0 : Fin 2)
  have r1 := Pipeline.Window.rect_emb_val (cfg0.win 3) t (ix2 k n) (1 : Fin 2)
  rw [e] at r0 r1
  refine congrArg f ?_
  funext q
  refine Fin.ext ?_
  match q with
  | ⟨0, _⟩ => exact r0.trans (by show 0 * 2048 + k.val = k.val; omega)
  | ⟨1, _⟩ => exact r1.trans (by show 0 * 128 + n.val = n.val; omega)

theorem emb_4 (r : Fin 512) (k : Fin 2048) : (((cfg0.win 4).blk t).view.emb (ix3 0 r k) : S2x4096x2048.Idx) = ix3 (seq t) (place t r) k := by
  have e : (cfg0.win 4).index t = ![t.val / 8, t.val % 8, 0] := (idx_all t).2.2.2.2.1
  have r0 := Pipeline.Window.rect_emb_val (cfg0.win 4) t (ix3 0 r k) (0 : Fin 3)
  have r1 := Pipeline.Window.rect_emb_val (cfg0.win 4) t (ix3 0 r k) (1 : Fin 3)
  have r2 := Pipeline.Window.rect_emb_val (cfg0.win 4) t (ix3 0 r k) (2 : Fin 3)
  rw [e] at r0 r1 r2
  funext q
  refine Fin.ext ?_
  match q with
  | ⟨0, _⟩ => exact r0.trans (by show t.val / 8 * 1 + 0 = t.val / 8; omega)
  | ⟨1, _⟩ => exact r1.trans (by show t.val % 8 * 512 + r.val = t.val % 8 * 512 + r.val; omega)
  | ⟨2, _⟩ => exact r2.trans (by show 0 * 2048 + k.val = k.val; omega)

theorem emb_5 (r : Fin 512) (k : Fin 128) : (((cfg0.win 5).blk t).view.emb (ix3 0 r k) : S2x4096x128.Idx) = ix3 (seq t) (place t r) k := by
  have e : (cfg0.win 5).index t = ![t.val / 8, t.val % 8, 0] := (idx_all t).2.2.2.2.2
  have r0 := Pipeline.Window.rect_emb_val (cfg0.win 5) t (ix3 0 r k) (0 : Fin 3)
  have r1 := Pipeline.Window.rect_emb_val (cfg0.win 5) t (ix3 0 r k) (1 : Fin 3)
  have r2 := Pipeline.Window.rect_emb_val (cfg0.win 5) t (ix3 0 r k) (2 : Fin 3)
  rw [e] at r0 r1 r2
  funext q
  refine Fin.ext ?_
  match q with
  | ⟨0, _⟩ => exact r0.trans (by show t.val / 8 * 1 + 0 = t.val / 8; omega)
  | ⟨1, _⟩ => exact r1.trans (by show t.val % 8 * 512 + r.val = t.val % 8 * 512 + r.val; omega)
  | ⟨2, _⟩ => exact r2.trans (by show 0 * 128 + k.val = k.val; omega)

end Block

/-! ## What the host lines leave the windows -/

variable (m : (ℓ : Loc nD τ sig) → Buf (Elt Ideal) ℓ)

/-- The arguments. -/
abbrev aX (c : Dev nD) : Vec Ideal S2x4096x2048 .f32 := m ((c : Thread nD τ).loc main_arg0)
abbrev aMod (c : Dev nD) : Vec Ideal S2x12288 .f32 := m ((c : Thread nD τ).loc main_arg1)
abbrev aW (c : Dev nD) : Vec Ideal S2048x22608 .f32 := m ((c : Thread nD τ).loc main_arg2)

/-- The modulation by groups, read in its first two groups. -/
theorem group_0 (md : Vec Ideal S2x12288 .f32) (p : Fin 2) (k : Fin 2048) :
    shapeCast S2x6x1x2048 md shapeCasts_S2x12288_S2x6x1x2048 (ix4 p 0 0 k) = md (ix2 p ⟨k.val, by omega⟩) := by
  pointwise

theorem group_1 (md : Vec Ideal S2x12288 .f32) (p : Fin 2) (k : Fin 2048) :
    shapeCast S2x6x1x2048 md shapeCasts_S2x12288_S2x6x1x2048 (ix4 p 1 0 k) = md (ix2 p ⟨2048 + k.val, by omega⟩) := by
  pointwise

theorem host_mod (c : Dev nD) : (V m c main_v0 : Vec Ideal S2x6x1x2048 .f32) = shapeCast S2x6x1x2048 (aMod m c) shapeCasts_S2x12288_S2x6x1x2048 := by
  show StableHlo.after hostOps0 (fun b => m (c, b)) main_v0 = _
  after_results <;> rfl

/-- The picked columns. -/
def picked (w : Vec Ideal S2048x22608 .f32) : Vec Ideal S2048x128 .f32 :=
  concatenate S2048x128 1
    [⟨S2048x16, (extractStridedSlice S2048x16 ![0, 4096] w slices_S2048x22608_S2048x16_0_4096 : Vec Ideal S2048x16 .f32)⟩,
      ⟨S2048x64, (extractStridedSlice S2048x64 ![0, 14352] w slices_S2048x22608_S2048x64_0_14352 : Vec Ideal S2048x64 .f32)⟩,
      ⟨S2048x48, (broadcastInDim S2048x48 ![] bcast_S_S2048x48 (constant (F := Ideal) S_ .f32 0x00000000#32) : Vec Ideal S2048x48 .f32)⟩]
    concatenates_S2048x16_S2048x64_S2048x48_S2048x128_d1

theorem host_w (c : Dev nD) : (V m c main_v4 : Vec Ideal S2048x128 .f32) = picked (aW m c) := by
  show StableHlo.after hostOps0 (fun b => m (c, b)) main_v4 = _
  after_results <;> rfl

theorem picked_at (w : Vec Ideal S2048x22608 .f32) (k : Fin 2048) (n : Fin 128) : picked w (ix2 k n) = wcol w k n := by
  pointwise [picked, wcol]
  split
  · rfl
  · rename_i h1
    by_cases h2 : n.val < 80
    · rw [dif_pos (by omega : n.val - 16 < 64), if_pos h2]
      exact congrArg (fun i : Fin 22608 => w (ix2 k i)) (Fin.ext (by show 14352 + (n.val - 16) = 14336 + n.val; omega))
    · rw [dif_neg (by omega : ¬ n.val - 16 < 64), if_neg h2]

/-! ## The arrays after the run -/

/-- The body's row at a point is the layer's. -/
theorem row_tok (c : Dev nD) (t : Fin cfg0.N) (r : Fin 512) (n : Fin 2048) :
    k0_pay2 (iblk m c 0 t) (iblk m c 2 t) (iblk m c 1 t) (ix2 r n) = hrow (aX m c) (aMod m c) (seq t) (place t r) n := by
  refine (row_at _ _ _ r n).trans ?_
  have hx : (fun k : Fin 2048 => (iblk m c 0 t : Vec Ideal S1x512x2048 .f32) (ix3 0 r k)) = fun k => aX m c (ix3 (seq t) (place t r) k) :=
    funext fun k => (read_0 t _ r k).trans (congrFun (V_main_arg0 m c) _)
  have hs : (fun k : Fin 2048 => (iblk m c 2 t : Vec Ideal S1x1x1x2048 .f32) (ix4 0 0 0 k)) = fun k => aMod m c (ix2 (seq t) ⟨2048 + k.val, by omega⟩) :=
    funext fun k => (read_2 t _ k).trans ((congrFun (host_mod m c) _).trans (group_1 _ _ k))
  have hh : (fun k : Fin 2048 => (iblk m c 1 t : Vec Ideal S1x1x1x2048 .f32) (ix4 0 0 0 k)) = fun k => aMod m c (ix2 (seq t) ⟨k.val, by omega⟩) :=
    funext fun k => (read_1 t _ k).trans ((congrFun (host_mod m c) _).trans (group_0 _ _ k))
  exact congrArg (fun z => modRow z _ _ n) hx |>.trans ((congrArg (fun z => modRow _ z _ n) hs).trans (congrArg (fun z => modRow _ _ z n) hh))

theorem col_tok (c : Dev nD) (t : Fin cfg0.N) (k : Fin 2048) (n : Fin 128) :
    (iblk m c 3 t : Vec Ideal S2048x128 .f32) (ix2 k n) = wcol (aW m c) k n :=
  (read_3 t _ k n).trans ((congrFun (host_w m c) _).trans (picked_at _ k n))

theorem final_h (c : Dev nD) : (dats m 0 c).arrAt 4 cfg0.N = hOut (aX m c) (aMod m c) := by
  refine (dats m 0 c).arrAt_eq_of_covers 4 _ (by decide +kernel) fun t hf y => ?_
  have e : y = ix3 (0 : Fin 1) (y 1) (y 2) := by
    funext q
    match q with
    | ⟨0, _⟩ => exact Subsingleton.elim (α := Fin 1) _ _
    | ⟨1, _⟩ => rfl
    | ⟨2, _⟩ => rfl
  rw [e]
  generalize y 1 = r
  generalize y 2 = n
  blk_simp
  rw [after0_4]
  frame_out
  refine ((h_at _ _ _ r n).trans (row_tok m c t r n)).trans ?_
  exact (congrArg (hOut (aX m c) (aMod m c)) (emb_4 t r n)).symm

theorem final_g (c : Dev nD) : (dats m 0 c).arrAt 5 cfg0.N = gOut (aX m c) (aMod m c) (aW m c) := by
  refine (dats m 0 c).arrAt_eq_of_covers 5 _ (by decide +kernel) fun t hf y => ?_
  have e : y = ix3 (0 : Fin 1) (y 1) (y 2) := by
    funext q
    match q with
    | ⟨0, _⟩ => exact Subsingleton.elim (α := Fin 1) _ _
    | ⟨1, _⟩ => rfl
    | ⟨2, _⟩ => rfl
  rw [e]
  generalize y 1 = r
  generalize y 2 = n
  blk_simp
  rw [after0_5]
  frame_out
  refine (g_at _ _ r n).trans ?_
  refine Eq.trans ?_ (congrArg (gOut (aX m c) (aMod m c) (aW m c)) (emb_5 t r n)).symm
  exact Finset.sum_congr rfl fun k _ => congrArg₂ (fun y z : EReal => y * z) (row_tok m c t r k) ((pay4_at _ k n).trans (col_tok m c t k n))

/-- The kernel's results and the reference's are the same rows and the same products. -/
theorem algebraic : Cert.algebraic_LnModIdeal_LnModRefIdeal := by
  intro m g m' g' _ hagree
  refine ⟨fun c => hOut (aX m c) (aMod m c), fun c => gOut (aX m c) (aMod m c) (aW m c), ?_, ?_⟩
  · exact (θ_run defs _ _).mono (fun r h c => ⟨(h c).1.trans (final_h m c), (h c).2.1.trans (final_g m c), (h c).2.2⟩)
      (Cert.LnModIdeal.Value.run_blocks m g)
  · refine (θ_run Cert.LnModRefIdeal.defs _ _).mono (fun r h c => ⟨(h c).1.trans ?_, (h c).2.1.trans ((LnModRef.res_eq m' c).trans ?_), (h c).2.2⟩)
      (Cert.LnModRefIdeal.Value.run m' g')
    · rw [(hagree c).1, (hagree c).2.1]
      funext j
      exact (congrArg (LnModRef.rOut (LnModRef.rDev (aX m c)) (aMod m c)) (show j = ix3 (j 0) (j 1) (j 2) from by
        funext q; match q with | ⟨0, _⟩ => rfl | ⟨1, _⟩ => rfl | ⟨2, _⟩ => rfl)).trans (LnModRef.row_eq _ _ (j 0) (j 1) (j 2))
    · rw [(hagree c).1, (hagree c).2.1, (hagree c).2.2]
      funext j
      refine (congrArg (fun z => LnModRef.rCols (LnModRef.rProj (LnModRef.rOut (LnModRef.rDev (aX m c)) (aMod m c)) (aW m c)) z) (show j = ix3 (j 0) (j 1) (j 2) from by
        funext q; match q with | ⟨0, _⟩ => rfl | ⟨1, _⟩ => rfl | ⟨2, _⟩ => rfl)).trans ((LnModRef.gate_at _ _ (j 0) (j 1) (j 2)).trans ?_)
      exact Finset.sum_congr rfl fun k _ => congrArg (fun z : EReal => z * wcol (aW m c) k (j 2)) (LnModRef.row_eq _ _ (j 0) (j 1) k)

end Cert.LnModValue

end
-- ==== Proof.PostRef.lean ====
/-
  What the norm after the mixers computes, element by element, and the reference's side: the residual sum of a row, its
  norm, and the modulated norm of that norm.
-/
module

public import proofs.«01_k».proof.Defs
public import proofs.«01_k».proof.Proof.Gen.PostRefIdeal.Run
public import Idealize.ShloMosaic.Lib.Pipeline.ValueKit
public import Idealize.ShloMosaic.Lib.Pointwise

@[expose] public section

set_option maxRecDepth 16384

noncomputable section

namespace Cert.PostRef

open Idealize.ShloMosaic Idealize.ShloMosaic.TcCoe Idealize.SL.Sem
open Cert.PostRefIdeal Cert.PostRefIdeal.Gen

/-! ## The layer's mathematics -/

/-- The mean of a row. -/
def mean (z : Fin 2048 → EReal) : EReal := Ideal.div (∑ k, z k) (Ideal.ofBits .f32 0x45000000#32)

/-- A row normalised, times a row of factors, plus a row of shifts. -/
def normRow (z g b : Fin 2048 → EReal) (n : Fin 2048) : EReal :=
  (z n - mean z) * Ideal.rsqrt (mean (fun k => (z k - mean z) * (z k - mean z)) + Ideal.ofBits .f32 0x3727C5AC#32) * g n + b n

/-- The residual sum of a row: the input scaled, plus the mixers' output gated. -/
def sumRow (x g y : Fin 2048 → EReal) (n : Fin 2048) : EReal := Ideal.ofBits .f32 0x3F9837F0#32 * x n + g n * y n

/-- The factors of a modulated norm. -/
def onePlus (s : Fin 2048 → EReal) (n : Fin 2048) : EReal := Ideal.ofBits .f32 0x3F800000#32 + s n

/-- The norm of a token's residual sum: the gate is the modulation's third group of columns. -/
def xrow (x y : Vec Ideal S2x4096x2048 .f32) (md : Vec Ideal S2x12288 .f32) (g b : Vec Ideal S2048 .f32) (p : Fin 2) (r : Fin 4096) :
    Fin 2048 → EReal :=
  normRow (sumRow (fun k => x (ix3 p r k)) (fun k => md (ix2 p ⟨4096 + k.val, by omega⟩)) (fun k => y (ix3 p r k)))
    (fun k => g (ix1 k)) (fun k => b (ix1 k))

/-- The modulated norm of that norm: the shift is the modulation's fourth group, the scale its fifth. -/
def hrow (x y : Vec Ideal S2x4096x2048 .f32) (md : Vec Ideal S2x12288 .f32) (g b : Vec Ideal S2048 .f32) (p : Fin 2) (r : Fin 4096) :
    Fin 2048 → EReal :=
  normRow (xrow x y md g b p r) (onePlus fun k => md (ix2 p ⟨8192 + k.val, by omega⟩)) (fun k => md (ix2 p ⟨6144 + k.val, by omega⟩))

/-- The norms of all tokens. -/
def xOut (x y : Vec Ideal S2x4096x2048 .f32) (md : Vec Ideal S2x12288 .f32) (g b : Vec Ideal S2048 .f32) : Vec Ideal S2x4096x2048 .f32 :=
  fun j => xrow x y md g b (j 0) (j 1) (j 2)

/-- Their modulated norms. -/
def hOut (x y : Vec Ideal S2x4096x2048 .f32) (md : Vec Ideal S2x12288 .f32) (g b : Vec Ideal S2048 .f32) : Vec Ideal S2x4096x2048 .f32 :=
  fun j => hrow x y md g b (j 0) (j 1) (j 2)

/-! ## The reference's terms -/

/-- The reference's residual sum. -/
def rSum (x y : Vec Ideal S2x4096x2048 .f32) (md : Vec Ideal S2x12288 .f32) : Vec Ideal S2x4096x2048 .f32 :=
  addf (F := Ideal) (φ := .f32) (mulf (broadcastInDim S2x4096x2048 ![] bcast_S_S2x4096x2048 (constant S_ .f32 0x3F9837F0#32)) x)
    (mulf (broadcastInDim S2x4096x2048 ![0, 1, 2] bcast_S2x1x2048_S2x4096x2048_0_1_2
      (broadcastInDim S2x1x2048 ![0, 2] bcast_S2x2048_S2x1x2048_0_2 (extractStridedSlice S2x2048 ![0, 4096] md slices_S2x12288_S2x2048_0_4096))) y)

/-- The reference's mean over the columns. -/
def rMean (z : Vec Ideal S2x4096x2048 .f32) : Vec Ideal S2x4096x1 .f32 :=
  Host.divf (F := Ideal) (φ := .f32) (broadcastInDim S2x4096x1 ![0, 1] bcast_S2x4096_S2x4096x1_0_1
      (Host.reduceAdd z (constant S_ .f32 0x00000000#32) reducesTo_S2x4096x2048_S2x4096_d2 h_S_))
    (broadcastInDim S2x4096x1 ![] bcast_S_S2x4096x1 (constant (F := Ideal) S_ .f32 0x45000000#32))

/-- The reference's deviation from the mean. -/
def rDev (z : Vec Ideal S2x4096x2048 .f32) : Vec Ideal S2x4096x2048 .f32 :=
  subf (F := Ideal) (φ := .f32) z (broadcastInDim S2x4096x2048 ![0, 1, 2] bcast_S2x4096x1_S2x4096x2048_0_1_2 (rMean z))

/-- The reference's deviation over the square root of the variance. -/
def rNorm (d : Vec Ideal S2x4096x2048 .f32) : Vec Ideal S2x4096x2048 .f32 :=
  mulf (F := Ideal) (φ := .f32) d (broadcastInDim S2x4096x2048 ![0, 1, 2] bcast_S2x4096x1_S2x4096x2048_0_1_2
    (Host.rsqrt (addf (rMean (mulf (F := Ideal) (φ := .f32) d d)) (broadcastInDim S2x4096x1 ![] bcast_S_S2x4096x1 (constant S_ .f32 0x3727C5AC#32)))))

/-- The reference's first norm from a deviation. -/
def rX (d : Vec Ideal S2x4096x2048 .f32) (g b : Vec Ideal S2048 .f32) : Vec Ideal S2x4096x2048 .f32 :=
  addf (F := Ideal) (φ := .f32) (mulf (rNorm d) (broadcastInDim S2x4096x2048 ![0, 1, 2] bcast_S1x1x2048_S2x4096x2048_0_1_2
      (broadcastInDim S1x1x2048 ![2] bcast_S2048_S1x1x2048_2 g)))
    (broadcastInDim S2x4096x2048 ![0, 1, 2] bcast_S1x1x2048_S2x4096x2048_0_1_2 (broadcastInDim S1x1x2048 ![2] bcast_S2048_S1x1x2048_2 b))

/-- The reference's modulated norm from a deviation. -/
def rH (d : Vec Ideal S2x4096x2048 .f32) (md : Vec Ideal S2x12288 .f32) : Vec Ideal S2x4096x2048 .f32 :=
  addf (F := Ideal) (φ := .f32) (mulf (rNorm d)
      (broadcastInDim S2x4096x2048 ![0, 1, 2] bcast_S2x1x2048_S2x4096x2048_0_1_2 (addf (broadcastInDim S2x1x2048 ![] bcast_S_S2x1x2048 (constant S_ .f32 0x3F800000#32))
        (broadcastInDim S2x1x2048 ![0, 2] bcast_S2x2048_S2x1x2048_0_2 (extractStridedSlice S2x2048 ![0, 8192] md slices_S2x12288_S2x2048_0_8192)))))
    (broadcastInDim S2x4096x2048 ![0, 1, 2] bcast_S2x1x2048_S2x4096x2048_0_1_2
      (broadcastInDim S2x1x2048 ![0, 2] bcast_S2x2048_S2x1x2048_0_2 (extractStridedSlice S2x2048 ![0, 6144] md slices_S2x12288_S2x2048_0_6144)))

/-- The reference's first norm from the arguments. -/
def rXof (x y : Vec Ideal S2x4096x2048 .f32) (md : Vec Ideal S2x12288 .f32) (g b : Vec Ideal S2048 .f32) : Vec Ideal S2x4096x2048 .f32 :=
  rX (rDev (rSum x y md)) g b

theorem res_x (m : (ℓ : Loc nD τ sig) → Buf (Elt Ideal) ℓ) (c : Dev nD) : Value.res_out0 m c
    = rXof (m ((c : Thread nD τ).loc main_arg0)) (m ((c : Thread nD τ).loc main_arg1)) (m ((c : Thread nD τ).loc main_arg2))
      (m ((c : Thread nD τ).loc main_arg3)) (m ((c : Thread nD τ).loc main_arg4)) := rfl

theorem res_h (m : (ℓ : Loc nD τ sig) → Buf (Elt Ideal) ℓ) (c : Dev nD) : Value.res_out1 m c
    = rH (rDev (rXof (m ((c : Thread nD τ).loc main_arg0)) (m ((c : Thread nD τ).loc main_arg1)) (m ((c : Thread nD τ).loc main_arg2))
      (m ((c : Thread nD τ).loc main_arg3)) (m ((c : Thread nD τ).loc main_arg4)))) (m ((c : Thread nD τ).loc main_arg2)) := rfl

theorem sum_at (x y : Vec Ideal S2x4096x2048 .f32) (md : Vec Ideal S2x12288 .f32) (p : Fin 2) (r : Fin 4096) (n : Fin 2048) :
    rSum x y md (ix3 p r n) = (Ideal.ofBits .f32 0x3F9837F0#32 * x (ix3 p r n) + md (ix2 p ⟨4096 + n.val, by omega⟩) * y (ix3 p r n) : EReal) := by
  pointwise [rSum]

theorem mean_at (z : Vec Ideal S2x4096x2048 .f32) (p : Fin 2) (r : Fin 4096) : rMean z (ix3 p r 0) = mean (fun k => z (ix3 p r k)) := by
  pointwise [rMean, mean]

theorem dev_at (z : Vec Ideal S2x4096x2048 .f32) (p : Fin 2) (r : Fin 4096) (n : Fin 2048) :
    rDev z (ix3 p r n) = (z (ix3 p r n) - mean (fun k => z (ix3 p r k)) : EReal) := by
  pointwise [rDev]
  rw [mean_at]

theorem norm_at (d : Vec Ideal S2x4096x2048 .f32) (p : Fin 2) (r : Fin 4096) (n : Fin 2048) :
    rNorm d (ix3 p r n) = (d (ix3 p r n) * Ideal.rsqrt (rMean (mulf (F := Ideal) (φ := .f32) d d) (ix3 p r 0) + Ideal.ofBits .f32 0x3727C5AC#32) : EReal) := by
  pointwise [rNorm]

/-- The reference's norm of a row, before its factors and shifts. -/
theorem normed (z : Vec Ideal S2x4096x2048 .f32) (p : Fin 2) (r : Fin 4096) (n : Fin 2048) :
    rNorm (rDev z) (ix3 p r n) = ((z (ix3 p r n) - mean (fun k => z (ix3 p r k)))
      * Ideal.rsqrt (mean (fun k => (z (ix3 p r k) - mean (fun k => z (ix3 p r k))) * (z (ix3 p r k) - mean (fun k => z (ix3 p r k))))
        + Ideal.ofBits .f32 0x3727C5AC#32) : EReal) := by
  have hm : rMean (mulf (F := Ideal) (φ := .f32) (rDev z) (rDev z)) (ix3 p r 0)
      = mean (fun k => ((z (ix3 p r k) - mean (fun k => z (ix3 p r k))) * (z (ix3 p r k) - mean (fun k => z (ix3 p r k))) : EReal)) :=
    (mean_at _ _ _).trans (congrArg mean (funext fun k => congrArg (fun z : EReal => z * z) (dev_at z p r k)))
  rw [norm_at, dev_at, hm]

theorem x_at (d : Vec Ideal S2x4096x2048 .f32) (g b : Vec Ideal S2048 .f32) (p : Fin 2) (r : Fin 4096) (n : Fin 2048) :
    rX d g b (ix3 p r n) = (rNorm d (ix3 p r n) * g (ix1 n) + b (ix1 n) : EReal) := by
  pointwise [rX]

theorem h_at (d : Vec Ideal S2x4096x2048 .f32) (md : Vec Ideal S2x12288 .f32) (p : Fin 2) (r : Fin 4096) (n : Fin 2048) :
    rH d md (ix3 p r n) = (rNorm d (ix3 p r n) * (Ideal.ofBits .f32 0x3F800000#32 + md (ix2 p ⟨8192 + n.val, by omega⟩))
      + md (ix2 p ⟨6144 + n.val, by omega⟩) : EReal) := by
  pointwise [rH]

/-- The reference's first norm is the layer's. -/
theorem x_eq (x y : Vec Ideal S2x4096x2048 .f32) (md : Vec Ideal S2x12288 .f32) (g b : Vec Ideal S2048 .f32) (p : Fin 2) (r : Fin 4096) (n : Fin 2048) :
    rXof x y md g b (ix3 p r n) = xrow x y md g b p r n := by
  have hz : (fun k => rSum x y md (ix3 p r k)) = sumRow (fun k => x (ix3 p r k)) (fun k => md (ix2 p ⟨4096 + k.val, by omega⟩)) (fun k => y (ix3 p r k)) :=
    funext fun k => sum_at x y md p r k
  refine (x_at _ g b p r n).trans ?_
  rw [normed]
  exact congrArg (fun z => normRow z (fun k => g (ix1 k)) (fun k => b (ix1 k)) n) hz

/-- The reference's modulated norm is the layer's. -/
theorem h_eq (x y : Vec Ideal S2x4096x2048 .f32) (md : Vec Ideal S2x12288 .f32) (g b : Vec Ideal S2048 .f32) (p : Fin 2) (r : Fin 4096) (n : Fin 2048) :
    rH (rDev (rXof x y md g b)) md (ix3 p r n) = hrow x y md g b p r n := by
  have hz : (fun k => rXof x y md g b (ix3 p r k)) = xrow x y md g b p r := funext fun k => x_eq x y md g b p r k
  refine (h_at _ md p r n).trans ?_
  rw [normed]
  exact congrArg (fun z => normRow z (onePlus fun k => md (ix2 p ⟨8192 + k.val, by omega⟩)) (fun k => md (ix2 p ⟨6144 + k.val, by omega⟩)) n) hz

end Cert.PostRef

end
-- ==== Proof.PostValue.lean ====
/-
  The norm after the mixers, and the second modulated norm.
-/
module

public import proofs.«01_k».proof.Defs
public import proofs.«01_k».proof.Proof.Gen.Post.Frame
public import proofs.«01_k».proof.Proof.Gen.PostIdeal.Value
public import proofs.«01_k».proof.Proof.Gen.PostRefIdeal.Run
public import proofs.«01_k».proof.Proof.PostRef
public import Idealize.ShloMosaic.Lib.Pipeline.ValueKit
public import Idealize.ShloMosaic.Lib.Pointwise

@[expose] public section

set_option maxRecDepth 16384

noncomputable section

namespace Cert.PostValue

open Idealize.ShloMosaic Idealize.ShloMosaic.TcCoe Idealize.SL.Sem
open Cert.PostIdeal Cert.PostIdeal.Gen
open PostRef (mean normRow sumRow onePlus xrow hrow xOut hOut)

/-! ## The payloads -/

theorem x_at (x : Vec Ideal S1x256x2048 .f32) (ga : Vec Ideal S1x1x1x2048 .f32) (y : Vec Ideal S1x256x2048 .f32) (g b : Vec Ideal S1x2048 .f32)
    (r : Fin 256) (n : Fin 2048) :
    k0_pay3 x ga y g b (ix2 r n) = normRow (sumRow (fun k => x (ix3 0 r k)) (fun k => ga (ix4 0 0 0 k)) (fun k => y (ix3 0 r k)))
      (fun k => g (ix2 0 k)) (fun k => b (ix2 0 k)) n := by
  pointwise [k0_pay3, normRow, sumRow, mean]

theorem x_out (z : FVec Ideal S256x2048 .f32) (r : Fin 256) (n : Fin 2048) : k0_pay4 z (ix3 0 r n) = z (ix2 r n) := by
  pointwise [k0_pay4]

theorem h_at (z : FVec Ideal S256x2048 .f32) (sc sh : Vec Ideal S1x1x1x2048 .f32) (r : Fin 256) (n : Fin 2048) :
    k0_pay5 z sc sh (ix2 r n) = normRow (fun k => z (ix2 r k)) (onePlus fun k => sc (ix4 0 0 0 k)) (fun k => sh (ix4 0 0 0 k)) n := by
  pointwise [k0_pay5, normRow, onePlus, mean]

theorem h_out (z : FVec Ideal S256x2048 .f32) (sc sh : Vec Ideal S1x1x1x2048 .f32) (r : Fin 256) (n : Fin 2048) :
    k0_pay6 z sc sh (ix3 0 r n) = k0_pay5 z sc sh (ix2 r n) := by
  unfold k0_pay6
  generalize k0_pay5 z sc sh = h
  pointwise

/-! What the body leaves in its first two output blocks, from any input blocks. -/

section Body
variable (x0 x1 : Vec Ideal S1x256x2048 .f32) (x2 x3 x4 : Vec Ideal S1x1x1x2048 .f32) (x5 x6 : Vec Ideal S1x2048 .f32)
  (x7 : Vec Ideal S2048x128 .f32) (x8 : Vec Ideal S1x128 .f32) (r : Fin 256) (n : Fin 2048)

theorem body_row : k0_pay28 x0 x1 x2 x3 x4 x5 x6 x7 x8 = k0_pay3 x0 x2 x1 x5 x6 := by
  unfold k0_pay28
  frame_out

theorem body_x : out0_9 x0 x1 x2 x3 x4 x5 x6 x7 x8 (ix3 0 r n) = k0_pay3 x0 x2 x1 x5 x6 (ix2 r n) := by
  unfold out0_9
  rw [body_row]
  frame_out
  exact x_out _ r n

theorem body_h : out0_10 x0 x1 x2 x3 x4 x5 x6 x7 x8 (ix3 0 r n) = k0_pay5 (k0_pay3 x0 x2 x1 x5 x6) x4 x3 (ix2 r n) := by
  unfold out0_10
  rw [body_row]
  frame_out
  exact h_out _ _ _ r n

end Body

/-! ## The windows' blocks -/

theorem idx_all : ∀ t : Fin grid0.N, win0_0.index t = ![t.val / 16, t.val % 16, 0] ∧ win0_1.index t = ![t.val / 16, t.val % 16, 0]
    ∧ win0_2.index t = ![t.val / 16, 2, 0, 0] ∧ win0_3.index t = ![t.val / 16, 3, 0, 0] ∧ win0_4.index t = ![t.val / 16, 4, 0, 0]
    ∧ win0_5.index t = ![0, 0] ∧ win0_6.index t = ![0, 0]
    ∧ win0_9.index t = ![t.val / 16, t.val % 16, 0] ∧ win0_10.index t = ![t.val / 16, t.val % 16, 0] := by decide +kernel

theorem point_lt (t : Fin grid0.N) : t.val < 32 := Nat.lt_of_lt_of_eq t.isLt (by decide +kernel)

/-- The sequence of a point, and the place in it of a row of the point's block. -/
def seq (t : Fin grid0.N) : Fin 2 := ⟨t.val / 16, by have := point_lt t; omega⟩
def place (t : Fin grid0.N) (r : Fin 256) : Fin 4096 := ⟨t.val % 16 * 256 + r.val, by omega⟩

section Block
variable (t : Fin cfg0.N)

theorem read_0 (f : Vec Ideal S2x4096x2048 .f32) (r : Fin 256) (k : Fin 2048) :
    ((((cfg0.win 0).blk t).view.read (Elt Ideal) f : Vec Ideal S1x256x2048 .f32) (ix3 0 r k) : EReal) = f (ix3 (seq t) (place t r) k) := by
  have e : (cfg0.win 0).index t = ![t.val / 16, t.val % 16, 0] := (idx_all t).1
  have r0 := Pipeline.Window.rect_emb_val (cfg0.win 0) t (ix3 0 r k) (0 : Fin 3)
  have r1 := Pipeline.Window.rect_emb_val (cfg0.win 0) t (ix3 0 r k) (1 : Fin 3)
  have r2 := Pipeline.Window.rect_emb_val (cfg0.win 0) t (ix3 0 r k) (2 : Fin 3)
  rw [e] at r0 r1 r2
  refine congrArg f ?_
  funext q
  refine Fin.ext ?_
  match q with
  | ⟨0, _⟩ => exact r0.trans (by show t.val / 16 * 1 + 0 = t.val / 16; omega)
  | ⟨1, _⟩ => exact r1.trans (by show t.val % 16 * 256 + r.val = t.val % 16 * 256 + r.val; omega)
  | ⟨2, _⟩ => exact r2.trans (by show 0 * 2048 + k.val = k.val; omega)

theorem read_1 (f : Vec Ideal S2x4096x2048 .f32) (r : Fin 256) (k : Fin 2048) :
    ((((cfg0.win 1).blk t).view.read (Elt Ideal) f : Vec Ideal S1x256x2048 .f32) (ix3 0 r k) : EReal) = f (ix3 (seq t) (place t r) k) := by
  have e : (cfg0.win 1).index t = ![t.val / 16, t.val % 16, 0] := (idx_all t).2.1
  have r0 := Pipeline.Window.rect_emb_val (cfg0.win 1) t (ix3 0 r k) (0 : Fin 3)
  have r1 := Pipeline.Window.rect_emb_val (cfg0.win 1) t (ix3 0 r k) (1 : Fin 3)
  have r2 := Pipeline.Window.rect_emb_val (cfg0.win 1) t (ix3 0 r k) (2 : Fin 3)
  rw [e] at r0 r1 r2
  refine congrArg f ?_
  funext q
  refine Fin.ext ?_
  match q with
  | ⟨0, _⟩ => exact r0.trans (by show t.val / 16 * 1 + 0 = t.val / 16; omega)
  | ⟨1, _⟩ => exact r1.trans (by show t.val % 16 * 256 + r.val = t.val % 16 * 256 + r.val; omega)
  | ⟨2, _⟩ => exact r2.trans (by show 0 * 2048 + k.val = k.val; omega)

theorem read_2 (f : Vec Ideal S2x6x1x2048 .f32) (k : Fin 2048) :
    ((((cfg0.win 2).blk t).view.read (Elt Ideal) f : Vec Ideal S1x1x1x2048 .f32) (ix4 0 0 0 k) : EReal) = f (ix4 (seq t) 2 0 k) := by
  have e : (cfg0.win 2).index t = ![t.val / 16, 2, 0, 0] := (idx_all t).2.2.1
  have r0 := Pipeline.Window.rect_emb_val (cfg0.win 2) t (ix4 0 0 0 k) (0 : Fin 4)
  have r1 := Pipeline.Window.rect_emb_val (cfg0.win 2) t (ix4 0 0 0 k) (1 : Fin 4)
  have r2 := Pipeline.Window.rect_emb_val (cfg0.win 2) t (ix4 0 0 0 k) (2 : Fin 4)
  have r3 := Pipeline.Window.rect_emb_val (cfg0.win 2) t (ix4 0 0 0 k) (3 : Fin 4)
  rw [e] at r0 r1 r2 r3
  refine congrArg f ?_
  funext q
  refine Fin.ext ?_
  match q with
  | ⟨0, _⟩ => exact r0.trans (by show t.val / 16 * 1 + 0 = t.val / 16; omega)
  | ⟨1, _⟩ => exact r1.trans (by show 2 * 1 + 0 = 2; omega)
  | ⟨2, _⟩ => exact r2.trans (by show 0 * 1 + 0 = 0; omega)
  | ⟨3, _⟩ => exact r3.trans (by show 0 * 2048 + k.val = k.val; omega)

theorem read_3 (f : Vec Ideal S2x6x1x2048 .f32) (k : Fin 2048) :
    ((((cfg0.win 3).blk t).view.read (Elt Ideal) f : Vec Ideal S1x1x1x2048 .f32) (ix4 0 0 0 k) : EReal) = f (ix4 (seq t) 3 0 k) := by
  have e : (cfg0.win 3).index t = ![t.val / 16, 3, 0, 0] := (idx_all t).2.2.2.1
  have r0 := Pipeline.Window.rect_emb_val (cfg0.win 3) t (ix4 0 0 0 k) (0 : Fin 4)
  have r1 := Pipeline.Window.rect_emb_val (cfg0.win 3) t (ix4 0 0 0 k) (1 : Fin 4)
  have r2 := Pipeline.Window.rect_emb_val (cfg0.win 3) t (ix4 0 0 0 k) (2 : Fin 4)
  have r3 := Pipeline.Window.rect_emb_val (cfg0.win 3) t (ix4 0 0 0 k) (3 : Fin 4)
  rw [e] at r0 r1 r2 r3
  refine congrArg f ?_
  funext q
  refine Fin.ext ?_
  match q with
  | ⟨0, _⟩ => exact r0.trans (by show t.val / 16 * 1 + 0 = t.val / 16; omega)
  | ⟨1, _⟩ => exact r1.trans (by show 3 * 1 + 0 = 3; omega)
  | ⟨2, _⟩ => exact r2.trans (by show 0 * 1 + 0 = 0; omega)
  | ⟨3, _⟩ => exact r3.trans (by show 0 * 2048 + k.val = k.val; omega)

theorem read_4 (f : Vec Ideal S2x6x1x2048 .f32) (k : Fin 2048) :
    ((((cfg0.win 4).blk t).view.read (Elt Ideal) f : Vec Ideal S1x1x1x2048 .f32) (ix4 0 0 0 k) : EReal) = f (ix4 (seq t) 4 0 k) := by
  have e : (cfg0.win 4).index t = ![t.val / 16, 4, 0, 0] := (idx_all t).2.2.2.2.1
  have r0 := Pipeline.Window.rect_emb_val (cfg0.win 4) t (ix4 0 0 0 k) (0 : Fin 4)
  have r1 := Pipeline.Window.rect_emb_val (cfg0.win 4) t (ix4 0 0 0 k) (1 : Fin 4)
  have r2 := Pipeline.Window.rect_emb_val (cfg0.win 4) t (ix4 0 0 0 k) (2 : Fin 4)
  have r3 := Pipeline.Window.rect_emb_val (cfg0.win 4) t (ix4 0 0 0 k) (3 : Fin 4)
  rw [e] at r0 r1 r2 r3
  refine congrArg f ?_
  funext q
  refine Fin.ext ?_
  match q with
  | ⟨0, _⟩ => exact r0.trans (by show t.val / 16 * 1 + 0 = t.val / 16; omega)
  | ⟨1, _⟩ => exact r1.trans (by show 4 * 1 + 0 = 4; omega)
  | ⟨2, _⟩ => exact r2.trans (by show 0 * 1 + 0 = 0; omega)
  | ⟨3, _⟩ => exact r3.trans (by show 0 * 2048 + k.val = k.val; omega)

theorem read_5 (f : Vec Ideal S1x2048 .f32) (k : Fin 2048) :
    ((((cfg0.win 5).blk t).view.read (Elt Ideal) f : Vec Ideal S1x2048 .f32) (ix2 0 k) : EReal) = f (ix2 0 k) := by
  have e : (cfg0.win 5).index t = ![0, 0] := (idx_all t).2.2.2.2.2.1
  have r0 := Pipeline.Window.rect_emb_val (cfg0.win 5) t (ix2 0 k) (0 : Fin 2)
  have r1 := Pipeline.Window.rect_emb_val (cfg0.win 5) t (ix2 0 k) (1 : Fin 2)
  rw [e] at r0 r1
  refine congrArg f ?_
  funext q
  refine Fin.ext ?_
  match q with
  | ⟨0, _⟩ => exact r0.trans (by show 0 * 1 + 0 = 0; omega)
  | ⟨1, _⟩ => exact r1.trans (by show 0 * 2048 + k.val = k.val; omega)

theorem read_6 (f : Vec Ideal S1x2048 .f32) (k : Fin 2048) :
    ((((cfg0.win 6).blk t).view.read (Elt Ideal) f : Vec Ideal S1x2048 .f32) (ix2 0 k) : EReal) = f (ix2 0 k) := by
  have e : (cfg0.win 6).index t = ![0, 0] := (idx_all t).2.2.2.2.2.2.1
  have r0 := Pipeline.Window.rect_emb_val (cfg0.win 6) t (ix2 0 k) (0 : Fin 2)
  have r1 := Pipeline.Window.rect_emb_val (cfg0.win 6) t (ix2 0 k) (1 : Fin 2)
  rw [e] at r0 r1
  refine congrArg f ?_
  funext q
  refine Fin.ext ?_
  match q with
  | ⟨0, _⟩ => exact r0.trans (by show 0 * 1 + 0 = 0; omega)
  | ⟨1, _⟩ => exact r1.trans (by show 0 * 2048 + k.val = k.val; omega)

theorem emb_9 (r : Fin 256) (k : Fin 2048) : (((cfg0.win 9).blk t).view.emb (ix3 0 r k) : S2x4096x2048.Idx) = ix3 (seq t) (place t r) k := by
  have e : (cfg0.win 9).index t = ![t.val / 16, t.val % 16, 0] := (idx_all t).2.2.2.2.2.2.2.1
  have r0 := Pipeline.Window.rect_emb_val (cfg0.win 9) t (ix3 0 r k) (0 : Fin 3)
  have r1 := Pipeline.Window.rect_emb_val (cfg0.win 9) t (ix3 0 r k) (1 : Fin 3)
  have r2 := Pipeline.Window.rect_emb_val (cfg0.win 9) t (ix3 0 r k) (2 : Fin 3)
  rw [e] at r0 r1 r2
  funext q
  refine Fin.ext ?_
  match q with
  | ⟨0, _⟩ => exact r0.trans (by show t.val / 16 * 1 + 0 = t.val / 16; omega)
  | ⟨1, _⟩ => exact r1.trans (by show t.val % 16 * 256 + r.val = t.val % 16 * 256 + r.val; omega)
  | ⟨2, _⟩ => exact r2.trans (by show 0 * 2048 + k.val = k.val; omega)

theorem emb_10 (r : Fin 256) (k : Fin 2048) : (((cfg0.win 10).blk t).view.emb (ix3 0 r k) : S2x4096x2048.Idx) = ix3 (seq t) (place t r) k := by
  have e : (cfg0.win 10).index t = ![t.val / 16, t.val % 16, 0] := (idx_all t).2.2.2.2.2.2.2.2
  have r0 := Pipeline.Window.rect_emb_val (cfg0.win 10) t (ix3 0 r k) (0 : Fin 3)
  have r1 := Pipeline.Window.rect_emb_val (cfg0.win 10) t (ix3 0 r k) (1 : Fin 3)
  have r2 := Pipeline.Window.rect_emb_val (cfg0.win 10) t (ix3 0 r k) (2 : Fin 3)
  rw [e] at r0 r1 r2
  funext q
  refine Fin.ext ?_
  match q with
  | ⟨0, _⟩ => exact r0.trans (by show t.val / 16 * 1 + 0 = t.val / 16; omega)
  | ⟨1, _⟩ => exact r1.trans (by show t.val % 16 * 256 + r.val = t.val % 16 * 256 + r.val; omega)
  | ⟨2, _⟩ => exact r2.trans (by show 0 * 2048 + k.val = k.val; omega)

end Block

/-! ## What the host lines leave the windows -/

variable (m : (ℓ : Loc nD τ sig) → Buf (Elt Ideal) ℓ)

/-- The arguments. -/
abbrev aX (c : Dev nD) : Vec Ideal S2x4096x2048 .f32 := m ((c : Thread nD τ).loc main_arg0)
abbrev aMix (c : Dev nD) : Vec Ideal S2x4096x2048 .f32 := m ((c : Thread nD τ).loc main_arg1)
abbrev aMod (c : Dev nD) : Vec Ideal S2x12288 .f32 := m ((c : Thread nD τ).loc main_arg2)
abbrev aG (c : Dev nD) : Vec Ideal S2048 .f32 := m ((c : Thread nD τ).loc main_arg3)
abbrev aB (c : Dev nD) : Vec Ideal S2048 .f32 := m ((c : Thread nD τ).loc main_arg4)

/-! The modulation by groups, read in three of them. -/

theorem group_2 (md : Vec Ideal S2x12288 .f32) (p : Fin 2) (k : Fin 2048) :
    shapeCast S2x6x1x2048 md shapeCasts_S2x12288_S2x6x1x2048 (ix4 p 2 0 k) = md (ix2 p ⟨4096 + k.val, by omega⟩) := by
  pointwise

theorem group_3 (md : Vec Ideal S2x12288 .f32) (p : Fin 2) (k : Fin 2048) :
    shapeCast S2x6x1x2048 md shapeCasts_S2x12288_S2x6x1x2048 (ix4 p 3 0 k) = md (ix2 p ⟨6144 + k.val, by omega⟩) := by
  pointwise

theorem group_4 (md : Vec Ideal S2x12288 .f32) (p : Fin 2) (k : Fin 2048) :
    shapeCast S2x6x1x2048 md shapeCasts_S2x12288_S2x6x1x2048 (ix4 p 4 0 k) = md (ix2 p ⟨8192 + k.val, by omega⟩) := by
  pointwise

theorem as_row (g : Vec Ideal S2048 .f32) (k : Fin 2048) : shapeCast S1x2048 g shapeCasts_S2048_S1x2048 (ix2 0 k) = g (ix1 k) := by
  pointwise

theorem host_mod (c : Dev nD) : (V m c main_v0 : Vec Ideal S2x6x1x2048 .f32) = shapeCast S2x6x1x2048 (aMod m c) shapeCasts_S2x12288_S2x6x1x2048 := by
  show StableHlo.after hostOps0 (fun b => m (c, b)) main_v0 = _
  after_results <;> rfl

theorem host_g (c : Dev nD) : (V m c main_v6 : Vec Ideal S1x2048 .f32) = shapeCast S1x2048 (aG m c) shapeCasts_S2048_S1x2048 := by
  show StableHlo.after hostOps0 (fun b => m (c, b)) main_v6 = _
  after_results <;> rfl

theorem host_b (c : Dev nD) : (V m c main_v7 : Vec Ideal S1x2048 .f32) = shapeCast S1x2048 (aB m c) shapeCasts_S2048_S1x2048 := by
  show StableHlo.after hostOps0 (fun b => m (c, b)) main_v7 = _
  after_results <;> rfl

/-! ## The arrays after the run -/

/-- The body's normalised row at a point is the layer's. -/
theorem x_tok (c : Dev nD) (t : Fin cfg0.N) (r : Fin 256) (n : Fin 2048) :
    k0_pay3 (iblk m c 0 t) (iblk m c 2 t) (iblk m c 1 t) (iblk m c 5 t) (iblk m c 6 t) (ix2 r n)
      = xrow (aX m c) (aMix m c) (aMod m c) (aG m c) (aB m c) (seq t) (place t r) n := by
  refine (x_at _ _ _ _ _ r n).trans ?_
  have hx : (fun k : Fin 2048 => (iblk m c 0 t : Vec Ideal S1x256x2048 .f32) (ix3 0 r k)) = fun k => aX m c (ix3 (seq t) (place t r) k) :=
    funext fun k => (read_0 t _ r k).trans (congrFun (V_main_arg0 m c) _)
  have hy : (fun k : Fin 2048 => (iblk m c 1 t : Vec Ideal S1x256x2048 .f32) (ix3 0 r k)) = fun k => aMix m c (ix3 (seq t) (place t r) k) :=
    funext fun k => (read_1 t _ r k).trans (congrFun (V_main_arg1 m c) _)
  have hs : (fun k : Fin 2048 => (iblk m c 2 t : Vec Ideal S1x1x1x2048 .f32) (ix4 0 0 0 k)) = fun k => aMod m c (ix2 (seq t) ⟨4096 + k.val, by omega⟩) :=
    funext fun k => (read_2 t _ k).trans ((congrFun (host_mod m c) _).trans (group_2 _ _ k))
  have hg : (fun k : Fin 2048 => (iblk m c 5 t : Vec Ideal S1x2048 .f32) (ix2 0 k)) = fun k => aG m c (ix1 k) :=
    funext fun k => (read_5 t _ k).trans ((congrFun (host_g m c) _).trans (as_row _ k))
  have hb : (fun k : Fin 2048 => (iblk m c 6 t : Vec Ideal S1x2048 .f32) (ix2 0 k)) = fun k => aB m c (ix1 k) :=
    funext fun k => (read_6 t _ k).trans ((congrFun (host_b m c) _).trans (as_row _ k))
  refine (congrArg (fun z => normRow (sumRow z _ _) _ _ n) hx).trans ?_
  refine (congrArg (fun z => normRow (sumRow _ z _) _ _ n) hs).trans ?_
  refine (congrArg (fun z => normRow (sumRow _ _ z) _ _ n) hy).trans ?_
  exact (congrArg (fun z => normRow _ z _ n) hg).trans (congrArg (fun z => normRow _ _ z n) hb)

/-- The body's modulated row at a point is the layer's. -/
theorem h_tok (c : Dev nD) (t : Fin cfg0.N) (r : Fin 256) (n : Fin 2048) :
    k0_pay5 (k0_pay3 (iblk m c 0 t) (iblk m c 2 t) (iblk m c 1 t) (iblk m c 5 t) (iblk m c 6 t)) (iblk m c 4 t) (iblk m c 3 t) (ix2 r n)
      = hrow (aX m c) (aMix m c) (aMod m c) (aG m c) (aB m c) (seq t) (place t r) n := by
  refine (h_at _ _ _ r n).trans ?_
  have hs : (fun k : Fin 2048 => (iblk m c 4 t : Vec Ideal S1x1x1x2048 .f32) (ix4 0 0 0 k)) = fun k => aMod m c (ix2 (seq t) ⟨8192 + k.val, by omega⟩) :=
    funext fun k => (read_4 t _ k).trans ((congrFun (host_mod m c) _).trans (group_4 _ _ k))
  have hh : (fun k : Fin 2048 => (iblk m c 3 t : Vec Ideal S1x1x1x2048 .f32) (ix4 0 0 0 k)) = fun k => aMod m c (ix2 (seq t) ⟨6144 + k.val, by omega⟩) :=
    funext fun k => (read_3 t _ k).trans ((congrFun (host_mod m c) _).trans (group_3 _ _ k))
  refine (congrArg (fun z => normRow z _ _ n) (funext fun k => x_tok m c t r k)).trans ?_
  exact (congrArg (fun z => normRow _ (onePlus z) _ n) hs).trans (congrArg (fun z => normRow _ _ z n) hh)

theorem final_x (c : Dev nD) : (dats m 0 c).arrAt 9 cfg0.N = xOut (aX m c) (aMix m c) (aMod m c) (aG m c) (aB m c) := by
  refine (dats m 0 c).arrAt_eq_of_covers 9 _ (by decide +kernel) fun t hf y => ?_
  have e : y = ix3 (0 : Fin 1) (y 1) (y 2) := by
    funext q
    match q with
    | ⟨0, _⟩ => exact Subsingleton.elim (α := Fin 1) _ _
    | ⟨1, _⟩ => rfl
    | ⟨2, _⟩ => rfl
  rw [e]
  generalize y 1 = r
  generalize y 2 = n
  blk_simp
  rw [after0_9]
  refine ((body_x _ _ _ _ _ _ _ _ _ r n).trans (x_tok m c t r n)).trans ?_
  exact (congrArg (xOut (aX m c) (aMix m c) (aMod m c) (aG m c) (aB m c)) (emb_9 t r n)).symm

theorem final_h (c : Dev nD) : (dats m 0 c).arrAt 10 cfg0.N = hOut (aX m c) (aMix m c) (aMod m c) (aG m c) (aB m c) := by
  refine (dats m 0 c).arrAt_eq_of_covers 10 _ (by decide +kernel) fun t hf y => ?_
  have e : y = ix3 (0 : Fin 1) (y 1) (y 2) := by
    funext q
    match q with
    | ⟨0, _⟩ => exact Subsingleton.elim (α := Fin 1) _ _
    | ⟨1, _⟩ => rfl
    | ⟨2, _⟩ => rfl
  rw [e]
  generalize y 1 = r
  generalize y 2 = n
  blk_simp
  rw [after0_10]
  refine ((body_h _ _ _ _ _ _ _ _ _ r n).trans (h_tok m c t r n)).trans ?_
  exact (congrArg (hOut (aX m c) (aMix m c) (aMod m c) (aG m c) (aB m c)) (emb_10 t r n)).symm

/-- The kernel's first two results are the reference's: the same norms and the same modulated norms. -/
theorem algebraic : Cert.algebraic_PostIdeal_PostRefIdeal := by
  intro m g m' g' _ hagree
  refine ⟨fun c => xOut (aX m c) (aMix m c) (aMod m c) (aG m c) (aB m c), fun c => hOut (aX m c) (aMix m c) (aMod m c) (aG m c) (aB m c), ?_, ?_⟩
  · exact (θ_run defs _ _).mono (fun r h c => ⟨(h c).1.trans (final_x m c), (h c).2.1.trans (final_h m c), (h c).2.2.2.2⟩)
      (Cert.PostIdeal.Value.run_blocks m g)
  · refine (θ_run Cert.PostRefIdeal.defs _ _).mono (fun r h c => ⟨(h c).1.trans ((PostRef.res_x m' c).trans ?_),
        (h c).2.1.trans ((PostRef.res_h m' c).trans ?_), (h c).2.2⟩)
      (Cert.PostRefIdeal.Value.run m' g')
    · rw [(hagree c).1, (hagree c).2.1, (hagree c).2.2.1, (hagree c).2.2.2.1, (hagree c).2.2.2.2.1]
      funext j
      exact (congrArg (PostRef.rXof (aX m c) (aMix m c) (aMod m c) (aG m c) (aB m c)) (show j = ix3 (j 0) (j 1) (j 2) from by
        funext q; match q with | ⟨0, _⟩ => rfl | ⟨1, _⟩ => rfl | ⟨2, _⟩ => rfl)).trans (PostRef.x_eq _ _ _ _ _ (j 0) (j 1) (j 2))
    · rw [(hagree c).1, (hagree c).2.1, (hagree c).2.2.1, (hagree c).2.2.2.1, (hagree c).2.2.2.2.1]
      funext j
      exact (congrArg (PostRef.rH (PostRef.rDev (PostRef.rXof (aX m c) (aMix m c) (aMod m c) (aG m c) (aB m c))) (aMod m c))
        (show j = ix3 (j 0) (j 1) (j 2) from by
          funext q; match q with | ⟨0, _⟩ => rfl | ⟨1, _⟩ => rfl | ⟨2, _⟩ => rfl)).trans (PostRef.h_eq _ _ _ _ _ (j 0) (j 1) (j 2))

end Cert.PostValue

end
-- ==== Proof.lean ====
module

public import proofs.«01_k».proof.Defs
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.MergeIdeal.Value
public import proofs.«01_k».proof.Proof.Gen.MergeRefIdeal.Run
public import proofs.«01_k».proof.Proof.Gen.InProjIdeal.Value
public import proofs.«01_k».proof.Proof.Gen.InProjRefIdeal.Run
public import proofs.«01_k».proof.Proof.Gen.OutProjIdeal.Value
public import proofs.«01_k».proof.Proof.Gen.OutProjRefIdeal.Run
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.Pre_tables
public import proofs.«01_k».proof.Proof.MergeValue
public import proofs.«01_k».proof.Proof.InProjValue
public import proofs.«01_k».proof.Proof.OutProjValue
public import proofs.«01_k».proof.Proof.ExpertsPreB
public import proofs.«01_k».proof.Proof.ExpertsPreI
public import proofs.«01_k».proof.Proof.ExpertsValue
public import proofs.«01_k».proof.Proof.Gen.Combine
public import proofs.«01_k».proof.Proof.Gen.CombineIdeal
public import proofs.«01_k».proof.Proof.Gen.CombineRefIdeal
public import proofs.«01_k».proof.Proof.Gen.CombineRefIdeal.Run
public import proofs.«01_k».proof.Proof.Gen.Pre_positions
public import proofs.«01_k».proof.Proof.CombinePreB
public import proofs.«01_k».proof.Proof.CombinePreI
public import proofs.«01_k».proof.Proof.CombineValue
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.Gen.AdaRefIdeal.Run
public import proofs.«01_k».proof.Proof.Gen.AdaIdeal.Value
public import proofs.«01_k».proof.Proof.AdaValue
public import proofs.«01_k».proof.Proof.Gen.LnMod
public import proofs.«01_k».proof.Proof.Gen.LnMod.Skeleton
public import proofs.«01_k».proof.Proof.Gen.LnMod.Launch
public import proofs.«01_k».proof.Proof.Gen.LnMod.Points
public import proofs.«01_k».proof.Proof.Gen.LnMod.Frame
public import proofs.«01_k».proof.Proof.Gen.LnModIdeal
public import proofs.«01_k».proof.Proof.Gen.LnModIdeal.Skeleton
public import proofs.«01_k».proof.Proof.Gen.LnModIdeal.Launch
public import proofs.«01_k».proof.Proof.Gen.LnModIdeal.Points
public import proofs.«01_k».proof.Proof.Gen.LnModIdeal.Frame
public import proofs.«01_k».proof.Proof.Gen.LnModRefIdeal
public import proofs.«01_k».proof.Proof.Gen.LnModRefIdeal.Run
public import proofs.«01_k».proof.Proof.Gen.LnModIdeal.Value
public import proofs.«01_k».proof.Proof.LnModValue
public import proofs.«01_k».proof.Proof.Gen.Post
public import proofs.«01_k».proof.Proof.Gen.Post.Skeleton
public import proofs.«01_k».proof.Proof.Gen.Post.Launch
public import proofs.«01_k».proof.Proof.Gen.Post.Points
public import proofs.«01_k».proof.Proof.Gen.Post.Frame
public import proofs.«01_k».proof.Proof.Gen.PostIdeal
public import proofs.«01_k».proof.Proof.Gen.PostIdeal.Skeleton
public import proofs.«01_k».proof.Proof.Gen.PostIdeal.Launch
public import proofs.«01_k».proof.Proof.Gen.PostIdeal.Points
public import proofs.«01_k».proof.Proof.Gen.PostIdeal.Frame
public import proofs.«01_k».proof.Proof.Gen.PostRefIdeal
public import proofs.«01_k».proof.Proof.Gen.PostRefIdeal.Run
public import proofs.«01_k».proof.Proof.Gen.PostIdeal.Value
public import proofs.«01_k».proof.Proof.PostValue
public import Idealize.ShloMosaic.Lib.Quiescent
public import Idealize.ShloMosaic.Adequacy
public import Idealize.ShloMosaic.Init

@[expose] public section

noncomputable section

namespace Cert.Proof

open Idealize.ShloMosaic Idealize.SL.Sem Cert.Merge

/-- The reference `MergeRefIdeal` is host operations alone: it runs, leaves its arguments, and has no semaphore. -/
theorem frame_MergeRef : Cert.quiescent_MergeRefIdeal := fun m g _ =>
  (θ_run Cert.MergeRefIdeal.defs _ _).mono (fun _ h => ⟨fun c => (h c).2, sem_eq_zero_of_no_sems (by decide) _⟩)
    (Cert.MergeRefIdeal.Value.run m g)

/-- The reference `InProjRefIdeal` is host operations alone: it runs, leaves its arguments, and has no semaphore. -/
theorem frame_InProjRef : Cert.quiescent_InProjRefIdeal := fun m g _ =>
  (θ_run Cert.InProjRefIdeal.defs _ _).mono (fun _ h => ⟨fun c => (h c).2, sem_eq_zero_of_no_sems (by decide) _⟩)
    (Cert.InProjRefIdeal.Value.run m g)

/-- The reference `OutProjRefIdeal` is host operations alone: it runs, leaves its arguments, and has no semaphore. -/
theorem frame_OutProjRef : Cert.quiescent_OutProjRefIdeal := fun m g _ =>
  (θ_run Cert.OutProjRefIdeal.defs _ _).mono (fun _ h => ⟨fun c => (h c).2, sem_eq_zero_of_no_sems (by decide) _⟩)
    (Cert.OutProjRefIdeal.Value.run m g)

/-- The experts' kernel over the words, at tables in range. -/
theorem frame_Experts : Cert.quiescent_Experts := fun m g hpre =>
  have hT : Cert.Experts.Own.Tab m := fun c => Cert.Experts.Own.ranges_of _ _ _ _ _ _ _ (hpre c)
  Cert.Experts.Own.frame m g (Cert.Experts.Own.ok_of m hT) (Cert.Experts.Own.starts_of m hT)

/-- The idealized kernel of the experts, at tables in range. -/
theorem frame_ExpertsIdeal : Cert.quiescent_ExpertsIdeal := fun m g hpre =>
  have hT : Cert.ExpertsIdeal.Own.Tab m := fun c => Cert.ExpertsIdeal.Own.ranges_of _ _ _ _ _ _ _ (hpre c)
  Cert.ExpertsIdeal.Own.frame m g (Cert.ExpertsIdeal.Own.ok_of m hT) (Cert.ExpertsIdeal.Own.starts_of m hT)

/-- The reference `ExpertsRefIdeal` is host operations alone: it runs, leaves its arguments, and has no semaphore. -/
theorem frame_ExpertsRef : Cert.quiescent_ExpertsRefIdeal := fun m g _ =>
  (θ_run Cert.ExpertsRefIdeal.defs _ _).mono (fun _ h => ⟨fun c => (h c).2, sem_eq_zero_of_no_sems (by decide) _⟩)
    (Cert.ExpertsRefIdeal.Value.run m g)

/-- The combination's kernel over the words, at positions in range. -/
theorem frame_Combine : Cert.quiescent_Combine := fun m g hpre =>
  Cert.Combine.Own.frame m g (Cert.Combine.Own.in_range m (Cert.Combine.Own.range_of _ _ _ _ _ _ _ (hpre 0)))

/-- The idealized kernel of the combination, at positions in range. -/
theorem frame_CombineIdeal : Cert.quiescent_CombineIdeal := fun m g hpre =>
  Cert.CombineIdeal.Own.frame m g (Cert.CombineIdeal.Own.in_range m (Cert.CombineIdeal.Own.range_of _ _ _ _ _ _ _ (hpre 0)))

/-- The reference `CombineRefIdeal` is host operations alone: it runs, leaves its arguments, and has no semaphore. -/
theorem frame_CombineRef : Cert.quiescent_CombineRefIdeal := fun m g _ =>
  (θ_run Cert.CombineRefIdeal.defs _ _).mono (fun _ h => ⟨fun c => (h c).2, sem_eq_zero_of_no_sems (by decide) _⟩)
    (Cert.CombineRefIdeal.Value.run m g)

/-- The reference `AdaRefIdeal` is host operations alone: it runs, leaves its arguments, and has no semaphore. -/
theorem frame_AdaRef : Cert.quiescent_AdaRefIdeal := fun m g _ =>
  (θ_run Cert.AdaRefIdeal.defs _ _).mono (fun _ h => ⟨fun c => (h c).2, sem_eq_zero_of_no_sems (by decide) _⟩)
    (Cert.AdaRefIdeal.Value.run m g)

/-- The reference `LnModRefIdeal` is host operations alone: it runs, leaves its arguments, and has no semaphore. -/
theorem frame_LnModRef : Cert.quiescent_LnModRefIdeal := fun m g _ =>
  (θ_run Cert.LnModRefIdeal.defs _ _).mono (fun _ h => ⟨fun c => (h c).2.2, sem_eq_zero_of_no_sems (by decide) _⟩)
    (Cert.LnModRefIdeal.Value.run m g)

/-- The reference `PostRefIdeal` is host operations alone: it runs, leaves its arguments, and has no semaphore. -/
theorem frame_PostRef : Cert.quiescent_PostRefIdeal := fun m g _ =>
  (θ_run Cert.PostRefIdeal.defs _ _).mono (fun _ h => ⟨fun c => (h c).2.2, sem_eq_zero_of_no_sems (by decide) _⟩)
    (Cert.PostRefIdeal.Value.run m g)

theorem claim : Cert.Claim := ⟨Cert.Merge.Gen.facts, Cert.MergeIdeal.Gen.facts, Cert.MergeRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.Experts.Gen.facts, Cert.ExpertsIdeal.Gen.facts, Cert.ExpertsRefIdeal.Gen.facts, Cert.Combine.Gen.facts, Cert.CombineIdeal.Gen.facts, Cert.CombineRefIdeal.Gen.facts, Cert.Ada.Gen.facts, Cert.AdaIdeal.Gen.facts, Cert.AdaRefIdeal.Gen.facts, Cert.LnMod.Gen.facts, Cert.LnModIdeal.Gen.facts, Cert.LnModRefIdeal.Gen.facts, Cert.Post.Gen.facts, Cert.PostIdeal.Gen.facts, Cert.PostRefIdeal.Gen.facts, Cert.Pre_tables.Gen.facts, Cert.Pre_positions.Gen.facts,
  fun m g _ => Cert.Merge.Gen.frame m g,
  fun m g _ => Cert.MergeIdeal.Gen.frame m g,
  frame_MergeRef,
  fun m g _ => Cert.InProj.Gen.frame m g,
  fun m g _ => Cert.InProjIdeal.Gen.frame m g,
  frame_InProjRef,
  fun m g _ => Cert.OutProj.Gen.frame m g,
  fun m g _ => Cert.OutProjIdeal.Gen.frame m g,
  frame_OutProjRef,
  frame_Experts,
  frame_ExpertsIdeal,
  frame_ExpertsRef,
  frame_Combine,
  frame_CombineIdeal,
  frame_CombineRef,
  fun m g _ => Cert.Ada.Gen.frame m g,
  fun m g _ => Cert.AdaIdeal.Gen.frame m g,
  frame_AdaRef,
  fun m g _ => Cert.LnMod.Gen.frame m g,
  fun m g _ => Cert.LnModIdeal.Gen.frame m g,
  frame_LnModRef,
  fun m g _ => Cert.Post.Gen.frame m g,
  fun m g _ => Cert.PostIdeal.Gen.frame m g,
  frame_PostRef,
  trivial,
  Cert.MergeValue.algebraic,
  trivial,
  Cert.InProjValue.algebraic,
  trivial,
  Cert.OutProjValue.algebraic,
  trivial,
  Cert.ExpertsValue.algebraic,
  trivial,
  Cert.CombineValue.algebraic,
  trivial,
  Cert.AdaValue.algebraic,
  trivial,
  Cert.LnModValue.algebraic,
  trivial,
  Cert.PostValue.algebraic⟩

end Cert.Proof

end
